-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_peak [hPre_finite_peak : Cert.Pre_finite_peak.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_peak.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_peak [hPre_finite_peak : Cert.Pre_finite_peak.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_peak.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Kernel4Ideal_pre_finite_peak [hKernel4Ideal : Cert.Kernel4Ideal.Facts] [hPre_finite_peak : Cert.Pre_finite_peak.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_peak m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def quiescent_Reference4Ideal_pre_finite_peak [hReference4Ideal : Cert.Reference4Ideal.Facts] [hPre_finite_peak : Cert.Pre_finite_peak.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_peak m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v53)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v53) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v53_0)) (v1 : (c : Dev Cert.Kernel3Ideal.nD) → Buf (Elt Ideal) ((c.tc : Thread Cert.Kernel3Ideal.nD Cert.Kernel3Ideal.τ).loc Cert.Kernel3Ideal.main_v53_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v53_0) = v0 c
          ∧ r.2.mem ((c.tc : Thread Cert.Kernel3Ideal.nD Cert.Kernel3Ideal.τ).loc Cert.Kernel3Ideal.main_v53_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v24) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite_peak [hKernel4Ideal : Cert.Kernel4Ideal.Facts] [hReference4Ideal : Cert.Reference4Ideal.Facts] [hPre_finite_peak : Cert.Pre_finite_peak.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_peak m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v84_0)) (v1 : (c : Dev Cert.Kernel4Ideal.nD) → Buf (Elt Ideal) ((c.tc : Thread Cert.Kernel4Ideal.nD Cert.Kernel4Ideal.τ).loc Cert.Kernel4Ideal.main_v84_1)) (v2 : (c : Dev Cert.Kernel4Ideal.nD) → Buf (Elt Ideal) ((c.tc : Thread Cert.Kernel4Ideal.nD Cert.Kernel4Ideal.τ).loc Cert.Kernel4Ideal.main_v84_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v84_0) = v0 c
          ∧ r.2.mem ((c.tc : Thread Cert.Kernel4Ideal.nD Cert.Kernel4Ideal.τ).loc Cert.Kernel4Ideal.main_v84_1) = v1 c
          ∧ r.2.mem ((c.tc : Thread Cert.Kernel4Ideal.nD Cert.Kernel4Ideal.τ).loc Cert.Kernel4Ideal.main_v84_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v64) = v0 c
          ∧ r.2.mem ((c.tc : Thread Cert.Reference4Ideal.nD Cert.Reference4Ideal.τ).loc Cert.Reference4Ideal.main_v73) = v1 c
          ∧ r.2.mem ((c.tc : Thread Cert.Reference4Ideal.nD Cert.Reference4Ideal.τ).loc Cert.Reference4Ideal.main_v79) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_bounded : Cert.Pre_bounded.Facts) (hPre_finite_peak : Cert.Pre_finite_peak.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_peak (hKernel4Ideal := hKernel4Ideal) (hPre_finite_peak := hPre_finite_peak)
    ∧ quiescent_Reference4Ideal (hReference4Ideal := hReference4Ideal)
    ∧ quiescent_Reference4Ideal_pre_finite_peak (hReference4Ideal := hReference4Ideal) (hPre_finite_peak := hPre_finite_peak)
    ∧ preserves_Kernel_KernelIdeal
    ∧ algebraic_KernelIdeal_ReferenceIdeal_pre_bounded (hKernelIdeal := hKernelIdeal) (hReferenceIdeal := hReferenceIdeal) (hPre_bounded := hPre_bounded)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_peak (hKernel4Ideal := hKernel4Ideal) (hReference4Ideal := hReference4Ideal) (hPre_finite_peak := hPre_finite_peak)
-- ==== Pre_bounded.lean ====
abbrev S16x2048x7680 : Shape := ⟨3, ![16, 2048, 7680]⟩
abbrev S8 : Shape := ⟨1, ![8]⟩
abbrev S16x2048x640 : Shape := ⟨3, ![16, 2048, 640]⟩
abbrev S1x1x8 : Shape := ⟨3, ![1, 1, 8]⟩
abbrev S16x2048x8 : Shape := ⟨3, ![16, 2048, 8]⟩
abbrev S16x2048x648 : Shape := ⟨3, ![16, 2048, 648]⟩
abbrev S_ : Shape := ⟨0, ![]⟩

class Facts : Prop where
  slices_S16x2048x7680_S16x2048x640_0_0_3840 : S16x2048x7680.Slices ![0, 0, 3840] S16x2048x640
  bcast_S8_S1x1x8_2 : S8.BroadcastsInDim S1x1x8 (![2] : Fin 1 → Fin S1x1x8.rank)
  bcast_S1x1x8_S16x2048x8_0_1_2 : S1x1x8.BroadcastsInDim S16x2048x8 (![0, 1, 2] : Fin 3 → Fin S16x2048x8.rank)
  concatenates_S16x2048x640_S16x2048x8_S16x2048x648_d2 : Shape.Concatenates [S16x2048x640, S16x2048x8] S16x2048x648 2
  bcast_S_S16x2048x648 : S_.BroadcastsInDim S16x2048x648 (![] : Fin 0 → Fin S16x2048x648.rank)

variable [Facts]

def fn {F : FTy → Type} [FloatOps F] (main_arg0 : FVec F S16x2048x7680 .f32) (main_arg1 : FVec F S8 .f32) : IVec S16x2048x648 1 :=
  let main_v0 : FVec F S16x2048x640 .f32 := (extractStridedSlice S16x2048x640 ![0, 0, 3840] · slices_S16x2048x7680_S16x2048x640_0_0_3840) main_arg0
  let main_v1 : FVec F S16x2048x640 .f32 := Host.absf main_v0
  let main_v2 : FVec F S1x1x8 .f32 := broadcastInDim S1x1x8 ![2] bcast_S8_S1x1x8_2 main_arg1
  let main_v3 : FVec F S16x2048x8 .f32 := broadcastInDim S16x2048x8 ![0, 1, 2] bcast_S1x1x8_S16x2048x8_0_1_2 main_v2
  let main_v4 : FVec F S16x2048x648 .f32 := (fun a b => concatenate S16x2048x648 2 [⟨S16x2048x640, a⟩, ⟨S16x2048x8, b⟩] concatenates_S16x2048x640_S16x2048x8_S16x2048x648_d2) main_v1 main_v3
  let main_cst : FVec F S_ .f32 := constant S_ .f32 0x7F800000#32
  let main_v5 : FVec F S16x2048x648 .f32 := broadcastInDim S16x2048x648 ![] bcast_S_S16x2048x648 main_cst
  let main_v6 : IVec S16x2048x648 1 := cmpf .olt main_v4 main_v5
  main_v6
-- ==== Pre_finite_peak.lean ====
abbrev S3x16x4x2048x64 : Shape := ⟨5, ![3, 16, 4, 2048, 64]⟩
abbrev S3x16x4x2048 : Shape := ⟨4, ![3, 16, 4, 2048]⟩
abbrev S16x2048x512 : Shape := ⟨3, ![16, 2048, 512]⟩
abbrev S16x2048x6144 : Shape := ⟨3, ![16, 2048, 6144]⟩
abbrev S16x2048x1024 : Shape := ⟨3, ![16, 2048, 1024]⟩
abbrev S16x1x1024 : Shape := ⟨3, ![16, 1, 1024]⟩
abbrev S1024 : Shape := ⟨1, ![1024]⟩
abbrev S256x1024 : Shape := ⟨2, ![256, 1024]⟩
abbrev S512x1024 : Shape := ⟨2, ![512, 1024]⟩
abbrev S1024x1024 : Shape := ⟨2, ![1024, 1024]⟩
abbrev S_ : Shape := ⟨0, ![]⟩
abbrev S16x4x2048 : Shape := ⟨3, ![16, 4, 2048]⟩

class Facts : Prop where
  reducesTo_S3x16x4x2048_S16x4x2048_d0 : S3x16x4x2048.ReducesTo [0] S16x4x2048
  h_S_ : 0 < S_.numel
  bcast_S_S16x4x2048 : S_.BroadcastsInDim S16x4x2048 (![] : Fin 0 → Fin S16x4x2048.rank)

variable [Facts]

def fn {F : FTy → Type} [FloatOps F] (main_arg0 : FVec F S3x16x4x2048x64 .f32) (main_arg1 : FVec F S3x16x4x2048 .f32) (main_arg2 : FVec F S16x2048x512 .bf16) (main_arg3 : FVec F S16x2048x512 .bf16) (main_arg4 : FVec F S16x2048x6144 .bf16) (main_arg5 : FVec F S16x2048x1024 .f32) (main_arg6 : FVec F S16x1x1024 .f32) (main_arg7 : FVec F S16x1x1024 .f32) (main_arg8 : FVec F S16x1x1024 .f32) (main_arg9 : FVec F S1024 .f32) (main_arg10 : FVec F S1024 .f32) (main_arg11 : FVec F S256x1024 .f32) (main_arg12 : FVec F S512x1024 .f32) (main_arg13 : FVec F S512x1024 .f32) (main_arg14 : FVec F S1024x1024 .f32) : IVec S16x4x2048 1 :=
  let main_cst : FVec F S_ .f32 := constant S_ .f32 0xFF800000#32
  let main_v0 : FVec F S16x4x2048 .f32 := (fun x v => Host.reduce FloatOps.maximumf x v reducesTo_S3x16x4x2048_S16x4x2048_d0 h_S_) main_arg1 main_cst
  let main_v1 : FVec F S16x4x2048 .f32 := Host.absf main_v0
  let main_cst_0 : FVec F S_ .f32 := constant S_ .f32 0x7F800000#32
  let main_v2 : FVec F S16x4x2048 .f32 := broadcastInDim S16x4x2048 ![] bcast_S_S16x4x2048 main_cst_0
  let main_v3 : IVec S16x4x2048 1 := cmpf .olt main_v1 main_v2
  main_v3
-- ==== Kernel.lean ====
abbrev S16x2048x7680 : Shape := ⟨3, ![16, 2048, 7680]⟩
abbrev S8 : Shape := ⟨1, ![8]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S128 : Shape := ⟨1, ![128]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S1x128 : Shape := ⟨2, ![1, 128]⟩
abbrev S32768x7680 : Shape := ⟨2, ![32768, 7680]⟩
abbrev S32768x768 : Shape := ⟨2, ![32768, 768]⟩
abbrev S32768x1536 : Shape := ⟨2, ![32768, 1536]⟩
abbrev S32768x512 : Shape := ⟨2, ![32768, 512]⟩
abbrev S32768x256 : Shape := ⟨2, ![32768, 256]⟩
abbrev S32768x3072 : Shape := ⟨2, ![32768, 3072]⟩
abbrev S64 : Shape := ⟨1, ![64]⟩
abbrev S512 : Shape := ⟨1, ![512]⟩
abbrev S512x1 : Shape := ⟨2, ![512, 1]⟩
abbrev S32768x6144 : Shape := ⟨2, ![32768, 6144]⟩
abbrev S16x2048x6144 : Shape := ⟨3, ![16, 2048, 6144]⟩
abbrev S8x1 : Shape := ⟨2, ![8, 1]⟩
abbrev S8x128 : Shape := ⟨2, ![8, 128]⟩
abbrev S16x2048x512 : Shape := ⟨3, ![16, 2048, 512]⟩
abbrev S1x2048x768 : Shape := ⟨3, ![1, 2048, 768]⟩
abbrev S1x2048x512 : Shape := ⟨3, ![1, 2048, 512]⟩
abbrev S4x2048x128 : Shape := ⟨3, ![4, 2048, 128]⟩
abbrev S2304x128 : Shape := ⟨2, ![2304, 128]⟩
abbrev S128x128 : Shape := ⟨2, ![128, 128]⟩
abbrev S1x2048x128 : Shape := ⟨3, ![1, 2048, 128]⟩
abbrev S1x1 : Shape := ⟨2, ![1, 1]⟩
abbrev S128x1 : Shape := ⟨2, ![128, 1]⟩
abbrev S384x128 : Shape := ⟨2, ![384, 128]⟩
abbrev S1x128x128 : Shape := ⟨3, ![1, 128, 128]⟩
abbrev S512x128 : Shape := ⟨2, ![512, 128]⟩
abbrev S1x384 : Shape := ⟨2, ![1, 384]⟩
abbrev S512x384 : Shape := ⟨2, ![512, 384]⟩

abbrev nBuf : Space → Nat
  | .hbm => 132
  | .vmem => 10
  | .smem => 0
  | _ => 0

abbrev hbmTy0_0 (i : Nat) : BufTy := match i % 128 with
  | 0 => ⟨S16x2048x7680, .f32⟩
  | 1 => ⟨S8, .f32⟩
  | 2 => ⟨S2048, .f32⟩
  | 3 => ⟨S32, .f32⟩
  | 4 => ⟨S_, .f32⟩
  | 5 => ⟨S32, .f32⟩
  | 6 => ⟨S32, .f32⟩
  | 7 => ⟨S_, .f32⟩
  | 8 => ⟨S32, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S2048x1, .f32⟩
  | 18 => ⟨S1x32, .f32⟩
  | 19 => ⟨S2048x32, .f32⟩
  | 20 => ⟨S2048x32, .f32⟩
  | 21 => ⟨S2048x32, .f32⟩
  | 22 => ⟨S128, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S128, .i32⟩
  | 30 => ⟨S128, .i32⟩
  | 31 => ⟨S_, .i32⟩
  | 32 => ⟨S128, .i32⟩
  | 33 => ⟨S128, .i1⟩
  | 34 => ⟨S_, .i32⟩
  | 35 => ⟨S128, .i32⟩
  | 36 => ⟨S128, .i1⟩
  | 37 => ⟨S_, .i32⟩
  | 38 => ⟨S_, .i1⟩
  | 39 => ⟨S128, .i1⟩
  | 40 => ⟨S128, .i1⟩
  | 41 => ⟨S128, .i1⟩
  | 42 => ⟨S128, .i32⟩
  | 43 => ⟨S128, .i32⟩
  | 44 => ⟨S128, .i32⟩
  | 45 => ⟨S_, .i32⟩
  | 46 => ⟨S128, .i32⟩
  | 47 => ⟨S128, .i1⟩
  | 48 => ⟨S_, .f32⟩
  | 49 => ⟨S_, .f32⟩
  | 50 => ⟨S128, .f32⟩
  | 51 => ⟨S128, .f32⟩
  | 52 => ⟨S128, .f32⟩
  | 53 => ⟨S128, .f32⟩
  | 54 => ⟨S2048x32, .f32⟩
  | 55 => ⟨S1x2048x1x32, .f32⟩
  | 56 => ⟨S1x2048x4x32, .f32⟩
  | 57 => ⟨S2048x128, .f32⟩
  | 58 => ⟨S2048x32, .f32⟩
  | 59 => ⟨S1x2048x1x32, .f32⟩
  | 60 => ⟨S1x2048x4x32, .f32⟩
  | 61 => ⟨S2048x128, .f32⟩
  | 62 => ⟨S1x128, .f32⟩
  | 63 => ⟨S2048x128, .f32⟩
  | 64 => ⟨S2048x128, .f32⟩
  | 65 => ⟨S32768x7680, .f32⟩
  | 66 => ⟨S32768x768, .f32⟩
  | 67 => ⟨S32768x768, .f32⟩
  | 68 => ⟨S32768x768, .f32⟩
  | 69 => ⟨S32768x1536, .f32⟩
  | 70 => ⟨S32768x512, .f32⟩
  | 71 => ⟨S32768x256, .f32⟩
  | 72 => ⟨S32768x3072, .f32⟩
  | 73 => ⟨S32768x256, .f32⟩
  | 74 => ⟨S32768x256, .f32⟩
  | 75 => ⟨S32768x256, .f32⟩
  | 76 => ⟨S32768x768, .f32⟩
  | 77 => ⟨S32768x256, .f32⟩
  | 78 => ⟨S32768x256, .f32⟩
  | 79 => ⟨S32768x256, .f32⟩
  | 80 => ⟨S32768x768, .f32⟩
  | 81 => ⟨S32768x256, .f32⟩
  | 82 => ⟨S32768x256, .f32⟩
  | 83 => ⟨S32768x256, .f32⟩
  | 84 => ⟨S32768x768, .f32⟩
  | 85 => ⟨S64, .i32⟩
  | 86 => ⟨S64, .i32⟩
  | 87 => ⟨S_, .i32⟩
  | 88 => ⟨S64, .i32⟩
  | 89 => ⟨S64, .i32⟩
  | 90 => ⟨S64, .i32⟩
  | 91 => ⟨S_, .i32⟩
  | 92 => ⟨S64, .i32⟩
  | 93 => ⟨S64, .i32⟩
  | 94 => ⟨S64, .i32⟩
  | 95 => ⟨S_, .i32⟩
  | 96 => ⟨S64, .i32⟩
  | 97 => ⟨S64, .i32⟩
  | 98 => ⟨S64, .i32⟩
  | 99 => ⟨S_, .i32⟩
  | 100 => ⟨S64, .i32⟩
  | 101 => ⟨S64, .i32⟩
  | 102 => ⟨S64, .i32⟩
  | 103 => ⟨S_, .i32⟩
  | 104 => ⟨S64, .i32⟩
  | 105 => ⟨S64, .i32⟩
  | 106 => ⟨S64, .i32⟩
  | 107 => ⟨S_, .i32⟩
  | 108 => ⟨S64, .i32⟩
  | 109 => ⟨S64, .i32⟩
  | 110 => ⟨S64, .i32⟩
  | 111 => ⟨S_, .i32⟩
  | 112 => ⟨S64, .i32⟩
  | 113 => ⟨S64, .i32⟩
  | 114 => ⟨S512, .i32⟩
  | 115 => ⟨S_, .i32⟩
  | 116 => ⟨S512, .i32⟩
  | 117 => ⟨S512, .i1⟩
  | 118 => ⟨S_, .i32⟩
  | 119 => ⟨S512, .i32⟩
  | 120 => ⟨S512, .i32⟩
  | 121 => ⟨S512, .i32⟩
  | 122 => ⟨S512x1, .i32⟩
  | 123 => ⟨S32768x512, .f32⟩
  | 124 => ⟨S32768x6144, .f32⟩
  | 125 => ⟨S32768x6144, .bf16⟩
  | 126 => ⟨S32768x1536, .f32⟩
  | 127 => ⟨S32768x1536, .bf16⟩
  | _ => ⟨S16x2048x7680, .f32⟩

abbrev hbmTy0_1 (i : Nat) : BufTy := match i % 128 with
  | 0 => ⟨S16x2048x6144, .bf16⟩
  | 1 => ⟨S8x1, .f32⟩
  | 2 => ⟨S8x128, .f32⟩
  | 3 => ⟨S16x2048x512, .bf16⟩
  | _ => ⟨S16x2048x7680, .f32⟩

abbrev hbmTy (i : Nat) : BufTy := match i / 128 with
  | 0 => hbmTy0_0 i
  | 1 => hbmTy0_1 i
  | _ => ⟨S16x2048x7680, .f32⟩

abbrev bufTy : (tb : Table) → Fin (tcTables nBuf tb) → BufTy
  | .hbm, ⟨i, _⟩ => hbmTy i
  | .local _ .vmem, ⟨0, _⟩ => ⟨S1x2048x768, .bf16⟩
  | .local _ .vmem, ⟨1, _⟩ => ⟨S1x2048x768, .bf16⟩
  | .local _ .vmem, ⟨2, _⟩ => ⟨S2048x128, .f32⟩
  | .local _ .vmem, ⟨3, _⟩ => ⟨S2048x128, .f32⟩
  | .local _ .vmem, ⟨4, _⟩ => ⟨S8x128, .f32⟩
  | .local _ .vmem, ⟨5, _⟩ => ⟨S1x2048x512, .bf16⟩
  | .local _ .vmem, ⟨6, _⟩ => ⟨S1x2048x512, .bf16⟩
  | .local _ .vmem, ⟨7, _⟩ => ⟨S4x2048x128, .bf16⟩
  | .local _ .vmem, ⟨8, _⟩ => ⟨S2304x128, .bf16⟩
  | .local _ .vmem, ⟨9, _⟩ => ⟨S2304x128, .bf16⟩
  | _, _ => ⟨S16x2048x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_1 : Ref sig .tc := ⟨.hbm, 31, rfl⟩
abbrev main_call0_v5 : Ref sig .tc := ⟨.hbm, 32, rfl⟩
abbrev main_call0_v6 : Ref sig .tc := ⟨.hbm, 33, rfl⟩
abbrev main_call0_c_2 : Ref sig .tc := ⟨.hbm, 34, rfl⟩
abbrev main_call0_v7 : Ref sig .tc := ⟨.hbm, 35, rfl⟩
abbrev main_call0_v8 : Ref sig .tc := ⟨.hbm, 36, rfl⟩
abbrev main_call0_c_3 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_v17 : Ref sig .tc := ⟨.hbm, 44, rfl⟩
abbrev main_c_3 : Ref sig .tc := ⟨.hbm, 45, rfl⟩
abbrev main_v18 : Ref sig .tc := ⟨.hbm, 46, rfl⟩
abbrev main_v19 : Ref sig .tc := ⟨.hbm, 47, rfl⟩
abbrev main_cst_4 : Ref sig .tc := ⟨.hbm, 48, rfl⟩
abbrev main_cst_5 : Ref sig .tc := ⟨.hbm, 49, rfl⟩
abbrev main_call1_v0 : Ref sig .tc := ⟨.hbm, 50, rfl⟩
abbrev main_call1_v1 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_6 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_c_7 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_8 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_9 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_10 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_11 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_12 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_c_13 : Ref sig .tc := ⟨.hbm, 115, rfl⟩
abbrev main_v76 : Ref sig .tc := ⟨.hbm, 116, rfl⟩
abbrev main_v77 : Ref sig .tc := ⟨.hbm, 117, rfl⟩
abbrev main_c_14 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def k0_mult1 : BitVec 32 :=
  let c0_i32_66 : BitVec 32 := 0#32
  let c128_i32 : BitVec 32 := 128#32
  let v161 : BitVec 32 := Scalar.muli c0_i32_66 c128_i32
  v161
def k0_off1 (c0_i32_66 : BitVec 32) : Fin 2 → Nat :=
  let c128_i32 : BitVec 32 := 128#32
  let v161 : BitVec 32 := Scalar.muli c0_i32_66 c128_i32
  let v162 : BitVec 32 := v161
  let v163 : Index := Scalar.indexCast v162
  let c0_67 : Index := 0#32
  ![v163.toNat, 0]
def k0_off2 (c0_i32_66 : BitVec 32) : Fin 3 → Nat :=
  let c0_69 : Index := 0#32
  let c128_i32 : BitVec 32 := 128#32
  let v161 : BitVec 32 := Scalar.muli c0_i32_66 c128_i32
  let v162 : BitVec 32 := v161
  let v167 : Index := Scalar.indexCast v162
  let c0_70 : Index := 0#32
  ![0, v167.toNat, 0]
def k0_off3 (c0_i32_66 : BitVec 32) : Fin 3 → Nat :=
  let c1_71 : Index := 1#32
  let c128_i32 : BitVec 32 := 128#32
  let v161 : BitVec 32 := Scalar.muli c0_i32_66 c128_i32
  let v162 : BitVec 32 := v161
  let v170 : Index := Scalar.indexCast v162
  let c0_72 : Index := 0#32
  ![1, v170.toNat, 0]
def k0_off4 (c0_i32_66 : BitVec 32) : Fin 3 → Nat :=
  let c2_73 : Index := 2#32
  let c128_i32 : BitVec 32 := 128#32
  let v161 : BitVec 32 := Scalar.muli c0_i32_66 c128_i32
  let v162 : BitVec 32 := v161
  let v173 : Index := Scalar.indexCast v162
  let c0_74 : Index := 0#32
  ![2, v173.toNat, 0]
def k0_off5 (c0_i32_66 : BitVec 32) : Fin 3 → Nat :=
  let c3_75 : Index := 3#32
  let c128_i32 : BitVec 32 := 128#32
  let v161 : BitVec 32 := Scalar.muli c0_i32_66 c128_i32
  let v162 : BitVec 32 := v161
  let v176 : Index := Scalar.indexCast v162
  let c0_76 : Index := 0#32
  ![3, v176.toNat, 0]
def k0_off6 (c0_i32_66 : BitVec 32) : Fin 3 → Nat :=
  let c0_93 : Index := 0#32
  let c128_i32 : BitVec 32 := 128#32
  let v161 : BitVec 32 := Scalar.muli c0_i32_66 c128_i32
  let v162 : BitVec 32 := v161
  let v252 : Index := Scalar.indexCast v162
  let c0_94 : Index := 0#32
  ![0, v252.toNat, 0]
def k0_off7 (c0_i32_66 : BitVec 32) : Fin 3 → Nat :=
  let c0_95 : Index := 0#32
  let c128_i32 : BitVec 32 := 128#32
  let v161 : BitVec 32 := Scalar.muli c0_i32_66 c128_i32
  let v162 : BitVec 32 := v161
  let v257 : Index := Scalar.indexCast v162
  let c128_96 : Index := 128#32
  ![0, v257.toNat, 128]
def k0_off8 (c0_i32_66 : BitVec 32) : Fin 3 → Nat :=
  let c0_97 : Index := 0#32
  let c128_i32 : BitVec 32 := 128#32
  let v161 : BitVec 32 := Scalar.muli c0_i32_66 c128_i32
  let v162 : BitVec 32 := v161
  let v262 : Index := Scalar.indexCast v162
  let c256_98 : Index := 256#32
  ![0, v262.toNat, 256]
def k0_off9 (c0_i32_66 : BitVec 32) : Fin 3 → Nat :=
  let c0_99 : Index := 0#32
  let c128_i32 : BitVec 32 := 128#32
  let v161 : BitVec 32 := Scalar.muli c0_i32_66 c128_i32
  let v162 : BitVec 32 := v161
  let v267 : Index := Scalar.indexCast v162
  let c384_100 : Index := 384#32
  ![0, v267.toNat, 384]
def k0_mult2 : BitVec 32 :=
  let c1_i32_101 : BitVec 32 := 1#32
  let c128_i32_102 : BitVec 32 := 128#32
  let v271 : BitVec 32 := Scalar.muli c1_i32_101 c128_i32_102
  v271
def k0_mult3 : BitVec 32 :=
  let c2_i32 : BitVec 32 := 2#32
  let c128_i32_140 : BitVec 32 := 128#32
  let v381 : BitVec 32 := Scalar.muli c2_i32 c128_i32_140
  v381
def k0_mult4 : BitVec 32 :=
  let c3_i32 : BitVec 32 := 3#32
  let c128_i32_178 : BitVec 32 := 128#32
  let v491 : BitVec 32 := Scalar.muli c3_i32 c128_i32_178
  v491
def k0_mult5 : BitVec 32 :=
  let c4_i32 : BitVec 32 := 4#32
  let c128_i32_216 : BitVec 32 := 128#32
  let v601 : BitVec 32 := Scalar.muli c4_i32 c128_i32_216
  v601
def k0_mult6 : BitVec 32 :=
  let c5_i32 : BitVec 32 := 5#32
  let c128_i32_254 : BitVec 32 := 128#32
  let v711 : BitVec 32 := Scalar.muli c5_i32 c128_i32_254
  v711
def k0_mult7 : BitVec 32 :=
  let c6_i32 : BitVec 32 := 6#32
  let c128_i32_292 : BitVec 32 := 128#32
  let v821 : BitVec 32 := Scalar.muli c6_i32 c128_i32_292
  v821
def k0_mult8 : BitVec 32 :=
  let c7_i32 : BitVec 32 := 7#32
  let c128_i32_330 : BitVec 32 := 128#32
  let v931 : BitVec 32 := Scalar.muli c7_i32 c128_i32_330
  v931
def k0_mult9 : BitVec 32 :=
  let c8_i32 : BitVec 32 := 8#32
  let c128_i32_368 : BitVec 32 := 128#32
  let v1041 : BitVec 32 := Scalar.muli c8_i32 c128_i32_368
  v1041
def k0_mult10 : BitVec 32 :=
  let c9_i32 : BitVec 32 := 9#32
  let c128_i32_406 : BitVec 32 := 128#32
  let v1151 : BitVec 32 := Scalar.muli c9_i32 c128_i32_406
  v1151
def k0_mult11 : BitVec 32 :=
  let c10_i32 : BitVec 32 := 10#32
  let c128_i32_444 : BitVec 32 := 128#32
  let v1261 : BitVec 32 := Scalar.muli c10_i32 c128_i32_444
  v1261
def k0_mult12 : BitVec 32 :=
  let c11_i32 : BitVec 32 := 11#32
  let c128_i32_482 : BitVec 32 := 128#32
  let v1371 : BitVec 32 := Scalar.muli c11_i32 c128_i32_482
  v1371
def k0_mult13 : BitVec 32 :=
  let c12_i32 : BitVec 32 := 12#32
  let c128_i32_520 : BitVec 32 := 128#32
  let v1481 : BitVec 32 := Scalar.muli c12_i32 c128_i32_520
  v1481
def k0_mult14 : BitVec 32 :=
  let c13_i32 : BitVec 32 := 13#32
  let c128_i32_558 : BitVec 32 := 128#32
  let v1591 : BitVec 32 := Scalar.muli c13_i32 c128_i32_558
  v1591
def k0_mult15 : BitVec 32 :=
  let c14_i32 : BitVec 32 := 14#32
  let c128_i32_596 : BitVec 32 := 128#32
  let v1701 : BitVec 32 := Scalar.muli c14_i32 c128_i32_596
  v1701
def k0_mult16 : BitVec 32 :=
  let c15_i32 : BitVec 32 := 15#32
  let c128_i32_634 : BitVec 32 := 128#32
  let v1811 : BitVec 32 := Scalar.muli c15_i32 c128_i32_634
  v1811
def cc0_transform_0 (i : grid0.Coords) : Fin 3 → Nat :=
  let arg0 : BitVec 32 := BitVec.ofNat 32 (i 0).val
  let c0_i32 : BitVec 32 := 0#32
  let c7_i32 : BitVec 32 := 7#32
  let c0_i32_0 : BitVec 32 := 0#32
  ![arg0.toNat, c0_i32.toNat, c7_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x2048x7680 : Shape := ⟨3, ![16, 2048, 7680]⟩
abbrev S8 : Shape := ⟨1, ![8]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S16x2048x512 : Shape := ⟨3, ![16, 2048, 512]⟩
abbrev S16x2048x128 : Shape := ⟨3, ![16, 2048, 128]⟩
abbrev S16x2048x8x64 : Shape := ⟨4, ![16, 2048, 8, 64]⟩
abbrev S16x8x2048x64 : Shape := ⟨4, ![16, 8, 2048, 64]⟩
abbrev S16x8x2048x32 : Shape := ⟨4, ![16, 8, 2048, 32]⟩
abbrev S1x1x2048x32 : Shape := ⟨4, ![1, 1, 2048, 32]⟩
abbrev S16x2048x2x64 : Shape := ⟨4, ![16, 2048, 2, 64]⟩
abbrev S16x2x2048x64 : Shape := ⟨4, ![16, 2, 2048, 64]⟩
abbrev S16x2x2048x32 : Shape := ⟨4, ![16, 2, 2048, 32]⟩
abbrev S16x2x4x2048x64 : Shape := ⟨5, ![16, 2, 4, 2048, 64]⟩
abbrev S2x4 : Shape := ⟨2, ![2, 4]⟩
abbrev S16x2x2304x64 : Shape := ⟨4, ![16, 2, 2304, 64]⟩
abbrev S16x2x18x128x64 : Shape := ⟨5, ![16, 2, 18, 128, 64]⟩
abbrev S16x2x16x128x64 : Shape := ⟨5, ![16, 2, 16, 128, 64]⟩
abbrev S16x2x16x384x64 : Shape := ⟨5, ![16, 2, 16, 384, 64]⟩
abbrev S16x2x4x16x128x64 : Shape := ⟨6, ![16, 2, 4, 16, 128, 64]⟩
abbrev S16x128 : Shape := ⟨2, ![16, 128]⟩
abbrev S16 : Shape := ⟨1, ![16]⟩
abbrev S16x1 : Shape := ⟨2, ![16, 1]⟩
abbrev S384 : Shape := ⟨1, ![384]⟩
abbrev S1x384 : Shape := ⟨2, ![1, 384]⟩
abbrev S16x384 : Shape := ⟨2, ![16, 384]⟩
abbrev S16x128x1 : Shape := ⟨3, ![16, 128, 1]⟩
abbrev S16x1x384 : Shape := ⟨3, ![16, 1, 384]⟩
abbrev S16x128x384 : Shape := ⟨3, ![16, 128, 384]⟩
abbrev S16x2x16x384x4x128 : Shape := ⟨6, ![16, 2, 16, 384, 4, 128]⟩
abbrev S16x2x4x16x128x384 : Shape := ⟨6, ![16, 2, 4, 16, 128, 384]⟩
abbrev S16x2x4x16x128 : Shape := ⟨5, ![16, 2, 4, 16, 128]⟩
abbrev S16x2x4x16x128x1 : Shape := ⟨6, ![16, 2, 4, 16, 128, 1]⟩
abbrev S1x2x4x1x1x1 : Shape := ⟨6, ![1, 2, 4, 1, 1, 1]⟩
abbrev S16x2x16x64x4x128 : Shape := ⟨6, ![16, 2, 16, 64, 4, 128]⟩
abbrev S16x2048x4x2x64 : Shape := ⟨5, ![16, 2048, 4, 2, 64]⟩

abbrev nBuf : Space → Nat
  | .hbm => 176
  | .vmem => 0
  | .smem => 0
  | _ => 0

abbrev hbmTy0_0 (i : Nat) : BufTy := match i % 128 with
  | 0 => ⟨S16x2048x7680, .f32⟩
  | 1 => ⟨S8, .f32⟩
  | 2 => ⟨S2048, .f32⟩
  | 3 => ⟨S32, .f32⟩
  | 4 => ⟨S_, .f32⟩
  | 5 => ⟨S32, .f32⟩
  | 6 => ⟨S32, .f32⟩
  | 7 => ⟨S_, .f32⟩
  | 8 => ⟨S32, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S2048x1, .f32⟩
  | 18 => ⟨S1x32, .f32⟩
  | 19 => ⟨S2048x32, .f32⟩
  | 20 => ⟨S2048x32, .f32⟩
  | 21 => ⟨S2048x32, .f32⟩
  | 22 => ⟨S2048x32, .f32⟩
  | 23 => ⟨S2048, .f32⟩
  | 24 => ⟨S32, .f32⟩
  | 25 => ⟨S_, .f32⟩
  | 26 => ⟨S32, .f32⟩
  | 27 => ⟨S32, .f32⟩
  | 28 => ⟨S_, .f32⟩
  | 29 => ⟨S32, .f32⟩
  | 30 => ⟨S32, .f32⟩
  | 31 => ⟨S32, .f32⟩
  | 32 => ⟨S_, .f32⟩
  | 33 => ⟨S32, .f32⟩
  | 34 => ⟨S32, .f32⟩
  | 35 => ⟨S_, .f32⟩
  | 36 => ⟨S32, .f32⟩
  | 37 => ⟨S32, .f32⟩
  | 38 => ⟨S2048x1, .f32⟩
  | 39 => ⟨S1x32, .f32⟩
  | 40 => ⟨S2048x32, .f32⟩
  | 41 => ⟨S2048x32, .f32⟩
  | 42 => ⟨S2048x32, .f32⟩
  | 43 => ⟨S2048x32, .f32⟩
  | 44 => ⟨S16x2048x512, .f32⟩
  | 45 => ⟨S16x2048x128, .f32⟩
  | 46 => ⟨S16x2048x128, .f32⟩
  | 47 => ⟨S16x2048x8x64, .f32⟩
  | 48 => ⟨S16x8x2048x64, .f32⟩
  | 49 => ⟨S16x8x2048x32, .f32⟩
  | 50 => ⟨S16x8x2048x32, .f32⟩
  | 51 => ⟨S1x1x2048x32, .f32⟩
  | 52 => ⟨S16x8x2048x32, .f32⟩
  | 53 => ⟨S16x8x2048x32, .f32⟩
  | 54 => ⟨S1x1x2048x32, .f32⟩
  | 55 => ⟨S16x8x2048x32, .f32⟩
  | 56 => ⟨S16x8x2048x32, .f32⟩
  | 57 => ⟨S16x8x2048x32, .f32⟩
  | 58 => ⟨S1x1x2048x32, .f32⟩
  | 59 => ⟨S16x8x2048x32, .f32⟩
  | 60 => ⟨S16x8x2048x32, .f32⟩
  | 61 => ⟨S1x1x2048x32, .f32⟩
  | 62 => ⟨S16x8x2048x32, .f32⟩
  | 63 => ⟨S16x8x2048x32, .f32⟩
  | 64 => ⟨S16x8x2048x32, .f32⟩
  | 65 => ⟨S16x8x2048x64, .f32⟩
  | 66 => ⟨S16x2048x2x64, .f32⟩
  | 67 => ⟨S16x2x2048x64, .f32⟩
  | 68 => ⟨S16x2x2048x32, .f32⟩
  | 69 => ⟨S16x2x2048x32, .f32⟩
  | 70 => ⟨S1x1x2048x32, .f32⟩
  | 71 => ⟨S16x2x2048x32, .f32⟩
  | 72 => ⟨S16x2x2048x32, .f32⟩
  | 73 => ⟨S1x1x2048x32, .f32⟩
  | 74 => ⟨S16x2x2048x32, .f32⟩
  | 75 => ⟨S16x2x2048x32, .f32⟩
  | 76 => ⟨S16x2x2048x32, .f32⟩
  | 77 => ⟨S1x1x2048x32, .f32⟩
  | 78 => ⟨S16x2x2048x32, .f32⟩
  | 79 => ⟨S16x2x2048x32, .f32⟩
  | 80 => ⟨S1x1x2048x32, .f32⟩
  | 81 => ⟨S16x2x2048x32, .f32⟩
  | 82 => ⟨S16x2x2048x32, .f32⟩
  | 83 => ⟨S16x2x2048x32, .f32⟩
  | 84 => ⟨S16x2x2048x64, .f32⟩
  | 85 => ⟨S16x2048x2x64, .f32⟩
  | 86 => ⟨S16x2x2048x64, .f32⟩
  | 87 => ⟨S16x2x4x2048x64, .f32⟩
  | 88 => ⟨S2x4, .f32⟩
  | 89 => ⟨S_, .i32⟩
  | 90 => ⟨S_, .f32⟩
  | 91 => ⟨S16x2x2304x64, .f32⟩
  | 92 => ⟨S16x2x18x128x64, .f32⟩
  | 93 => ⟨S_, .i32⟩
  | 94 => ⟨S_, .f32⟩
  | 95 => ⟨S16x2x2304x64, .f32⟩
  | 96 => ⟨S16x2x18x128x64, .f32⟩
  | 97 => ⟨S16x2x16x128x64, .f32⟩
  | 98 => ⟨S16x2x16x128x64, .f32⟩
  | 99 => ⟨S16x2x16x128x64, .f32⟩
  | 100 => ⟨S16x2x16x384x64, .f32⟩
  | 101 => ⟨S16x2x16x128x64, .f32⟩
  | 102 => ⟨S16x2x16x128x64, .f32⟩
  | 103 => ⟨S16x2x16x128x64, .f32⟩
  | 104 => ⟨S16x2x16x384x64, .f32⟩
  | 105 => ⟨S16x2x4x16x128x64, .f32⟩
  | 106 => ⟨S2048, .i32⟩
  | 107 => ⟨S16x128, .i32⟩
  | 108 => ⟨S16, .i32⟩
  | 109 => ⟨S16x1, .i32⟩
  | 110 => ⟨S_, .i32⟩
  | 111 => ⟨S16x1, .i32⟩
  | 112 => ⟨S16x1, .i32⟩
  | 113 => ⟨S384, .i32⟩
  | 114 => ⟨S_, .i32⟩
  | 115 => ⟨S384, .i32⟩
  | 116 => ⟨S384, .i32⟩
  | 117 => ⟨S1x384, .i32⟩
  | 118 => ⟨S16x384, .i32⟩
  | 119 => ⟨S16x384, .i32⟩
  | 120 => ⟨S16x384, .i32⟩
  | 121 => ⟨S16x128x1, .i32⟩
  | 122 => ⟨S16x1x384, .i32⟩
  | 123 => ⟨S16x128x384, .i32⟩
  | 124 => ⟨S16x128x384, .i32⟩
  | 125 => ⟨S16x128x384, .i32⟩
  | 126 => ⟨S16x128x384, .i32⟩
  | 127 => ⟨S_, .i32⟩
  | _ => ⟨S16x2048x7680, .f32⟩

abbrev hbmTy0_1 (i : Nat) : BufTy := match i % 128 with
  | 0 => ⟨S16x128x384, .i32⟩
  | 1 => ⟨S16x128x384, .i1⟩
  | 2 => ⟨S_, .i32⟩
  | 3 => ⟨S16x384, .i32⟩
  | 4 => ⟨S16x384, .i1⟩
  | 5 => ⟨S16x1x384, .i1⟩
  | 6 => ⟨S16x128x384, .i1⟩
  | 7 => ⟨S16x128x384, .i1⟩
  | 8 => ⟨S_, .i32⟩
  | 9 => ⟨S16x384, .i32⟩
  | 10 => ⟨S16x384, .i1⟩
  | 11 => ⟨S16x1x384, .i1⟩
  | 12 => ⟨S16x128x384, .i1⟩
  | 13 => ⟨S16x128x384, .i1⟩
  | 14 => ⟨S16x2x16x384x4x128, .f32⟩
  | 15 => ⟨S16x2x4x16x128x384, .f32⟩
  | 16 => ⟨S_, .f32⟩
  | 17 => ⟨S16x2x4x16x128x384, .f32⟩
  | 18 => ⟨S16x2x4x16x128x384, .f32⟩
  | 19 => ⟨S_, .f32⟩
  | 20 => ⟨S_, .f32⟩
  | 21 => ⟨S16x2x4x16x128x384, .i1⟩
  | 22 => ⟨S16x2x4x16x128x384, .f32⟩
  | 23 => ⟨S16x2x4x16x128x384, .f32⟩
  | 24 => ⟨S_, .f32⟩
  | 25 => ⟨S16x2x4x16x128, .f32⟩
  | 26 => ⟨S16x2x4x16x128x1, .f32⟩
  | 27 => ⟨S1x2x4x1x1x1, .f32⟩
  | 28 => ⟨S16x2x4x16x128x1, .f32⟩
  | 29 => ⟨S16x2x4x16x128x1, .f32⟩
  | 30 => ⟨S16x2x4x16x128x384, .f32⟩
  | 31 => ⟨S16x2x4x16x128x384, .f32⟩
  | 32 => ⟨S16x2x4x16x128x384, .f32⟩
  | 33 => ⟨S_, .f32⟩
  | 34 => ⟨S16x2x4x16x128, .f32⟩
  | 35 => ⟨S16x2x4x16x128x1, .f32⟩
  | 36 => ⟨S16x2x4x16x128x1, .f32⟩
  | 37 => ⟨S16x2x4x16x128x1, .f32⟩
  | 38 => ⟨S16x2x4x16x128x1, .f32⟩
  | 39 => ⟨S16x2x4x16x128x1, .f32⟩
  | 40 => ⟨S16x2x4x16x128x384, .f32⟩
  | 41 => ⟨S16x2x4x16x128x384, .f32⟩
  | 42 => ⟨S16x2x16x64x4x128, .f32⟩
  | 43 => ⟨S16x2x4x16x128x64, .f32⟩
  | 44 => ⟨S16x2x4x2048x64, .f32⟩
  | 45 => ⟨S16x2048x4x2x64, .f32⟩
  | 46 => ⟨S16x2048x512, .f32⟩
  | 47 => ⟨S16x2048x512, .bf16⟩
  | _ => ⟨S16x2048x7680, .f32⟩

abbrev hbmTy (i : Nat) : BufTy := match i / 128 with
  | 0 => hbmTy0_0 i
  | 1 => hbmTy0_1 i
  | _ => ⟨S16x2048x7680, .f32⟩

abbrev bufTy : (tb : Table) → Fin (tcTables nBuf tb) → BufTy
  | .hbm, ⟨i, _⟩ => hbmTy i
  | _, _ => ⟨S16x2048x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_c : Ref sig .tc := ⟨.hbm, 89, rfl⟩
abbrev main_call0_v0 : Ref sig .tc := ⟨.hbm, 90, rfl⟩
abbrev main_v79 : Ref sig .tc := ⟨.hbm, 91, rfl⟩
abbrev main_v80 : Ref sig .tc := ⟨.hbm, 92, rfl⟩
abbrev main_c_7 : Ref sig .tc := ⟨.hbm, 93, rfl⟩
abbrev main_call1_v0 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_c_8 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_c_9 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_c_10 : Ref sig .tc := ⟨.hbm, 127, rfl⟩
abbrev main_v111 : Ref sig .tc := ⟨.hbm, 128, rfl⟩
abbrev main_v112 : Ref sig .tc := ⟨.hbm, 129, rfl⟩
abbrev main_c_11 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_c_12 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_cst_13 : Ref sig .tc := ⟨.hbm, 144, rfl⟩
abbrev main_v125 : Ref sig .tc := ⟨.hbm, 145, rfl⟩
abbrev main_v126 : Ref sig .tc := ⟨.hbm, 146, rfl⟩
abbrev main_cst_14 : Ref sig .tc := ⟨.hbm, 147, rfl⟩
abbrev main_call2_v0 : Ref sig .tc := ⟨.hbm, 148, rfl⟩
abbrev main_call2_v1 : Ref sig .tc := ⟨.hbm, 149, rfl⟩
abbrev main_call2_v2 : Ref sig .tc := ⟨.hbm, 150, rfl⟩
abbrev main_v127 : Ref sig .tc := ⟨.hbm, 151, rfl⟩
abbrev main_cst_15 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_cst_16 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x1x1024 : Shape := ⟨3, ![16, 1, 1024]⟩
abbrev S1024x7680 : Shape := ⟨2, ![1024, 7680]⟩
abbrev S1024x768 : Shape := ⟨2, ![1024, 768]⟩
abbrev S1024x1536 : Shape := ⟨2, ![1024, 1536]⟩
abbrev S1024x512 : Shape := ⟨2, ![1024, 512]⟩
abbrev S1024x256 : Shape := ⟨2, ![1024, 256]⟩
abbrev S1024x3072 : Shape := ⟨2, ![1024, 3072]⟩
abbrev S64 : Shape := ⟨1, ![64]⟩
abbrev S_ : Shape := ⟨0, ![]⟩
abbrev S512 : Shape := ⟨1, ![512]⟩
abbrev S512x1 : Shape := ⟨2, ![512, 1]⟩
abbrev S1024x6144 : Shape := ⟨2, ![1024, 6144]⟩
abbrev S16x2048x6144 : Shape := ⟨3, ![16, 2048, 6144]⟩
abbrev S1x1024x1024 : Shape := ⟨3, ![1, 1024, 1024]⟩
abbrev S1x1x1024 : Shape := ⟨3, ![1, 1, 1024]⟩
abbrev S1x1024x1536 : Shape := ⟨3, ![1, 1024, 1536]⟩
abbrev S1024x1024 : Shape := ⟨2, ![1024, 1024]⟩
abbrev S1x1024 : Shape := ⟨2, ![1, 1024]⟩

abbrev nBuf : Space → Nat
  | .hbm => 67
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1024x7680, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x1536, .f32⟩
  | .hbm, ⟨8, _⟩ => ⟨S1024x512, .f32⟩
  | .hbm, ⟨9, _⟩ => ⟨S1024x256, .f32⟩
  | .hbm, ⟨10, _⟩ => ⟨S1024x3072, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S1024x768, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S1024x768, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S1024x768, .f32⟩
  | .hbm, ⟨23, _⟩ => ⟨S64, .i32⟩
  | .hbm, ⟨24, _⟩ => ⟨S64, .i32⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S64, .i32⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S64, .i32⟩
  | .hbm, ⟨33, _⟩ => ⟨S_, .i32⟩
  | .hbm, ⟨34, _⟩ => ⟨S64, .i32⟩
  | .hbm, ⟨35, _⟩ => ⟨S64, .i32⟩
  | .hbm, ⟨36, _⟩ => ⟨S64, .i32⟩
  | .hbm, ⟨37, _⟩ => ⟨S_, .i32⟩
  | .hbm, ⟨38, _⟩ => ⟨S64, .i32⟩
  | .hbm, ⟨39, _⟩ => ⟨S64, .i32⟩
  | .hbm, ⟨40, _⟩ => ⟨S64, .i32⟩
  | .hbm, ⟨41, _⟩ => ⟨S_, .i32⟩
  | .hbm, ⟨42, _⟩ => ⟨S64, .i32⟩
  | .hbm, ⟨43, _⟩ => ⟨S64, .i32⟩
  | .hbm, ⟨44, _⟩ => ⟨S64, .i32⟩
  | .hbm, ⟨45, _⟩ => ⟨S_, .i32⟩
  | .hbm, ⟨46, _⟩ => ⟨S64, .i32⟩
  | .hbm, ⟨47, _⟩ => ⟨S64, .i32⟩
  | .hbm, ⟨48, _⟩ => ⟨S64, .i32⟩
  | .hbm, ⟨49, _⟩ => ⟨S_, .i32⟩
  | .hbm, ⟨50, _⟩ => ⟨S64, .i32⟩
  | .hbm, ⟨51, _⟩ => ⟨S64, .i32⟩
  | .hbm, ⟨52, _⟩ => ⟨S512, .i32⟩
  | .hbm, ⟨53, _⟩ => ⟨S_, .i32⟩
  | .hbm, ⟨54, _⟩ => ⟨S512, .i32⟩
  | .hbm, ⟨55, _⟩ => ⟨S512, .i1⟩
  | .hbm, ⟨56, _⟩ => ⟨S_, .i32⟩
  | .hbm, ⟨57, _⟩ => ⟨S512, .i32⟩
  | .hbm, ⟨58, _⟩ => ⟨S512, .i32⟩
  | .hbm, ⟨59, _⟩ => ⟨S512, .i32⟩
  | .hbm, ⟨60, _⟩ => ⟨S512x1, .i32⟩
  | .hbm, ⟨61, _⟩ => ⟨S1024x512, .f32⟩
  | .hbm, ⟨62, _⟩ => ⟨S1024x6144, .f32⟩
  | .hbm, ⟨63, _⟩ => ⟨S1024x6144, .bf16⟩
  | .hbm, ⟨64, _⟩ => ⟨S1024x1536, .f32⟩
  | .hbm, ⟨65, _⟩ => ⟨S1024x1536, .bf16⟩
  | .hbm, ⟨66, _⟩ => ⟨S16x2048x6144, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1536, .bf16⟩
  | .local _ .vmem, ⟨7, _⟩ => ⟨S1024x1536, .bf16⟩
  | .local _ .vmem, ⟨8, _⟩ => ⟨S1x1024x1536, .bf16⟩
  | .local _ .vmem, ⟨9, _⟩ => ⟨S1x1024x1536, .bf16⟩
  | .local _ .vmem, ⟨10, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c_0 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_6 : Ref sig .tc := ⟨.hbm, 53, rfl⟩
abbrev main_v42 : Ref sig .tc := ⟨.hbm, 54, rfl⟩
abbrev main_v43 : Ref sig .tc := ⟨.hbm, 55, rfl⟩
abbrev main_c_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference2Ideal.lean ====
abbrev S16x2048x1024 : Shape := ⟨3, ![16, 2048, 1024]⟩
abbrev S16x1x1024 : Shape := ⟨3, ![16, 1, 1024]⟩
abbrev S1024x7680 : Shape := ⟨2, ![1024, 7680]⟩
abbrev S_ : Shape := ⟨0, ![]⟩
abbrev S16x2048x7680 : Shape := ⟨3, ![16, 2048, 7680]⟩
abbrev S16x2048x256 : Shape := ⟨3, ![16, 2048, 256]⟩
abbrev S16x2048x1536 : Shape := ⟨3, ![16, 2048, 1536]⟩
abbrev S16x2048x512 : Shape := ⟨3, ![16, 2048, 512]⟩
abbrev S16x2048x3072 : Shape := ⟨3, ![16, 2048, 3072]⟩
abbrev S16x2048x2x4x64 : Shape := ⟨5, ![16, 2048, 2, 4, 64]⟩
abbrev S16x2048x4x2x64 : Shape := ⟨5, ![16, 2048, 4, 2, 64]⟩
abbrev S16x2048x6144 : Shape := ⟨3, ![16, 2048, 6144]⟩

abbrev nBuf : Space → Nat
  | .hbm => 24
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1024x7680, .f32⟩
  | .hbm, ⟨4, _⟩ => ⟨S_, .f32⟩
  | .hbm, ⟨5, _⟩ => ⟨S16x1x1024, .f32⟩
  | .hbm, ⟨6, _⟩ => ⟨S16x1x1024, .f32⟩
  | .hbm, ⟨7, _⟩ => ⟨S16x2048x1024, .f32⟩
  | .hbm, ⟨8, _⟩ => ⟨S16x2048x1024, .f32⟩
  | .hbm, ⟨9, _⟩ => ⟨S16x2048x1024, .f32⟩
  | .hbm, ⟨10, _⟩ => ⟨S16x2048x1024, .f32⟩
  | .hbm, ⟨11, _⟩ => ⟨S16x2048x7680, .f32⟩
  | .hbm, ⟨12, _⟩ => ⟨S16x2048x256, .f32⟩
  | .hbm, ⟨13, _⟩ => ⟨S16x2048x256, .f32⟩
  | .hbm, ⟨14, _⟩ => ⟨S16x2048x256, .f32⟩
  | .hbm, ⟨15, _⟩ => ⟨S16x2048x1536, .f32⟩
  | .hbm, ⟨16, _⟩ => ⟨S16x2048x512, .f32⟩
  | .hbm, ⟨17, _⟩ => ⟨S16x2048x256, .f32⟩
  | .hbm, ⟨18, _⟩ => ⟨S16x2048x3072, .f32⟩
  | .hbm, ⟨19, _⟩ => ⟨S16x2048x2x4x64, .f32⟩
  | .hbm, ⟨20, _⟩ => ⟨S16x2048x4x2x64, .f32⟩
  | .hbm, ⟨21, _⟩ => ⟨S16x2048x512, .f32⟩
  | .hbm, ⟨22, _⟩ => ⟨S16x2048x6144, .f32⟩
  | .hbm, ⟨23, _⟩ => ⟨S16x2048x6144, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x1x1024 : Shape := ⟨3, ![16, 1, 1024]⟩
abbrev S1024x7680 : Shape := ⟨2, ![1024, 7680]⟩
abbrev S1024x768 : Shape := ⟨2, ![1024, 768]⟩
abbrev S1024x1536 : Shape := ⟨2, ![1024, 1536]⟩
abbrev S1024x512 : Shape := ⟨2, ![1024, 512]⟩
abbrev S1024x256 : Shape := ⟨2, ![1024, 256]⟩
abbrev S1024x3072 : Shape := ⟨2, ![1024, 3072]⟩
abbrev S64 : Shape := ⟨1, ![64]⟩
abbrev S_ : Shape := ⟨0, ![]⟩
abbrev S512 : Shape := ⟨1, ![512]⟩
abbrev S512x1 : Shape := ⟨2, ![512, 1]⟩
abbrev S1024x6144 : Shape := ⟨2, ![1024, 6144]⟩
abbrev S16x4x512x768 : Shape := ⟨4, ![16, 4, 512, 768]⟩
abbrev S16x16x128x768 : Shape := ⟨4, ![16, 16, 128, 768]⟩
abbrev S1x1024x1024 : Shape := ⟨3, ![1, 1024, 1024]⟩
abbrev S1x1x1024 : Shape := ⟨3, ![1, 1, 1024]⟩
abbrev S1x4x256x768 : Shape := ⟨4, ![1, 4, 256, 768]⟩
abbrev S1x16x64x768 : Shape := ⟨4, ![1, 16, 64, 768]⟩
abbrev S12x1024x128 : Shape := ⟨3, ![12, 1024, 128]⟩
abbrev S1024x1024 : Shape := ⟨2, ![1024, 1024]⟩
abbrev S1x1024 : Shape := ⟨2, ![1, 1024]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1x1x256x128 : Shape := ⟨4, ![1, 1, 256, 128]⟩
abbrev S1x64x128 : Shape := ⟨3, ![1, 64, 128]⟩
abbrev S64x128 : Shape := ⟨2, ![64, 128]⟩
abbrev S1x1x64x128 : Shape := ⟨4, ![1, 1, 64, 128]⟩

abbrev nBuf : Space → Nat
  | .hbm => 68
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1024x7680, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x1536, .f32⟩
  | .hbm, ⟨8, _⟩ => ⟨S1024x512, .f32⟩
  | .hbm, ⟨9, _⟩ => ⟨S1024x256, .f32⟩
  | .hbm, ⟨10, _⟩ => ⟨S1024x3072, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S1024x768, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S1024x768, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S1024x768, .f32⟩
  | .hbm, ⟨23, _⟩ => ⟨S64, .i32⟩
  | .hbm, ⟨24, _⟩ => ⟨S64, .i32⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S64, .i32⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S64, .i32⟩
  | .hbm, ⟨33, _⟩ => ⟨S_, .i32⟩
  | .hbm, ⟨34, _⟩ => ⟨S64, .i32⟩
  | .hbm, ⟨35, _⟩ => ⟨S64, .i32⟩
  | .hbm, ⟨36, _⟩ => ⟨S64, .i32⟩
  | .hbm, ⟨37, _⟩ => ⟨S_, .i32⟩
  | .hbm, ⟨38, _⟩ => ⟨S64, .i32⟩
  | .hbm, ⟨39, _⟩ => ⟨S64, .i32⟩
  | .hbm, ⟨40, _⟩ => ⟨S64, .i32⟩
  | .hbm, ⟨41, _⟩ => ⟨S_, .i32⟩
  | .hbm, ⟨42, _⟩ => ⟨S64, .i32⟩
  | .hbm, ⟨43, _⟩ => ⟨S64, .i32⟩
  | .hbm, ⟨44, _⟩ => ⟨S64, .i32⟩
  | .hbm, ⟨45, _⟩ => ⟨S_, .i32⟩
  | .hbm, ⟨46, _⟩ => ⟨S64, .i32⟩
  | .hbm, ⟨47, _⟩ => ⟨S64, .i32⟩
  | .hbm, ⟨48, _⟩ => ⟨S64, .i32⟩
  | .hbm, ⟨49, _⟩ => ⟨S_, .i32⟩
  | .hbm, ⟨50, _⟩ => ⟨S64, .i32⟩
  | .hbm, ⟨51, _⟩ => ⟨S64, .i32⟩
  | .hbm, ⟨52, _⟩ => ⟨S512, .i32⟩
  | .hbm, ⟨53, _⟩ => ⟨S_, .i32⟩
  | .hbm, ⟨54, _⟩ => ⟨S512, .i32⟩
  | .hbm, ⟨55, _⟩ => ⟨S512, .i1⟩
  | .hbm, ⟨56, _⟩ => ⟨S_, .i32⟩
  | .hbm, ⟨57, _⟩ => ⟨S512, .i32⟩
  | .hbm, ⟨58, _⟩ => ⟨S512, .i32⟩
  | .hbm, ⟨59, _⟩ => ⟨S512, .i32⟩
  | .hbm, ⟨60, _⟩ => ⟨S512x1, .i32⟩
  | .hbm, ⟨61, _⟩ => ⟨S1024x512, .f32⟩
  | .hbm, ⟨62, _⟩ => ⟨S1024x6144, .f32⟩
  | .hbm, ⟨63, _⟩ => ⟨S1024x6144, .bf16⟩
  | .hbm, ⟨64, _⟩ => ⟨S1024x1536, .f32⟩
  | .hbm, ⟨65, _⟩ => ⟨S1024x1536, .bf16⟩
  | .hbm, ⟨66, _⟩ => ⟨S16x4x512x768, .bf16⟩
  | .hbm, ⟨67, _⟩ => ⟨S16x16x128x768, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1536, .bf16⟩
  | .local _ .vmem, ⟨7, _⟩ => ⟨S1x4x256x768, .bf16⟩
  | .local _ .vmem, ⟨8, _⟩ => ⟨S1x4x256x768, .bf16⟩
  | .local _ .vmem, ⟨9, _⟩ => ⟨S1x16x64x768, .bf16⟩
  | .local _ .vmem, ⟨10, _⟩ => ⟨S1x16x64x768, .bf16⟩
  | .local _ .vmem, ⟨11, _⟩ => ⟨S12x1024x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c_0 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_6 : Ref sig .tc := ⟨.hbm, 53, rfl⟩
abbrev main_v42 : Ref sig .tc := ⟨.hbm, 54, rfl⟩
abbrev main_v43 : Ref sig .tc := ⟨.hbm, 55, rfl⟩
abbrev main_c_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53_0 : Ref sig .tc := ⟨.hbm, 66, rfl⟩
abbrev main_v53_1 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4x256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x64x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S16x2048x1024 : Shape := ⟨3, ![16, 2048, 1024]⟩
abbrev S16x1x1024 : Shape := ⟨3, ![16, 1, 1024]⟩
abbrev S1024x7680 : Shape := ⟨2, ![1024, 7680]⟩
abbrev S_ : Shape := ⟨0, ![]⟩
abbrev S16x2048x7680 : Shape := ⟨3, ![16, 2048, 7680]⟩
abbrev S16x2048x2304 : Shape := ⟨3, ![16, 2048, 2304]⟩
abbrev S16x2048x768 : Shape := ⟨3, ![16, 2048, 768]⟩
abbrev S16x2048x256 : Shape := ⟨3, ![16, 2048, 256]⟩
abbrev S16x512x4x768 : Shape := ⟨4, ![16, 512, 4, 768]⟩
abbrev S16x4x512x768 : Shape := ⟨4, ![16, 4, 512, 768]⟩
abbrev S16x128x16x768 : Shape := ⟨4, ![16, 128, 16, 768]⟩
abbrev S16x16x128x768 : Shape := ⟨4, ![16, 16, 128, 768]⟩

abbrev nBuf : Space → Nat
  | .hbm => 30
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1024x7680, .f32⟩
  | .hbm, ⟨4, _⟩ => ⟨S_, .f32⟩
  | .hbm, ⟨5, _⟩ => ⟨S16x1x1024, .f32⟩
  | .hbm, ⟨6, _⟩ => ⟨S16x1x1024, .f32⟩
  | .hbm, ⟨7, _⟩ => ⟨S16x2048x1024, .f32⟩
  | .hbm, ⟨8, _⟩ => ⟨S16x2048x1024, .f32⟩
  | .hbm, ⟨9, _⟩ => ⟨S16x2048x1024, .f32⟩
  | .hbm, ⟨10, _⟩ => ⟨S16x2048x1024, .f32⟩
  | .hbm, ⟨11, _⟩ => ⟨S16x2048x7680, .f32⟩
  | .hbm, ⟨12, _⟩ => ⟨S16x2048x2304, .f32⟩
  | .hbm, ⟨13, _⟩ => ⟨S16x2048x768, .f32⟩
  | .hbm, ⟨14, _⟩ => ⟨S16x2048x768, .f32⟩
  | .hbm, ⟨15, _⟩ => ⟨S16x2048x768, .f32⟩
  | .hbm, ⟨16, _⟩ => ⟨S16x2048x256, .f32⟩
  | .hbm, ⟨17, _⟩ => ⟨S16x2048x256, .f32⟩
  | .hbm, ⟨18, _⟩ => ⟨S16x2048x256, .f32⟩
  | .hbm, ⟨19, _⟩ => ⟨S16x2048x768, .f32⟩
  | .hbm, ⟨20, _⟩ => ⟨S16x512x4x768, .f32⟩
  | .hbm, ⟨21, _⟩ => ⟨S16x4x512x768, .f32⟩
  | .hbm, ⟨22, _⟩ => ⟨S16x4x512x768, .bf16⟩
  | .hbm, ⟨23, _⟩ => ⟨S16x2048x256, .f32⟩
  | .hbm, ⟨24, _⟩ => ⟨S16x2048x256, .f32⟩
  | .hbm, ⟨25, _⟩ => ⟨S16x2048x256, .f32⟩
  | .hbm, ⟨26, _⟩ => ⟨S16x2048x768, .f32⟩
  | .hbm, ⟨27, _⟩ => ⟨S16x128x16x768, .f32⟩
  | .hbm, ⟨28, _⟩ => ⟨S16x16x128x768, .f32⟩
  | .hbm, ⟨29, _⟩ => ⟨S16x16x128x768, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Kernel4.lean ====
abbrev S3x16x4x2048x64 : Shape := ⟨5, ![3, 16, 4, 2048, 64]⟩
abbrev S3x16x4x2048 : Shape := ⟨4, ![3, 16, 4, 2048]⟩
abbrev S16x2048x512 : Shape := ⟨3, ![16, 2048, 512]⟩
abbrev S16x2048x6144 : Shape := ⟨3, ![16, 2048, 6144]⟩
abbrev S16x2048x1024 : Shape := ⟨3, ![16, 2048, 1024]⟩
abbrev S16x1x1024 : Shape := ⟨3, ![16, 1, 1024]⟩
abbrev S1024 : Shape := ⟨1, ![1024]⟩
abbrev S256x1024 : Shape := ⟨2, ![256, 1024]⟩
abbrev S512x1024 : Shape := ⟨2, ![512, 1024]⟩
abbrev S1024x1024 : Shape := ⟨2, ![1024, 1024]⟩
abbrev S1x16x4x2048x64 : Shape := ⟨5, ![1, 16, 4, 2048, 64]⟩
abbrev S16x4x2048x64 : Shape := ⟨4, ![16, 4, 2048, 64]⟩
abbrev S1x16x4x2048 : Shape := ⟨4, ![1, 16, 4, 2048]⟩
abbrev S16x4x2048 : Shape := ⟨3, ![16, 4, 2048]⟩
abbrev S16x2048x4x64 : Shape := ⟨4, ![16, 2048, 4, 64]⟩
abbrev S16x2048x4 : Shape := ⟨3, ![16, 2048, 4]⟩
abbrev S16x2048x4x1 : Shape := ⟨4, ![16, 2048, 4, 1]⟩
abbrev S16x2048x2x64 : Shape := ⟨4, ![16, 2048, 2, 64]⟩
abbrev S16x2048x128 : Shape := ⟨3, ![16, 2048, 128]⟩
abbrev S64 : Shape := ⟨1, ![64]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S1024x32768 : Shape := ⟨2, ![1024, 32768]⟩
abbrev S16x4x8x128 : Shape := ⟨4, ![16, 4, 8, 128]⟩
abbrev S1x512x128 : Shape := ⟨3, ![1, 512, 128]⟩
abbrev S1x512x512 : Shape := ⟨3, ![1, 512, 512]⟩
abbrev S1x512x3072 : Shape := ⟨3, ![1, 512, 3072]⟩
abbrev S1x512x1024 : Shape := ⟨3, ![1, 512, 1024]⟩
abbrev S1x1x1024 : Shape := ⟨3, ![1, 1, 1024]⟩
abbrev S1024x512 : Shape := ⟨2, ![1024, 512]⟩
abbrev S1x1x8x128 : Shape := ⟨4, ![1, 1, 8, 128]⟩
abbrev S512x128 : Shape := ⟨2, ![512, 128]⟩
abbrev S512x256 : Shape := ⟨2, ![512, 256]⟩
abbrev S512x512 : Shape := ⟨2, ![512, 512]⟩
abbrev S128 : Shape := ⟨1, ![128]⟩
abbrev S1x128 : Shape := ⟨2, ![1, 128]⟩
abbrev S8x128 : Shape := ⟨2, ![8, 128]⟩

abbrev nBuf : Space → Nat
  | .hbm => 111
  | .vmem => 50
  | .smem => 0
  | _ => 0

abbrev bufTy : (tb : Table) → Fin (tcTables nBuf tb) → BufTy
  | .hbm, ⟨0, _⟩ => ⟨S3x16x4x2048x64, .f32⟩
  | .hbm, ⟨1, _⟩ => ⟨S3x16x4x2048, .f32⟩
  | .hbm, ⟨2, _⟩ => ⟨S16x2048x512, .bf16⟩
  | .hbm, ⟨3, _⟩ => ⟨S16x2048x512, .bf16⟩
  | .hbm, ⟨4, _⟩ => ⟨S16x2048x6144, .bf16⟩
  | .hbm, ⟨5, _⟩ => ⟨S16x2048x1024, .f32⟩
  | .hbm, ⟨6, _⟩ => ⟨S16x1x1024, .f32⟩
  | .hbm, ⟨7, _⟩ => ⟨S16x1x1024, .f32⟩
  | .hbm, ⟨8, _⟩ => ⟨S16x1x1024, .f32⟩
  | .hbm, ⟨9, _⟩ => ⟨S1024, .f32⟩
  | .hbm, ⟨10, _⟩ => ⟨S1024, .f32⟩
  | .hbm, ⟨11, _⟩ => ⟨S256x1024, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S1x16x4x2048x64, .f32⟩
  | .hbm, ⟨16, _⟩ => ⟨S16x4x2048x64, .f32⟩
  | .hbm, ⟨17, _⟩ => ⟨S1x16x4x2048x64, .f32⟩
  | .hbm, ⟨18, _⟩ => ⟨S16x4x2048x64, .f32⟩
  | .hbm, ⟨19, _⟩ => ⟨S1x16x4x2048x64, .f32⟩
  | .hbm, ⟨20, _⟩ => ⟨S16x4x2048x64, .f32⟩
  | .hbm, ⟨21, _⟩ => ⟨S1x16x4x2048, .f32⟩
  | .hbm, ⟨22, _⟩ => ⟨S16x4x2048, .f32⟩
  | .hbm, ⟨23, _⟩ => ⟨S1x16x4x2048, .f32⟩
  | .hbm, ⟨24, _⟩ => ⟨S16x4x2048, .f32⟩
  | .hbm, ⟨25, _⟩ => ⟨S1x16x4x2048, .f32⟩
  | .hbm, ⟨26, _⟩ => ⟨S16x4x2048, .f32⟩
  | .hbm, ⟨27, _⟩ => ⟨S16x2048x4x64, .f32⟩
  | .hbm, ⟨28, _⟩ => ⟨S16x2048x4, .f32⟩
  | .hbm, ⟨29, _⟩ => ⟨S16x2048x4x1, .f32⟩
  | .hbm, ⟨30, _⟩ => ⟨S16x2048x4x64, .f32⟩
  | .hbm, ⟨31, _⟩ => ⟨S16x2048x2x64, .f32⟩
  | .hbm, ⟨32, _⟩ => ⟨S16x2048x128, .f32⟩
  | .hbm, ⟨33, _⟩ => ⟨S16x2048x2x64, .f32⟩
  | .hbm, ⟨34, _⟩ => ⟨S16x2048x128, .f32⟩
  | .hbm, ⟨35, _⟩ => ⟨S16x2048x2x64, .f32⟩
  | .hbm, ⟨36, _⟩ => ⟨S16x2048x128, .f32⟩
  | .hbm, ⟨37, _⟩ => ⟨S16x2048x2x64, .f32⟩
  | .hbm, ⟨38, _⟩ => ⟨S16x2048x128, .f32⟩
  | .hbm, ⟨39, _⟩ => ⟨S16x2048x4x64, .f32⟩
  | .hbm, ⟨40, _⟩ => ⟨S16x2048x4, .f32⟩
  | .hbm, ⟨41, _⟩ => ⟨S16x2048x4x1, .f32⟩
  | .hbm, ⟨42, _⟩ => ⟨S16x2048x4x64, .f32⟩
  | .hbm, ⟨43, _⟩ => ⟨S16x2048x2x64, .f32⟩
  | .hbm, ⟨44, _⟩ => ⟨S16x2048x128, .f32⟩
  | .hbm, ⟨45, _⟩ => ⟨S16x2048x2x64, .f32⟩
  | .hbm, ⟨46, _⟩ => ⟨S16x2048x128, .f32⟩
  | .hbm, ⟨47, _⟩ => ⟨S16x2048x2x64, .f32⟩
  | .hbm, ⟨48, _⟩ => ⟨S16x2048x128, .f32⟩
  | .hbm, ⟨49, _⟩ => ⟨S16x2048x2x64, .f32⟩
  | .hbm, ⟨50, _⟩ => ⟨S16x2048x128, .f32⟩
  | .hbm, ⟨51, _⟩ => ⟨S16x2048x4x64, .f32⟩
  | .hbm, ⟨52, _⟩ => ⟨S16x2048x4, .f32⟩
  | .hbm, ⟨53, _⟩ => ⟨S16x2048x4x1, .f32⟩
  | .hbm, ⟨54, _⟩ => ⟨S16x2048x4x64, .f32⟩
  | .hbm, ⟨55, _⟩ => ⟨S16x2048x2x64, .f32⟩
  | .hbm, ⟨56, _⟩ => ⟨S16x2048x128, .f32⟩
  | .hbm, ⟨57, _⟩ => ⟨S16x2048x2x64, .f32⟩
  | .hbm, ⟨58, _⟩ => ⟨S16x2048x128, .f32⟩
  | .hbm, ⟨59, _⟩ => ⟨S16x2048x2x64, .f32⟩
  | .hbm, ⟨60, _⟩ => ⟨S16x2048x128, .f32⟩
  | .hbm, ⟨61, _⟩ => ⟨S16x2048x2x64, .f32⟩
  | .hbm, ⟨62, _⟩ => ⟨S16x2048x128, .f32⟩
  | .hbm, ⟨63, _⟩ => ⟨S256x1024, .bf16⟩
  | .hbm, ⟨64, _⟩ => ⟨S512x1024, .bf16⟩
  | .hbm, ⟨65, _⟩ => ⟨S64, .i32⟩
  | .hbm, ⟨66, _⟩ => ⟨S64, .i32⟩
  | .hbm, ⟨67, _⟩ => ⟨S_, .i32⟩
  | .hbm, ⟨68, _⟩ => ⟨S64, .i32⟩
  | .hbm, ⟨69, _⟩ => ⟨S64, .i32⟩
  | .hbm, ⟨70, _⟩ => ⟨S64, .i32⟩
  | .hbm, ⟨71, _⟩ => ⟨S_, .i32⟩
  | .hbm, ⟨72, _⟩ => ⟨S64, .i32⟩
  | .hbm, ⟨73, _⟩ => ⟨S64, .i32⟩
  | .hbm, ⟨74, _⟩ => ⟨S64, .i32⟩
  | .hbm, ⟨75, _⟩ => ⟨S_, .i32⟩
  | .hbm, ⟨76, _⟩ => ⟨S64, .i32⟩
  | .hbm, ⟨77, _⟩ => ⟨S64, .i32⟩
  | .hbm, ⟨78, _⟩ => ⟨S64, .i32⟩
  | .hbm, ⟨79, _⟩ => ⟨S_, .i32⟩
  | .hbm, ⟨80, _⟩ => ⟨S64, .i32⟩
  | .hbm, ⟨81, _⟩ => ⟨S64, .i32⟩
  | .hbm, ⟨82, _⟩ => ⟨S64, .i32⟩
  | .hbm, ⟨83, _⟩ => ⟨S_, .i32⟩
  | .hbm, ⟨84, _⟩ => ⟨S64, .i32⟩
  | .hbm, ⟨85, _⟩ => ⟨S64, .i32⟩
  | .hbm, ⟨86, _⟩ => ⟨S64, .i32⟩
  | .hbm, ⟨87, _⟩ => ⟨S_, .i32⟩
  | .hbm, ⟨88, _⟩ => ⟨S64, .i32⟩
  | .hbm, ⟨89, _⟩ => ⟨S64, .i32⟩
  | .hbm, ⟨90, _⟩ => ⟨S64, .i32⟩
  | .hbm, ⟨91, _⟩ => ⟨S_, .i32⟩
  | .hbm, ⟨92, _⟩ => ⟨S64, .i32⟩
  | .hbm, ⟨93, _⟩ => ⟨S64, .i32⟩
  | .hbm, ⟨94, _⟩ => ⟨S512, .i32⟩
  | .hbm, ⟨95, _⟩ => ⟨S_, .i32⟩
  | .hbm, ⟨96, _⟩ => ⟨S512, .i32⟩
  | .hbm, ⟨97, _⟩ => ⟨S512, .i1⟩
  | .hbm, ⟨98, _⟩ => ⟨S_, .i32⟩
  | .hbm, ⟨99, _⟩ => ⟨S512, .i32⟩
  | .hbm, ⟨100, _⟩ => ⟨S512, .i32⟩
  | .hbm, ⟨101, _⟩ => ⟨S512, .i32⟩
  | .hbm, ⟨102, _⟩ => ⟨S512x1, .i32⟩
  | .hbm, ⟨103, _⟩ => ⟨S512x1024, .f32⟩
  | .hbm, ⟨104, _⟩ => ⟨S512x1024, .bf16⟩
  | .hbm, ⟨105, _⟩ => ⟨S1024x1024, .bf16⟩
  | .hbm, ⟨106, _⟩ => ⟨S1x1024, .f32⟩
  | .hbm, ⟨107, _⟩ => ⟨S1x1024, .f32⟩
  | .hbm, ⟨108, _⟩ => ⟨S16x2048x1024, .f32⟩
  | .hbm, ⟨109, _⟩ => ⟨S1024x32768, .bf16⟩
  | .hbm, ⟨110, _⟩ => ⟨S16x4x8x128, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S1x512x128, .f32⟩
  | .local _ .vmem, ⟨21, _⟩ => ⟨S1x512x128, .f32⟩
  | .local _ .vmem, ⟨22, _⟩ => ⟨S1x512x128, .f32⟩
  | .local _ .vmem, ⟨23, _⟩ => ⟨S1x512x128, .f32⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x3072, .bf16⟩
  | .local _ .vmem, ⟨29, _⟩ => ⟨S1x512x3072, .bf16⟩
  | .local _ .vmem, ⟨30, _⟩ => ⟨S1x512x1024, .f32⟩
  | .local _ .vmem, ⟨31, _⟩ => ⟨S1x512x1024, .f32⟩
  | .local _ .vmem, ⟨32, _⟩ => ⟨S1x1x1024, .f32⟩
  | .local _ .vmem, ⟨33, _⟩ => ⟨S1x1x1024, .f32⟩
  | .local _ .vmem, ⟨34, _⟩ => ⟨S1x1x1024, .f32⟩
  | .local _ .vmem, ⟨35, _⟩ => ⟨S1x1x1024, .f32⟩
  | .local _ .vmem, ⟨36, _⟩ => ⟨S1x1x1024, .f32⟩
  | .local _ .vmem, ⟨37, _⟩ => ⟨S1x1x1024, .f32⟩
  | .local _ .vmem, ⟨38, _⟩ => ⟨S1x1024, .f32⟩
  | .local _ .vmem, ⟨39, _⟩ => ⟨S1x1024, .f32⟩
  | .local _ .vmem, ⟨40, _⟩ => ⟨S256x1024, .bf16⟩
  | .local _ .vmem, ⟨41, _⟩ => ⟨S512x1024, .bf16⟩
  | .local _ .vmem, ⟨42, _⟩ => ⟨S512x1024, .bf16⟩
  | .local _ .vmem, ⟨43, _⟩ => ⟨S1024x1024, .bf16⟩
  | .local _ .vmem, ⟨44, _⟩ => ⟨S1x512x1024, .f32⟩
  | .local _ .vmem, ⟨45, _⟩ => ⟨S1x512x1024, .f32⟩
  | .local _ .vmem, ⟨46, _⟩ => ⟨S1024x512, .bf16⟩
  | .local _ .vmem, ⟨47, _⟩ => ⟨S1024x512, .bf16⟩
  | .local _ .vmem, ⟨48, _⟩ => ⟨S1x1x8x128, .f32⟩
  | .local _ .vmem, ⟨49, _⟩ => ⟨S1x1x8x128, .f32⟩
  | _, _ => ⟨S3x16x4x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_0 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_1 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_2 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_3 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c_4 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c_5 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_6 : Ref sig .tc := ⟨.hbm, 95, rfl⟩
abbrev main_v73 : Ref sig .tc := ⟨.hbm, 96, rfl⟩
abbrev main_v74 : Ref sig .tc := ⟨.hbm, 97, rfl⟩
abbrev main_c_7 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84_0 : Ref sig .tc := ⟨.hbm, 108, rfl⟩
abbrev main_v84_1 : Ref sig .tc := ⟨.hbm, 109, rfl⟩
abbrev main_v84_2 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg20_0 : Ref sig .tc := ⟨.vmem, 39, rfl⟩
abbrev cc0_stg21_0 : Ref sig .tc := ⟨.vmem, 40, rfl⟩
abbrev cc0_stg22_0 : Ref sig .tc := ⟨.vmem, 41, rfl⟩
abbrev cc0_stg23_0 : Ref sig .tc := ⟨.vmem, 42, rfl⟩
abbrev cc0_stg24_0 : Ref sig .tc := ⟨.vmem, 43, rfl⟩
abbrev cc0_stg25_0 : Ref sig .tc := ⟨.vmem, 44, rfl⟩
abbrev cc0_stg25_1 : Ref sig .tc := ⟨.vmem, 45, rfl⟩
abbrev cc0_stg26_0 : Ref sig .tc := ⟨.vmem, 46, rfl⟩
abbrev cc0_stg26_1 : Ref sig .tc := ⟨.vmem, 47, rfl⟩
abbrev cc0_stg27_0 : Ref sig .tc := ⟨.vmem, 48, rfl⟩
abbrev cc0_stg27_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem20_0 : DmaSem sig := 39
abbrev cc0_sem21_0 : DmaSem sig := 40
abbrev cc0_sem22_0 : DmaSem sig := 41
abbrev cc0_sem23_0 : DmaSem sig := 42
abbrev cc0_sem24_0 : DmaSem sig := 43
abbrev cc0_sem25_0 : DmaSem sig := 44
abbrev cc0_sem25_1 : DmaSem sig := 45
abbrev cc0_sem26_0 : DmaSem sig := 46
abbrev cc0_sem26_1 : DmaSem sig := 47
abbrev cc0_sem27_0 : DmaSem sig := 48
abbrev cc0_sem27_1 : DmaSem sig := 49

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_27 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x3072 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x1x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S256x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S512x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S512x1024 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S1024x1024 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 2 → Memref sig .tc .vmem S1x512x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1024x512 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x1x8x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]
-- ==== Reference4Ideal.lean ====
abbrev S3x16x4x2048x64 : Shape := ⟨5, ![3, 16, 4, 2048, 64]⟩
abbrev S3x16x4x2048 : Shape := ⟨4, ![3, 16, 4, 2048]⟩
abbrev S16x2048x512 : Shape := ⟨3, ![16, 2048, 512]⟩
abbrev S16x2048x6144 : Shape := ⟨3, ![16, 2048, 6144]⟩
abbrev S16x2048x1024 : Shape := ⟨3, ![16, 2048, 1024]⟩
abbrev S16x1x1024 : Shape := ⟨3, ![16, 1, 1024]⟩
abbrev S1024 : Shape := ⟨1, ![1024]⟩
abbrev S256x1024 : Shape := ⟨2, ![256, 1024]⟩
abbrev S512x1024 : Shape := ⟨2, ![512, 1024]⟩
abbrev S1024x1024 : Shape := ⟨2, ![1024, 1024]⟩
abbrev S_ : Shape := ⟨0, ![]⟩
abbrev S16x4x2048 : Shape := ⟨3, ![16, 4, 2048]⟩
abbrev S1x16x4x2048 : Shape := ⟨4, ![1, 16, 4, 2048]⟩
abbrev S16x2048x4x64 : Shape := ⟨4, ![16, 2048, 4, 64]⟩
abbrev S16x2048x256 : Shape := ⟨3, ![16, 2048, 256]⟩
abbrev S16x2048x4x2x64 : Shape := ⟨5, ![16, 2048, 4, 2, 64]⟩
abbrev S16x2048x2x4x64 : Shape := ⟨5, ![16, 2048, 2, 4, 64]⟩
abbrev S16x2048x3072 : Shape := ⟨3, ![16, 2048, 3072]⟩
abbrev S16x2048 : Shape := ⟨2, ![16, 2048]⟩
abbrev S16x2048x1 : Shape := ⟨3, ![16, 2048, 1]⟩
abbrev S1x1x1024 : Shape := ⟨3, ![1, 1, 1024]⟩
abbrev S32768x1024 : Shape := ⟨2, ![32768, 1024]⟩
abbrev S1024x32768 : Shape := ⟨2, ![1024, 32768]⟩
abbrev S16x4x512x8x128 : Shape := ⟨5, ![16, 4, 512, 8, 128]⟩
abbrev S16x4x512x128 : Shape := ⟨4, ![16, 4, 512, 128]⟩
abbrev S16x4x128 : Shape := ⟨3, ![16, 4, 128]⟩
abbrev S16x4x1x128 : Shape := ⟨4, ![16, 4, 1, 128]⟩
abbrev S16x4x8x128 : Shape := ⟨4, ![16, 4, 8, 128]⟩

abbrev nBuf : Space → Nat
  | .hbm => 109
  | .vmem => 0
  | .smem => 0
  | _ => 0

abbrev bufTy : (tb : Table) → Fin (tcTables nBuf tb) → BufTy
  | .hbm, ⟨0, _⟩ => ⟨S3x16x4x2048x64, .f32⟩
  | .hbm, ⟨1, _⟩ => ⟨S3x16x4x2048, .f32⟩
  | .hbm, ⟨2, _⟩ => ⟨S16x2048x512, .bf16⟩
  | .hbm, ⟨3, _⟩ => ⟨S16x2048x512, .bf16⟩
  | .hbm, ⟨4, _⟩ => ⟨S16x2048x6144, .bf16⟩
  | .hbm, ⟨5, _⟩ => ⟨S16x2048x1024, .f32⟩
  | .hbm, ⟨6, _⟩ => ⟨S16x1x1024, .f32⟩
  | .hbm, ⟨7, _⟩ => ⟨S16x1x1024, .f32⟩
  | .hbm, ⟨8, _⟩ => ⟨S16x1x1024, .f32⟩
  | .hbm, ⟨9, _⟩ => ⟨S1024, .f32⟩
  | .hbm, ⟨10, _⟩ => ⟨S1024, .f32⟩
  | .hbm, ⟨11, _⟩ => ⟨S256x1024, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S_, .f32⟩
  | .hbm, ⟨16, _⟩ => ⟨S16x4x2048, .f32⟩
  | .hbm, ⟨17, _⟩ => ⟨S_, .f32⟩
  | .hbm, ⟨18, _⟩ => ⟨S16x4x2048, .f32⟩
  | .hbm, ⟨19, _⟩ => ⟨S16x4x2048, .f32⟩
  | .hbm, ⟨20, _⟩ => ⟨S1x16x4x2048, .f32⟩
  | .hbm, ⟨21, _⟩ => ⟨S3x16x4x2048, .f32⟩
  | .hbm, ⟨22, _⟩ => ⟨S3x16x4x2048, .f32⟩
  | .hbm, ⟨23, _⟩ => ⟨S3x16x4x2048, .f32⟩
  | .hbm, ⟨24, _⟩ => ⟨S_, .f32⟩
  | .hbm, ⟨25, _⟩ => ⟨S16x4x2048, .f32⟩
  | .hbm, ⟨26, _⟩ => ⟨S1x16x4x2048, .f32⟩
  | .hbm, ⟨27, _⟩ => ⟨S3x16x4x2048, .f32⟩
  | .hbm, ⟨28, _⟩ => ⟨S3x16x4x2048, .f32⟩
  | .hbm, ⟨29, _⟩ => ⟨S16x2048x4x64, .f32⟩
  | .hbm, ⟨30, _⟩ => ⟨S16x2048x256, .f32⟩
  | .hbm, ⟨31, _⟩ => ⟨S16x2048x4x2x64, .bf16⟩
  | .hbm, ⟨32, _⟩ => ⟨S16x2048x2x4x64, .bf16⟩
  | .hbm, ⟨33, _⟩ => ⟨S16x2048x512, .bf16⟩
  | .hbm, ⟨34, _⟩ => ⟨S16x2048x3072, .bf16⟩
  | .hbm, ⟨35, _⟩ => ⟨S16x2048x3072, .f32⟩
  | .hbm, ⟨36, _⟩ => ⟨S16x2048x3072, .f32⟩
  | .hbm, ⟨37, _⟩ => ⟨S16x2048x3072, .f32⟩
  | .hbm, ⟨38, _⟩ => ⟨S_, .f32⟩
  | .hbm, ⟨39, _⟩ => ⟨S16x2048x3072, .f32⟩
  | .hbm, ⟨40, _⟩ => ⟨S16x2048x3072, .f32⟩
  | .hbm, ⟨41, _⟩ => ⟨S_, .f32⟩
  | .hbm, ⟨42, _⟩ => ⟨S16x2048x3072, .f32⟩
  | .hbm, ⟨43, _⟩ => ⟨S16x2048x3072, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S16x2048x1024, .f32⟩
  | .hbm, ⟨51, _⟩ => ⟨S16x2048x1024, .f32⟩
  | .hbm, ⟨52, _⟩ => ⟨S16x2048x1024, .f32⟩
  | .hbm, ⟨53, _⟩ => ⟨S16x2048x1024, .f32⟩
  | .hbm, ⟨54, _⟩ => ⟨S16x2048x1024, .f32⟩
  | .hbm, ⟨55, _⟩ => ⟨S_, .f32⟩
  | .hbm, ⟨56, _⟩ => ⟨S16x2048x1024, .f32⟩
  | .hbm, ⟨57, _⟩ => ⟨S16x2048x1024, .f32⟩
  | .hbm, ⟨58, _⟩ => ⟨S16x2048x1024, .f32⟩
  | .hbm, ⟨59, _⟩ => ⟨S16x2048x1024, .f32⟩
  | .hbm, ⟨60, _⟩ => ⟨S16x2048x1024, .f32⟩
  | .hbm, ⟨61, _⟩ => ⟨S16x2048x1024, .f32⟩
  | .hbm, ⟨62, _⟩ => ⟨S_, .f32⟩
  | .hbm, ⟨63, _⟩ => ⟨S16x2048, .f32⟩
  | .hbm, ⟨64, _⟩ => ⟨S16x2048x1, .f32⟩
  | .hbm, ⟨65, _⟩ => ⟨S_, .f32⟩
  | .hbm, ⟨66, _⟩ => ⟨S16x2048x1, .f32⟩
  | .hbm, ⟨67, _⟩ => ⟨S16x2048x1, .f32⟩
  | .hbm, ⟨68, _⟩ => ⟨S16x2048x1024, .f32⟩
  | .hbm, ⟨69, _⟩ => ⟨S16x2048x1024, .f32⟩
  | .hbm, ⟨70, _⟩ => ⟨S16x2048x1024, .f32⟩
  | .hbm, ⟨71, _⟩ => ⟨S_, .f32⟩
  | .hbm, ⟨72, _⟩ => ⟨S16x2048, .f32⟩
  | .hbm, ⟨73, _⟩ => ⟨S16x2048x1, .f32⟩
  | .hbm, ⟨74, _⟩ => ⟨S_, .f32⟩
  | .hbm, ⟨75, _⟩ => ⟨S16x2048x1, .f32⟩
  | .hbm, ⟨76, _⟩ => ⟨S16x2048x1, .f32⟩
  | .hbm, ⟨77, _⟩ => ⟨S16x2048x1024, .f32⟩
  | .hbm, ⟨78, _⟩ => ⟨S16x2048x1024, .f32⟩
  | .hbm, ⟨79, _⟩ => ⟨S_, .f32⟩
  | .hbm, ⟨80, _⟩ => ⟨S16x2048x1, .f32⟩
  | .hbm, ⟨81, _⟩ => ⟨S16x2048x1, .f32⟩
  | .hbm, ⟨82, _⟩ => ⟨S16x2048x1, .f32⟩
  | .hbm, ⟨83, _⟩ => ⟨S16x2048x1024, .f32⟩
  | .hbm, ⟨84, _⟩ => ⟨S16x2048x1024, .f32⟩
  | .hbm, ⟨85, _⟩ => ⟨S1x1x1024, .f32⟩
  | .hbm, ⟨86, _⟩ => ⟨S16x2048x1024, .f32⟩
  | .hbm, ⟨87, _⟩ => ⟨S16x2048x1024, .f32⟩
  | .hbm, ⟨88, _⟩ => ⟨S1x1x1024, .f32⟩
  | .hbm, ⟨89, _⟩ => ⟨S16x2048x1024, .f32⟩
  | .hbm, ⟨90, _⟩ => ⟨S16x2048x1024, .f32⟩
  | .hbm, ⟨91, _⟩ => ⟨S_, .f32⟩
  | .hbm, ⟨92, _⟩ => ⟨S16x1x1024, .f32⟩
  | .hbm, ⟨93, _⟩ => ⟨S16x1x1024, .f32⟩
  | .hbm, ⟨94, _⟩ => ⟨S16x2048x1024, .f32⟩
  | .hbm, ⟨95, _⟩ => ⟨S16x2048x1024, .f32⟩
  | .hbm, ⟨96, _⟩ => ⟨S16x2048x1024, .f32⟩
  | .hbm, ⟨97, _⟩ => ⟨S16x2048x1024, .f32⟩
  | .hbm, ⟨98, _⟩ => ⟨S32768x1024, .f32⟩
  | .hbm, ⟨99, _⟩ => ⟨S1024x32768, .f32⟩
  | .hbm, ⟨100, _⟩ => ⟨S1024x32768, .bf16⟩
  | .hbm, ⟨101, _⟩ => ⟨S16x2048x1024, .f32⟩
  | .hbm, ⟨102, _⟩ => ⟨S16x4x512x8x128, .f32⟩
  | .hbm, ⟨103, _⟩ => ⟨S_, .f32⟩
  | .hbm, ⟨104, _⟩ => ⟨S16x4x512x128, .f32⟩
  | .hbm, ⟨105, _⟩ => ⟨S_, .f32⟩
  | .hbm, ⟨106, _⟩ => ⟨S16x4x128, .f32⟩
  | .hbm, ⟨107, _⟩ => ⟨S16x4x1x128, .f32⟩
  | .hbm, ⟨108, _⟩ => ⟨S16x4x8x128, .f32⟩
  | _, _ => ⟨S3x16x4x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_10 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_11 : Ref sig .tc := ⟨.hbm, 103, rfl⟩
abbrev main_v76 : Ref sig .tc := ⟨.hbm, 104, rfl⟩
abbrev main_cst_12 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩

abbrev nD : Nat := 1
abbrev τ : Topo := Topo.v7x

variable {F : FTy → Type} [FloatOps F]
-- ==== Proof.ProjWeights.lean ====
module
public import proofs.«01_k».proof.Proof.Gen.Kernel2Ideal.Value
public import Idealize.ShloMosaic.Lib.Pipeline.ValueKit
public import Idealize.ShloMosaic.Lib.Claim
public import Idealize.ShloMosaic.Lib.Pointwise
public import Idealize.ShloMosaic.Lib.StableHlo.ReadAt
public import Idealize.ShloMosaic.Lib.Tactic.WordOmega
@[expose] public section
set_option maxRecDepth 16384
noncomputable section
open Idealize.ShloMosaic Idealize.ShloMosaic.TcCoe Idealize.SL.Sem
namespace Cert.Proj
open Cert.Kernel2Ideal Cert.Kernel2Ideal.Gen
variable (m : (ℓ : Loc nD τ sig) → Buf (Elt Ideal) ℓ)

theorem gather_at {α : Type} {w : Nat} (x : S1024x512.Idx → α) (idx : IVec S512x1 w) (r : Fin 1024) (j : Fin 512) (q : Fin 512)
    (hq : (idx (ix2 j (0 : Fin 1))).toInt.toNat = q.val) :
    Host.gather gather_S1024x512_S512x1_S1024x512_0_1_n_n_1_1_10241 x idx (ix2 r j) = x (ix2 r q) := by
  unfold Host.gather
  congr 1
  funext a
  apply Fin.ext
  match a with
  | ⟨0, _⟩ =>
    show 0 + 0 + r.val = r.val
    omega
  | ⟨1, _⟩ =>
    have : GatherDims.siIdx gather_S1024x512_S512x1_S1024x512_0_1_n_n_1_1_10241 (ix2 r j) ⟨0, by decide⟩ = ix2 j (0 : Fin 1) := by
      funext b; apply Fin.ext
      match b with
      | ⟨0, _⟩ => rfl
      | ⟨1, _⟩ => rfl
    show min (idx (GatherDims.siIdx gather_S1024x512_S512x1_S1024x512_0_1_n_n_1_1_10241 (ix2 r j) ⟨0, _⟩)).toInt.toNat (512 - 1) + 0 + 0 = q.val
    rw [this, hq]; omega

theorem add_word (a b : ℕ) : IntOp.addi (BitVec.ofNat 32 a) (BitVec.ofNat 32 b) = BitVec.ofNat 32 (a + b) := by
  show BitVec.ofNat 32 a + BitVec.ofNat 32 b = _
  rw [BitVec.ofNat_add]

/-- The word of a small number is not negative, so the wrap of negative indices keeps it. -/
theorem wrap_small (q : ℕ) (hq : q < 512) (w : BitVec 32) (hw : w = BitVec.ofNat 32 q) :
    (Scalar.select (IntOp.cmpi .slt w 0#32) (IntOp.addi w 512#32) w).toInt.toNat = q := by
  subst hw
  interval_cases q <;> rfl

theorem tbl0 (c : Dev nD) (i : Fin 64) :
    (StableHlo.upto hostOps0 (fun b => m (c, b)) 48 (Proc.tc.devRef main_v19) : IVec S64 32) (ix1 i) = BitVec.ofNat 32 (0 + i.val) := by
  after_reads_at
theorem tbl1 (c : Dev nD) (i : Fin 64) :
    (StableHlo.upto hostOps0 (fun b => m (c, b)) 48 (Proc.tc.devRef main_v22) : IVec S64 32) (ix1 i) = BitVec.ofNat 32 (256 + i.val) := by
  after_reads_at
  exact add_word _ _
theorem tbl2 (c : Dev nD) (i : Fin 64) :
    (StableHlo.upto hostOps0 (fun b => m (c, b)) 48 (Proc.tc.devRef main_v25) : IVec S64 32) (ix1 i) = BitVec.ofNat 32 (64 + i.val) := by
  after_reads_at
  exact add_word _ _
theorem tbl3 (c : Dev nD) (i : Fin 64) :
    (StableHlo.upto hostOps0 (fun b => m (c, b)) 48 (Proc.tc.devRef main_v28) : IVec S64 32) (ix1 i) = BitVec.ofNat 32 (320 + i.val) := by
  after_reads_at
  exact add_word _ _
theorem tbl4 (c : Dev nD) (i : Fin 64) :
    (StableHlo.upto hostOps0 (fun b => m (c, b)) 48 (Proc.tc.devRef main_v31) : IVec S64 32) (ix1 i) = BitVec.ofNat 32 (128 + i.val) := by
  after_reads_at
  exact add_word _ _
theorem tbl5 (c : Dev nD) (i : Fin 64) :
    (StableHlo.upto hostOps0 (fun b => m (c, b)) 48 (Proc.tc.devRef main_v34) : IVec S64 32) (ix1 i) = BitVec.ofNat 32 (384 + i.val) := by
  after_reads_at
  exact add_word _ _
theorem tbl6 (c : Dev nD) (i : Fin 64) :
    (StableHlo.upto hostOps0 (fun b => m (c, b)) 48 (Proc.tc.devRef main_v37) : IVec S64 32) (ix1 i) = BitVec.ofNat 32 (192 + i.val) := by
  after_reads_at
  exact add_word _ _
theorem tbl7 (c : Dev nD) (i : Fin 64) :
    (StableHlo.upto hostOps0 (fun b => m (c, b)) 48 (Proc.tc.devRef main_v40) : IVec S64 32) (ix1 i) = BitVec.ofNat 32 (448 + i.val) := by
  after_reads_at
  exact add_word _ _
theorem dite_eq_of {α : Sort*} {p : Prop} [Decidable p] {a : p → α} {b : ¬p → α} {r : α} (ha : ∀ h, a h = r) (hb : ∀ h, b h = r) :
    dite p a b = r := by
  split
  · exact ha _
  · exact hb _

/-- The column of the main relaid-out weights that holds column `n`. -/
def colM (n : ℕ) : ℕ :=
  if n < 3072 then 4608 + n else if n < 4608 then 2304 + (n - 3072) else if n < 4864 then n - 4608
  else if n < 5120 then 768 + (n - 4864) else if n < 5376 then 1536 + (n - 5120)
  else if n < 5888 then 3840 + (((n - 5376) % 128 / 64 * 4 + (n - 5376) / 128) * 64 + (n - 5376) % 64)
  else 4352 + (n - 5888)

theorem colM_lt (n : ℕ) (h : n < 6144) : colM n < 7680 := by
  unfold colM; split_ifs <;> omega

theorem w_eq (c : Dev nD) (k : Fin 1024) (a b : Fin 7680) (h : a.val = b.val) :
    (m ((c.tc : Thread nD τ).loc main_arg3) : FVec Ideal S1024x7680 .f32) (ix2 k a)
      = (m ((c.tc : Thread nD τ).loc main_arg3) : FVec Ideal S1024x7680 .f32) (ix2 k b) := by
  rw [Fin.ext h]

set_option maxHeartbeats 4000000 in
theorem wmain_eq (c : Dev nD) (k : Fin 1024) (n : Fin 6144) :
    (V m c main_v50 : FVec Ideal S1024x6144 .bf16) (ix2 k n) = (m ((c.tc : Thread nD τ).loc main_arg3) : FVec Ideal S1024x7680 .f32) (ix2 k ⟨colM n.val, colM_lt _ n.isLt⟩) := by
  have hn := n.isLt
  unfold V
  after_reads_simp
  dsimp only [Matrix.cons_val]
  clean_types
  pointwise
  by_cases h1 : n.val < 3072
  · refine Eq.trans (dif_pos h1) ?_
    after_reads_simp
    pointwise
    exact w_eq m c k _ _ (by simp only [colM]; split_ifs <;> omega)
  refine Eq.trans (dif_neg h1) ?_
  by_cases h2 : n.val - 3072 < 1536
  · refine Eq.trans (dif_pos h2) ?_
    after_reads_simp
    pointwise
    exact w_eq m c k _ _ (by simp only [colM]; split_ifs <;> omega)
  refine Eq.trans (dif_neg h2) ?_
  by_cases h3 : n.val - 3072 - 1536 < 768
  · refine Eq.trans (dif_pos h3) ?_
    after_reads_simp
    dsimp only [Matrix.cons_val]
    pointwise
    refine dite_eq_of (fun g => ?_) fun g => dite_eq_of (fun g' => ?_) fun g' => ?_
    all_goals
      rw [StableHlo.unary_result']
      after_reads_simp
      pointwise
      exact w_eq m c k _ _ (by simp only [colM]; split_ifs <;> omega)
  refine Eq.trans (dif_neg h3) ?_
  by_cases h4 : n.val - 3072 - 1536 - 768 < 512
  · refine Eq.trans (dif_pos h4) ?_
    after_reads_simp
    have hj : ((n.val - 3072 - 1536 - 768) % 128 / 64 * 4 + (n.val - 3072 - 1536 - 768) / 128) * 64 + (n.val - 3072 - 1536 - 768) % 64 < 512 := by omega
    refine Eq.trans (gather_at _ _ _ _ ⟨_, hj⟩ ?_) ?_
    · dsimp only [Matrix.cons_val]
      clean_types
      pointwise
      refine wrap_small _ hj _ ?_
      exact dite_eq_of (fun h => (tbl0 m c _).trans (congrArg (BitVec.ofNat 32) (by dsimp only; omega))) fun h0 =>
        dite_eq_of (fun h => (tbl1 m c _).trans (congrArg (BitVec.ofNat 32) (by dsimp only; omega))) fun h1 =>
        dite_eq_of (fun h => (tbl2 m c _).trans (congrArg (BitVec.ofNat 32) (by dsimp only; omega))) fun h2 =>
        dite_eq_of (fun h => (tbl3 m c _).trans (congrArg (BitVec.ofNat 32) (by dsimp only; omega))) fun h3 =>
        dite_eq_of (fun h => (tbl4 m c _).trans (congrArg (BitVec.ofNat 32) (by dsimp only; omega))) fun h4 =>
        dite_eq_of (fun h => (tbl5 m c _).trans (congrArg (BitVec.ofNat 32) (by dsimp only; omega))) fun h5 =>
        dite_eq_of (fun h => (tbl6 m c _).trans (congrArg (BitVec.ofNat 32) (by dsimp only; omega))) fun h6 =>
        (tbl7 m c ⟨_, _⟩).trans (congrArg (BitVec.ofNat 32) (by dsimp only; omega))
    · pointwise
      exact w_eq m c k _ _ (by simp only [colM]; split_ifs <;> omega)
  refine Eq.trans (dif_neg h4) ?_
  after_reads_simp
  pointwise
  exact w_eq m c k _ _ (by simp only [colM]; split_ifs <;> omega)
end Cert.Proj
end
-- ==== Proof.Proj.lean ====
module
public import proofs.«01_k».proof.Proof.ProjWeights
public import Idealize.ShloMosaic.Lib.Pipeline.ValueKit.Held
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Proj
open Cert.Kernel2Ideal Cert.Kernel2Ideal.Gen
variable (m : (ℓ : Loc nD τ sig) → Buf (Elt Ideal) ℓ)

/-- The modulated projection at its index: the row of `x (1 + scale) + shift` against column `colM n` of the weights. -/
def PROJ (x : FVec Ideal S16x2048x1024 .f32) (sc sh : FVec Ideal S16x1x1024 .f32) (w : FVec Ideal S1024x7680 .f32)
    (b : Fin 16) (s : Fin 2048) (n : Fin 6144) : EReal :=
  ∑ k : Fin 1024, (x (ix3 b s k) * (1 + sc (ix3 b (0 : Fin 1) k)) + sh (ix3 b (0 : Fin 1) k)) * w (ix2 k ⟨colM n.val, colM_lt _ n.isLt⟩)

theorem idx : ∀ t : Fin cfg0.N, win0_0.index t = ![t.val / 8, (t.val / 4) % 2, 0] ∧ win0_1.index t = ![t.val / 8, 0, 0]
    ∧ win0_2.index t = ![t.val / 8, 0, 0] ∧ win0_3.index t = ![0, t.val % 4] ∧ win0_4.index t = ![t.val / 8, (t.val / 4) % 2, t.val % 4] :=
  (by decide +kernel : ∀ t : Fin grid0.N, _)

/-- The modulated rows the scratch holds at a point: those of the first point of its run of four. -/
theorem held (c : Dev nD) (t : Fin cfg0.N) (i : S1024x1024.Idx) :
    (outsAt0 m c t.val t.isLt).2 i
      = (fun t : Fin cfg0.N => k0_pay1 (iblk m c 0 t) (iblk m c 1 t) (iblk m c 2 t)) ⟨4 * (t.val / 4), Pipeline.run_start_lt t⟩ i := by
  refine Pipeline.eq_of_write_hold_apply (fun n h => (outsAt0 m c n h).2) 4 (fun t => k0_pay1 (iblk m c 0 t) (iblk m c 1 t) (iblk m c 2 t)) ?_ ?_ t i
  · intro t h i
    rw [outsAt0_A m c t h]
    frame_out
  · intro t h i
    rw [outsAt0_B m c t h]
    rfl

theorem stored (c : Dev nD) (t : Fin cfg0.N) (y : S1x1024x1536.Idx) :
    (outsAt0 m c t.val t.isLt).1 y = k0_pay2 (outsAt0 m c t.val t.isLt).2 (iblk m c 3 t) y := by
  by_cases h : t.val % 4 = 0
  · rw [outsAt0_A m c t h]
    dsimp only
    frame_out
  · rw [outsAt0_B m c t h]
    dsimp only
    frame_out
    rw [read_unread_whole]
    rfl

theorem final (c : Dev nD) : (dats m 0 c).arrAt 4 (cfgs 0).N
    = fun i : S16x2048x6144.Idx => PROJ (m ((c.tc : Thread nD τ).loc main_arg0)) (m ((c.tc : Thread nD τ).loc main_arg1)) (m ((c.tc : Thread nD τ).loc main_arg2)) (m ((c.tc : Thread nD τ).loc main_arg3)) (i 0) (i 1) (i 2) := by
  refine (dats m 0 c).arrAt_eq_of_covers 4 _ (by decide +kernel) fun t _ y => ?_
  blk_simp
  rw [after0_4]
  rw [stored]
  obtain ⟨y0, y1, y2, rfl⟩ : ∃ (a : Fin 1) (b : Fin 1024) (d : Fin 1536), y = ix3 a b d := ⟨y 0, y 1, y 2, by funext a; match a with | ⟨0, _⟩ => rfl | ⟨1, _⟩ => rfl | ⟨2, _⟩ => rfl⟩
  pointwise [k0_pay2, PROJ]
  simp only [held]
  pointwise [k0_pay1]
  refine Finset.sum_congr (M := EReal) rfl fun k _ => ?_
  have hw := wmain_eq m c k ⟨((win0_4.blk t).view.emb (ix3 y0 y1 y2) 2).val, ((win0_4.blk t).view.emb (ix3 y0 y1 y2) 2).isLt⟩
  rw [← hw]
  have idx' := idx ⟨4 * (t.val / 4), Pipeline.run_start_lt t⟩
  blk_point [iblk, idx t, idx']
end Cert.Proj
end
-- ==== Proof.ProjRef.lean ====
module
public import proofs.«01_k».proof.Proof.Proj
public import proofs.«01_k».proof.Proof.Gen.Reference2Ideal.Read
@[expose] public section
set_option maxRecDepth 16384
noncomputable section
open Idealize.ShloMosaic Idealize.ShloMosaic.TcCoe Idealize.SL.Sem
namespace Cert.Proj
open Cert.Reference2Ideal Cert.Reference2Ideal.Gen Cert.Reference2Ideal.Read
variable (x : FVec Ideal S16x2048x1024 .f32) (sc sh : FVec Ideal S16x1x1024 .f32) (w : FVec Ideal S1024x7680 .f32)

/-- The reference's projection before its columns are rearranged. -/
theorem proj_row (b : Fin 16) (s : Fin 2048) (q : Fin 7680) : (val_main_v6 (F := Ideal) x sc sh w : FVec Ideal S16x2048x7680 .f32) (ix3 b s q)
    = ∑ k : Fin 1024, (x (ix3 b s k) * (1 + sc (ix3 b (0 : Fin 1) k)) + sh (ix3 b (0 : Fin 1) k)) * w (ix2 k q) := by
  pointwise [val_main_v6, val_main_v5, val_main_v4, val_main_v3, val_main_v2, val_main_v1, val_main_v0, val_main_cst]

theorem proj_col (b : Fin 16) (s : Fin 2048) (q : Fin 7680) (n : Fin 6144) (h : q.val = colM n.val) :
    (val_main_v6 (F := Ideal) x sc sh w : FVec Ideal S16x2048x7680 .f32) (ix3 b s q) = PROJ x sc sh w b s n := by
  rw [proj_row]; unfold PROJ
  rw [show q = ⟨colM n.val, colM_lt _ n.isLt⟩ from Fin.ext h]

theorem regroup (b s v p d : ℕ) (hs : s < 2048) (hv : v < 2) (hp : p < 4) (hd : d < 64) :
    ((((b * 2048 + s) * 2 + v) * 4 + p) * 64 + d) / 1048576 = b ∧ ((((b * 2048 + s) * 2 + v) * 4 + p) * 64 + d) / 512 % 2048 = s
      ∧ ((((b * 2048 + s) * 2 + v) * 4 + p) * 64 + d) % 512 = (v * 4 + p) * 64 + d := by
  omega

/-- The reference's regrouped query columns. -/
theorem query_col (b : Fin 16) (s : Fin 2048) (j : Fin 512) (q : Fin 7680) (hq : q.val = 3840 + (((j.val % 128) / 64 * 4 + j.val / 128) * 64 + j.val % 64)) :
    (val_main_v16 (F := Ideal) x sc sh w : FVec Ideal S16x2048x512 .f32) (ix3 b s j) = (val_main_v6 (F := Ideal) x sc sh w : FVec Ideal S16x2048x7680 .f32) (ix3 b s q) := by
  have hb := b.isLt
  have hs := s.isLt
  have hj := j.isLt
  have e16 : idx_main_v16 (ix3 b s j) = ix5 b s (⟨j.val / 128, by omega⟩ : Fin 4) (⟨j.val % 128 / 64, by omega⟩ : Fin 2) (⟨j.val % 64, by omega⟩ : Fin 64) := by
    funext a; apply Fin.ext
    match a with
    | ⟨0, _⟩ => show ((b.val * 2048 + s.val) * 512 + j.val) / 1048576 = b.val; omega
    | ⟨1, _⟩ => show ((b.val * 2048 + s.val) * 512 + j.val) / 512 % 2048 = s.val; omega
    | ⟨2, _⟩ => show ((b.val * 2048 + s.val) * 512 + j.val) / 128 % 4 = j.val / 128; omega
    | ⟨3, _⟩ => show ((b.val * 2048 + s.val) * 512 + j.val) / 64 % 2 = j.val % 128 / 64; omega
    | ⟨4, _⟩ => show ((b.val * 2048 + s.val) * 512 + j.val) % 64 = j.val % 64; omega
  rw [val_main_v16_apply, e16, val_main_v15_apply, val_main_v14_apply, val_main_v11_apply]
  congr 1
  have hv : j.val % 128 / 64 < 2 := by omega
  have hp : j.val / 128 < 4 := by omega
  have hd : j.val % 64 < 64 := by omega
  obtain ⟨a0, a1, a2⟩ := regroup b.val s.val (j.val % 128 / 64) (j.val / 128) (j.val % 64) hs hv hp hd
  funext a; apply Fin.ext
  match a with
  | ⟨0, _⟩ => exact a0
  | ⟨1, _⟩ => exact a1
  | ⟨2, _⟩ => exact (congrArg (3840 + ·) a2).trans hq.symm

theorem ref_eq (b : Fin 16) (s : Fin 2048) (n : Fin 6144) : (val_main_v18 (F := Ideal) x sc sh w : FVec Ideal S16x2048x6144 .bf16) (ix3 b s n)
    = PROJ x sc sh w b s n := by
  have hn := n.isLt
  rw [val_main_v18_apply]
  show (val_main_v17 (F := Ideal) x sc sh w : FVec Ideal S16x2048x6144 .f32) (ix3 b s n) = _
  unfold val_main_v17
  generalize e : (val_main_v6 (F := Ideal) x sc sh w : FVec Ideal S16x2048x7680 .f32) = P
  pointwise
  refine dite_eq_of (fun h0 => ?_) fun h0 => dite_eq_of (fun h1 => ?_) fun h1 => dite_eq_of (fun h2 => ?_) fun h2 =>
    dite_eq_of (fun h3 => ?_) fun h3 => dite_eq_of (fun h4 => ?_) fun h4 => dite_eq_of (fun h5 => ?_) fun h5 => ?_
  case refine_6 =>
    refine (query_col x sc sh w b s _ ⟨colM n.val, colM_lt _ hn⟩ ?_).trans (proj_col x sc sh w b s _ n rfl)
    simp only [colM]; split_ifs <;> omega
  all_goals
    pointwise [val_main_v13, val_main_v12, val_main_v10, val_main_v9, val_main_v8, val_main_v7]
    exact proj_col x sc sh w b s _ n (by simp only [colM]; split_ifs <;> omega)
end Cert.Proj
end
-- ==== Proof.SwaA.lean ====
module
public import proofs.«01_k».proof.Proof.Gen.KernelIdeal.Value
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Swa
open Cert.KernelIdeal Cert.KernelIdeal.Gen
variable (m : (ℓ : Loc nD τ sig) → Buf (Elt Ideal) ℓ)

/-- The padded rotated keys of a batch element, as the kernel leaves them in its scratch. -/
def KS (x0 : FVec Ideal S1x2048x768 .bf16) (x1 x2 : FVec Ideal S2048x128 .f32) : Vec Ideal S2304x128 .bf16 :=
  View.canon (Val := Elt Ideal) (e := .bf16)
    [⟨Rect.unit ![128, 0] ![2048, 128] inb_S2304x128_S2048x128_128_0,
        k0_pay12 (F := Ideal) k0_pay2 (k0_pay5 x1) (k0_pay6 x2) (View.ld (Val := Elt Ideal) (e' := .bf16) x0 (Rect.unit ![0, 0, 512] ![1, 2048, 128] inb_S1x2048x768_S1x2048x128_0_0_512))⟩,
      ⟨Rect.unit ![2176, 0] ![128, 128] inb_S2304x128_S128x128_2176_0, k0_pay9 (F := Ideal)⟩,
      ⟨Rect.unit ![0, 0] ![128, 128] inb_S2304x128_S128x128_0_0, k0_pay8 (F := Ideal)⟩]

/-- The padded values. -/
def VS (x0 : FVec Ideal S1x2048x768 .bf16) : Vec Ideal S2304x128 .bf16 :=
  View.canon (Val := Elt Ideal) (e := .bf16)
    [⟨Rect.unit ![128, 0] ![2048, 128] inb_S2304x128_S2048x128_128_0,
        k0_pay13 (F := Ideal) (View.ld (Val := Elt Ideal) (e' := .bf16) x0 (Rect.unit ![0, 0, 640] ![1, 2048, 128] inb_S1x2048x768_S1x2048x128_0_0_640))⟩,
      ⟨Rect.unit ![2176, 0] ![128, 128] inb_S2304x128_S128x128_2176_0, k0_pay11 (F := Ideal) (k0_pay7 (F := Ideal))⟩,
      ⟨Rect.unit ![0, 0] ![128, 128] inb_S2304x128_S128x128_0_0, k0_pay10 (F := Ideal)⟩]

/-- The rotated, scaled queries, one slab of 128 lanes per query group. -/
def QS (x0 : FVec Ideal S1x2048x768 .bf16) (x1 x2 : FVec Ideal S2048x128 .f32) : Vec Ideal S4x2048x128 .bf16 :=
  View.canon (Val := Elt Ideal) (e := .bf16)
    [⟨Rect.unit ![3, 0, 0] ![1, 2048, 128] inb_S4x2048x128_S1x2048x128_3_0_0,
        k0_pay18 (F := Ideal) k0_pay2 (k0_pay5 x1) (k0_pay6 x2) (View.ld (Val := Elt Ideal) (e' := .bf16) x0 (Rect.unit ![0, 0, 384] ![1, 2048, 128] inb_S1x2048x768_S1x2048x128_0_0_384))⟩,
      ⟨Rect.unit ![2, 0, 0] ![1, 2048, 128] inb_S4x2048x128_S1x2048x128_2_0_0,
        k0_pay17 (F := Ideal) k0_pay2 (k0_pay5 x1) (k0_pay6 x2) (View.ld (Val := Elt Ideal) (e' := .bf16) x0 (Rect.unit ![0, 0, 256] ![1, 2048, 128] inb_S1x2048x768_S1x2048x128_0_0_256))⟩,
      ⟨Rect.unit ![1, 0, 0] ![1, 2048, 128] inb_S4x2048x128_S1x2048x128_1_0_0,
        k0_pay16 (F := Ideal) k0_pay2 (k0_pay5 x1) (k0_pay6 x2) (View.ld (Val := Elt Ideal) (e' := .bf16) x0 (Rect.unit ![0, 0, 128] ![1, 2048, 128] inb_S1x2048x768_S1x2048x128_0_0_128))⟩,
      ⟨Rect.unit ![0, 0, 0] ![1, 2048, 128] inb_S4x2048x128_S1x2048x128_0_0_0,
        k0_pay15 (F := Ideal) (k0_pay14 (F := Ideal) k0_pay2 (k0_pay5 x1) (k0_pay6 x2) (View.ld (Val := Elt Ideal) (e' := .bf16) x0 (Rect.unit ![0, 0, 0] ![1, 2048, 128] inb_S1x2048x768_S1x2048x128_0_0_0)))⟩]

/-- The sinks of the first key head's query heads, one per row of the four stacked query groups; then the second's. -/
def SK1 (x3 : FVec Ideal S8x128 .f32) : FVec Ideal S512x1 .f32 :=
  k0_pay19 (View.ld (Val := Elt Ideal) (e' := .f32) x3 (Rect.unit ![0, 0] ![1, 1] inb_S8x128_S1x1_0_0)) (View.ld (Val := Elt Ideal) (e' := .f32) x3 (Rect.unit ![1, 0] ![1, 1] inb_S8x128_S1x1_1_0))
    (View.ld (Val := Elt Ideal) (e' := .f32) x3 (Rect.unit ![2, 0] ![1, 1] inb_S8x128_S1x1_2_0)) (View.ld (Val := Elt Ideal) (e' := .f32) x3 (Rect.unit ![3, 0] ![1, 1] inb_S8x128_S1x1_3_0))

def SK2 (x3 : FVec Ideal S8x128 .f32) : FVec Ideal S512x1 .f32 :=
  k0_pay21 (k0_pay20 (View.ld (Val := Elt Ideal) (e' := .f32) x3 (Rect.unit ![4, 0] ![1, 1] inb_S8x128_S1x1_4_0))) (View.ld (Val := Elt Ideal) (e' := .f32) x3 (Rect.unit ![5, 0] ![1, 1] inb_S8x128_S1x1_5_0))
    (View.ld (Val := Elt Ideal) (e' := .f32) x3 (Rect.unit ![6, 0] ![1, 1] inb_S8x128_S1x1_6_0)) (View.ld (Val := Elt Ideal) (e' := .f32) x3 (Rect.unit ![7, 0] ![1, 1] inb_S8x128_S1x1_7_0))

theorem inbK (o : ℕ) (ho : o ≤ 1920) : ∀ a : Fin 2, ![o, 0] a + ![384, 128] a ≤ ![2304, 128] a := by
  intro a; fin_cases a <;> simp <;> omega

theorem inbQ (p o : ℕ) (hp : p < 4) (ho : o ≤ 1920) : ∀ a : Fin 3, ![p, o, 0] a + ![1, 128, 128] a ≤ ![4, 2048, 128] a := by
  intro a; fin_cases a <;> simp <;> omega

/-- One block of 128 positions: all four query groups against the window of 384 padded positions from `o`. -/
def BLK (s1 s2 : FVec Ideal S512x1 .f32) (K V : Vec Ideal S2304x128 .bf16) (Q : Vec Ideal S4x2048x128 .bf16) (o : ℕ) (ho : o ≤ 1920) :
    FVec Ideal S512x128 .bf16 :=
  k0_pay42 k0_pay3 k0_pay4 s1 s2 (View.ld (Val := Elt Ideal) (e' := .bf16) K (Rect.unit ![o, 0] ![384, 128] (inbK o ho))) (View.ld (Val := Elt Ideal) (e' := .bf16) V (Rect.unit ![o, 0] ![384, 128] (inbK o ho)))
    (k0_pay39 (View.ld (Val := Elt Ideal) (e' := .bf16) Q (Rect.unit ![0, o, 0] ![1, 128, 128] (inbQ 0 o (by omega) ho))) (View.ld (Val := Elt Ideal) (e' := .bf16) Q (Rect.unit ![1, o, 0] ![1, 128, 128] (inbQ 1 o (by omega) ho)))
      (View.ld (Val := Elt Ideal) (e' := .bf16) Q (Rect.unit ![2, o, 0] ![1, 128, 128] (inbQ 2 o (by omega) ho))) (View.ld (Val := Elt Ideal) (e' := .bf16) Q (Rect.unit ![3, o, 0] ![1, 128, 128] (inbQ 3 o (by omega) ho))))
    (k0_pay40 (BitVec.ofNat 32 o))
    (k0_pay41 k0_pay3 (View.ld (Val := Elt Ideal) (e' := .bf16) K (Rect.unit ![o, 0] ![384, 128] (inbK o ho))) (View.ld (Val := Elt Ideal) (e' := .bf16) Q (Rect.unit ![0, o, 0] ![1, 128, 128] (inbQ 0 o (by omega) ho)))
      (View.ld (Val := Elt Ideal) (e' := .bf16) Q (Rect.unit ![1, o, 0] ![1, 128, 128] (inbQ 1 o (by omega) ho)))
      (View.ld (Val := Elt Ideal) (e' := .bf16) Q (Rect.unit ![2, o, 0] ![1, 128, 128] (inbQ 2 o (by omega) ho))) (View.ld (Val := Elt Ideal) (e' := .bf16) Q (Rect.unit ![3, o, 0] ![1, 128, 128] (inbQ 3 o (by omega) ho))))
    (Scalar.ofBits .bf16 0x0000#16)

/-- The rows of one query group of a block, as the kernel stores them. -/
def PAY (s1 s2 : FVec Ideal S512x1 .f32) (K V : Vec Ideal S2304x128 .bf16) (Q : Vec Ideal S4x2048x128 .bf16) (o p : ℕ) (ho : o ≤ 1920) (hp : S512x128.Slices ![p, 0] S128x128) :
    FVec Ideal S1x128x128 .bf16 :=
  shapeCast S1x128x128 (extractStridedSlice S128x128 ![p, 0] (BLK s1 s2 K V Q o ho) hp) shapeCasts_S128x128_S1x128x128

theorem pay_trans (s1 s2 : FVec Ideal S512x1 .f32) (K V : Vec Ideal S2304x128 .bf16) (Q : Vec Ideal S4x2048x128 .bf16)
    (G : S1x2048x512.Idx → EReal)
    (hG : ∀ (o p : ℕ) (ho : o ≤ 1920) (hp : S512x128.Slices ![p, 0] S128x128) (_ : o % 128 = 0) (_ : p % 128 = 0) (x : S1x128x128.Idx) (y : S1x2048x512.Idx), (y 1 : ℕ) = o + x 1 → (y 2 : ℕ) = p + x 2 →
      PAY s1 s2 K V Q o p ho hp x = G y)
    (y : S1x2048x512.Idx) (x : S1x128x128.Idx) (o p : ℕ) (h1 : (y 1 : ℕ) = o + x 1) (h2 : (y 2 : ℕ) = p + x 2) (ho : o ≤ 1920) (hp : S512x128.Slices ![p, 0] S128x128) (ho' : o % 128 = 0) (hp' : p % 128 = 0)
    (P : FVec Ideal S1x128x128 .bf16) (hP : P = PAY s1 s2 K V Q o p ho hp) : P x = G y := by
  rw [hP]; exact hG o p ho hp ho' hp' x y h1 h2

set_option maxHeartbeats 4000000 in
theorem point_of (c : Dev nD) (t : Fin cfg0.N) (G : S1x2048x512.Idx → EReal)
    (hG : ∀ (o p : ℕ) (ho : o ≤ 1920) (hp : S512x128.Slices ![p, 0] S128x128) (_ : o % 128 = 0) (_ : p % 128 = 0) (x : S1x128x128.Idx) (y : S1x2048x512.Idx), (y 1 : ℕ) = o + x 1 → (y 2 : ℕ) = p + x 2 →
      PAY (SK1 (iblk m c 3 t)) (SK2 (iblk m c 3 t)) (KS (iblk m c 0 t) (iblk m c 1 t) (iblk m c 2 t)) (VS (iblk m c 0 t))
        (QS (iblk m c 0 t) (iblk m c 1 t) (iblk m c 2 t)) o p ho hp x = G y)
    (y : S1x2048x512.Idx) : outsAt0 m c t y = G y := by
  unfold outsAt0
  frame_open
  simp only [View.readCov_eq_canon']
  frame_out
  have hK := KS.eq_1 (iblk m c 0 t) (iblk m c 1 t) (iblk m c 2 t)
  have hV := VS.eq_1 (iblk m c 0 t)
  have hQ := QS.eq_1 (iblk m c 0 t) (iblk m c 1 t) (iblk m c 2 t)
  have hS1 := SK1.eq_1 (iblk m c 3 t)
  have hS2 := SK2.eq_1 (iblk m c 3 t)
  simp only [← hK, ← hV, ← hQ, ← hS1, ← hS2]
  generalize KS (iblk m c 0 t) (iblk m c 1 t) (iblk m c 2 t) = K at *
  generalize VS (iblk m c 0 t) = V at *
  generalize QS (iblk m c 0 t) (iblk m c 1 t) (iblk m c 2 t) = Q at *
  generalize SK1 (iblk m c 3 t) = s1 at *
  generalize SK2 (iblk m c 3 t) = s2 at *
  clear hK hV hQ hS1 hS2
  canon_tiles x h
  all_goals
    first
    | refine pay_trans s1 s2 K V Q G hG y x _ _ h1 h2 (by decide) (by decide) (by decide) (by decide) _ ?_
    | refine pay_trans s1 s2 K V Q G hG y x _ _ h1 (h2.trans (Nat.zero_add _).symm) (by decide) (by decide) (by decide) (by decide) _ ?_
    | refine pay_trans s1 s2 K V Q G hG y x _ _ (h1.trans (Nat.zero_add _).symm) h2 (by decide) (by decide) (by decide) (by decide) _ ?_
    | refine pay_trans s1 s2 K V Q G hG y x _ _ (h1.trans (Nat.zero_add _).symm) (h2.trans (Nat.zero_add _).symm) (by decide) (by decide) (by decide) (by decide) _ ?_
    rfl
end Cert.Swa
end
-- ==== Proof.SwaMath.lean ====
module
public import Idealize.ShloMosaic.Lib.Pointwise
public import Idealize.ShloMosaic.Lib.IdealHost
@[expose] public section
set_option maxRecDepth 16384
noncomputable section
open Idealize.ShloMosaic
namespace Cert.Swa

/-- The fill of the masked scores. -/
def NEG : EReal := Ideal.ofBits FTy.f32 4048155338#32
/-- What the maximum over the scores starts from. -/
def BOT : EReal := Ideal.ofBits FTy.f32 4286578688#32
/-- The scale of the scores, one eighth. -/
def SCL : EReal := Ideal.ofBits FTy.f32 1040187392#32

/-- The rotary angle of position `s` at frequency `j`. -/
def ANG (s j : ℕ) : EReal :=
  FloatOps.sitofp (F := Ideal) FTy.f32 (BitVec.ofNat 32 s) * Ideal.pow (Ideal.ofBits FTy.f32 1176256512#32)
    (Ideal.div (-(Ideal.ofBits FTy.f32 1073741824#32 * FloatOps.sitofp (F := Ideal) FTy.f32 (BitVec.ofNat 32 j))) (Ideal.ofBits FTy.f32 1115684864#32))

/-- The row maximum with the sink. -/
def rowMax (sc : Fin 384 → EReal) (sk : EReal) : EReal := max (Finset.fold max BOT sc Finset.univ) sk
/-- The denominator with the sink. -/
def rowDen (sc : Fin 384 → EReal) (sk : EReal) : EReal := (∑ x, Ideal.exp (sc x - rowMax sc sk)) + Ideal.exp (sk - rowMax sc sk)
/-- The attention row, divided after the weighted sum. -/
def attLate (sc : Fin 384 → EReal) (sk : EReal) (v : Fin 384 → EReal) : EReal :=
  Ideal.div (∑ x, Ideal.exp (sc x - rowMax sc sk) * v x) (rowDen sc sk)
/-- The attention row, divided before it. -/
def attEarly (sc : Fin 384 → EReal) (sk : EReal) (v : Fin 384 → EReal) : EReal :=
  ∑ x, v x * Ideal.div (Ideal.exp (sc x - rowMax sc sk)) (rowDen sc sk)

/-- An extended real that is a real. -/
def IsR (x : EReal) : Prop := ∃ r : ℝ, x = (r : EReal)

theorem IsR.mul {x y : EReal} (hx : IsR x) (hy : IsR y) : IsR (x * y) := by
  obtain ⟨a, rfl⟩ := hx; obtain ⟨b, rfl⟩ := hy; exact ⟨a * b, (EReal.coe_mul a b).symm⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.zero : IsR 0 := ⟨0, rfl⟩
theorem IsR.sum {n : ℕ} (f : Fin n → EReal) (h : ∀ k, IsR (f k)) : IsR (∑ k, f k) :=
  Finset.sum_induction f IsR (fun _ _ => IsR.add) IsR.zero fun k _ => h k
theorem IsR.lt_top {x : EReal} (h : IsR x) : x < ⊤ := by obtain ⟨a, rfl⟩ := h; exact EReal.coe_lt_top a
theorem IsR.bot_lt {x : EReal} (h : IsR x) : ⊥ < x := by obtain ⟨a, rfl⟩ := h; exact EReal.bot_lt_coe a
theorem IsR.of_lt {x : EReal} (h1 : ⊥ < x) (h2 : x < ⊤) : IsR x := by
  induction x using EReal.rec with
  | bot => exact absurd h1 (lt_irrefl _)
  | top => exact absurd h2 (lt_irrefl _)
  | coe r => exact ⟨r, rfl⟩

theorem neg_isR : IsR NEG := by
  unfold NEG; exact ⟨_, by simp [Ideal.ofBits, Ideal.ieee]; rfl⟩
theorem bot_lt_top : BOT < ⊤ := by
  unfold BOT; simp [Ideal.ofBits, Ideal.ieee]
theorem scl_eq : SCL = ((1 / 8 : ℝ) : EReal) := by
  unfold SCL; simp [Ideal.ofBits, Ideal.ieee, -EReal.coe_mul]; norm_num

theorem coe_sum_fin {n : ℕ} (p : Fin n → ℝ) : ((∑ x, p x : ℝ) : EReal) = ∑ x, (p x : EReal) := by
  classical
  induction (Finset.univ : Finset (Fin n)) using Finset.induction_on with
  | empty => simp
  | insert a s ha ih => rw [Finset.sum_insert ha, Finset.sum_insert ha, EReal.coe_add, ih]

/-- A nonnegative real factor goes through a finite sum of extended reals. -/
theorem sum_mul_real {n : ℕ} (f : Fin n → EReal) (r : ℝ) (hr : 0 ≤ r) : (∑ k, f k) * (r : EReal) = ∑ k, f k * (r : EReal) := by
  classical
  induction (Finset.univ : Finset (Fin n)) using Finset.induction_on with
  | empty => simp
  | insert a s ha ih =>
    rw [Finset.sum_insert ha, Finset.sum_insert ha, ← ih,
      EReal.right_distrib_of_nonneg_of_ne_top (by exact_mod_cast hr) (EReal.coe_ne_top r)]

/-- The exponential of an extended real below infinity is a real, not negative; positive at a real. -/
theorem exp_real {x : EReal} (h : x < ⊤) : ∃ r : ℝ, 0 ≤ r ∧ Ideal.exp x = (r : EReal) := by
  induction x using EReal.rec with
  | bot => exact ⟨0, le_refl _, rfl⟩
  | top => exact absurd h (lt_irrefl _)
  | coe a => exact ⟨Real.exp a, (Real.exp_pos a).le, rfl⟩

theorem exp_pos_real {x : EReal} (h : IsR x) : ∃ r : ℝ, 0 < r ∧ Ideal.exp x = (r : EReal) := by
  obtain ⟨a, rfl⟩ := h
  exact ⟨Real.exp a, Real.exp_pos a, rfl⟩

theorem sub_lt_top_of {x y : EReal} (hx : x < ⊤) (hy : IsR y) : x - y < ⊤ := by
  obtain ⟨b, rfl⟩ := hy
  induction x using EReal.rec with
  | bot => simp
  | top => exact absurd hx (lt_irrefl _)
  | coe a => rw [← EReal.coe_sub]; exact EReal.coe_lt_top _

theorem rowMax_isR (sc : Fin 384 → EReal) (sk : EReal) (hs : ∀ x, IsR (sc x)) (hk : sk < ⊤) : IsR (rowMax sc sk) := by
  refine IsR.of_lt ?_ (max_lt ((Finset.fold_max_lt _).mpr ⟨bot_lt_top, fun x _ => (hs x).lt_top⟩) hk)
  refine lt_of_lt_of_le (hs 0).bot_lt (le_trans ?_ (le_max_left _ _))
  exact (Finset.le_fold_max _).mpr (Or.inr ⟨0, Finset.mem_univ _, le_refl _⟩)

theorem rowDen_pos (sc : Fin 384 → EReal) (sk : EReal) (hs : ∀ x, IsR (sc x)) (hk : sk < ⊤) :
    ∃ r : ℝ, 0 < r ∧ rowDen sc sk = (r : EReal) := by
  have hm := rowMax_isR sc sk hs hk
  choose p hp he using fun x => exp_pos_real ((hs x).sub hm)
  obtain ⟨e, he0, hee⟩ := exp_real (sub_lt_top_of hk hm)
  refine ⟨(∑ x, p x) + e, add_pos_of_pos_of_nonneg (Finset.sum_pos (fun x _ => hp x) ⟨0, Finset.mem_univ _⟩) he0, ?_⟩
  unfold rowDen
  rw [hee, Finset.sum_congr rfl fun x _ => he x, EReal.coe_add, coe_sum_fin]

/-- Dividing before the weighted sum or after it. -/
theorem att_eq (sc : Fin 384 → EReal) (sk : EReal) (v : Fin 384 → EReal) (hs : ∀ x, IsR (sc x)) (hk : sk < ⊤) :
    attLate sc sk v = attEarly sc sk v := by
  obtain ⟨r, hr, he⟩ := rowDen_pos sc sk hs hk
  unfold attLate attEarly
  rw [he]
  have hne : (r : EReal) ≠ 0 := by exact_mod_cast hr.ne'
  simp only [Ideal.div, hne, if_false]
  rw [← EReal.coe_inv, sum_mul_real _ _ (inv_nonneg.mpr hr.le)]
  exact Finset.sum_congr rfl fun x _ => by rw [mul_assoc, mul_left_comm]

end Cert.Swa
end
-- ==== Proof.SwaB.lean ====
module
public import proofs.«01_k».proof.Proof.SwaA
public import proofs.«01_k».proof.Proof.SwaMath
public import Idealize.ShloMosaic.Lib.Tactic.WordOmega
@[expose] public section
set_option maxRecDepth 16384
noncomputable section
open Idealize.ShloMosaic Idealize.ShloMosaic.TcCoe Idealize.SL.Sem
namespace Cert.Swa
open Cert.KernelIdeal Cert.KernelIdeal.Gen

/-- Position `q` of the block at `o` sees position `k` of its window: at most 128 apart, and in the sequence. -/
def inBand (o q k : ℕ) : Prop := k ≤ q + 256 ∧ q ≤ k ∧ 128 ≤ o + k ∧ o + k < 2176
instance (o q k : ℕ) : Decidable (inBand o q k) := by unfold inBand; infer_instance

theorem toInt_ofInt_small (z : ℤ) (h1 : -2147483648 ≤ z) (h2 : z < 2147483648) : (BitVec.ofInt 32 z).toInt = z := by
  rw [BitVec.toInt_ofInt]
  exact Int.bmod_eq_of_le (by omega) (by omega)

theorem slt_int (a b : ℤ) (ha1 : -2147483648 ≤ a) (ha2 : a < 2147483648) (hb1 : -2147483648 ≤ b) (hb2 : b < 2147483648) :
    IntOp.cmpi .slt (BitVec.ofInt 32 a) (BitVec.ofInt 32 b) = if a < b then 1#1 else 0#1 := by
  show BitVec.ofBool (BitVec.slt _ _) = _
  rw [BitVec.slt_eq_decide, toInt_ofInt_small a ha1 ha2, toInt_ofInt_small b hb1 hb2]
  by_cases h : a < b <;> simp [h]

theorem sge_int (a b : ℤ) (ha1 : -2147483648 ≤ a) (ha2 : a < 2147483648) (hb1 : -2147483648 ≤ b) (hb2 : b < 2147483648) :
    IntOp.cmpi .sge (BitVec.ofInt 32 a) (BitVec.ofInt 32 b) = if b ≤ a then 1#1 else 0#1 := by
  show BitVec.ofBool (BitVec.sle _ _) = _
  rw [BitVec.sle_eq_decide, toInt_ofInt_small a ha1 ha2, toInt_ofInt_small b hb1 hb2]
  by_cases h : b ≤ a <;> simp [h]

theorem sle_int (a b : ℤ) (ha1 : -2147483648 ≤ a) (ha2 : a < 2147483648) (hb1 : -2147483648 ≤ b) (hb2 : b < 2147483648) :
    IntOp.cmpi .sle (BitVec.ofInt 32 a) (BitVec.ofInt 32 b) = if a ≤ b then 1#1 else 0#1 := by
  show BitVec.ofBool (BitVec.sle _ _) = _
  rw [BitVec.sle_eq_decide, toInt_ofInt_small a ha1 ha2, toInt_ofInt_small b hb1 hb2]
  by_cases h : a ≤ b <;> simp [h]

theorem addi_int (a b : ℤ) : IntOp.addi (BitVec.ofInt 32 a) (BitVec.ofInt 32 b) = BitVec.ofInt 32 (a + b) := (BitVec.ofInt_add ..).symm
theorem subi_int (a b : ℤ) : IntOp.subi (BitVec.ofInt 32 a) (BitVec.ofInt 32 b) = BitVec.ofInt 32 (a - b) := by
  show BitVec.ofInt 32 a - BitVec.ofInt 32 b = _
  rw [Int.sub_eq_add_neg, BitVec.ofInt_add, BitVec.ofInt_neg, BitVec.sub_eq_add_neg]
theorem absi_int (a : ℤ) (ha1 : -2147483648 < a) (ha2 : a < 2147483648) : IntOp.absi (BitVec.ofInt 32 a) = BitVec.ofInt 32 (a.natAbs : ℤ) := by
  apply BitVec.eq_of_toInt_eq
  rw [toInt_ofInt_small (a.natAbs : ℤ) (by omega) (by omega)]
  show (BitVec.abs _).toInt = _
  rw [BitVec.toInt_abs_eq_natAbs_of_ne_intMin, toInt_ofInt_small a (by omega) ha2]
  · intro h
    have := congrArg BitVec.toInt h
    rw [toInt_ofInt_small a (by omega) ha2] at this
    have h0 : (BitVec.intMin 32).toInt = -2147483648 := by decide
    omega
theorem ofNat_int (n : ℕ) : BitVec.ofNat 32 n = BitVec.ofInt 32 (n : ℤ) := (BitVec.ofInt_natCast ..).symm
theorem and_int (r : ℕ) (hr : r < 512) : IntOp.andi (BitVec.ofNat 32 r) 127#32 = BitVec.ofInt 32 ((r % 128 : ℕ) : ℤ) := by
  rw [← ofNat_int]
  exact (by decide +kernel : ∀ r : Fin 512, IntOp.andi (BitVec.ofNat 32 r.val) 127#32 = BitVec.ofNat 32 (r.val % 128)) ⟨r, hr⟩

theorem mask_at (o : ℕ) (ho : o ≤ 1920) (r : Fin 512) (l : Fin 384) :
    k0_pay40 (BitVec.ofNat 32 o) (ix2 r l) = if inBand o (r.val % 128) l.val then 1#1 else 0#1 := by
  pointwise [k0_pay40]
  have hr := r.isLt
  have hl := l.isLt
  generalize r.val = r at *
  generalize l.val = l at *
  rw [and_int r hr, ofNat_int o, ofNat_int l]
  rw [show Scalar.subi (BitVec.ofInt 32 (o : ℤ)) 128#32 = BitVec.ofInt 32 ((o : ℤ) - 128) from subi_int _ 128]
  rw [addi_int, addi_int, show (0#32) = BitVec.ofInt 32 0 from rfl, show (2048#32) = BitVec.ofInt 32 2048 from rfl,
    show (4294959104#32) = BitVec.ofInt 32 (-8192) from rfl, show (128#32) = BitVec.ofInt 32 128 from rfl,
    slt_int _ _ (by omega) (by omega) (by omega) (by omega), sge_int _ _ (by omega) (by omega) (by omega) (by omega)]
  have key : ∀ z : ℤ, -10000 ≤ z → z < 10000 → IntOp.cmpi .sle (IntOp.absi (IntOp.subi (BitVec.ofInt 32 ((o : ℤ) + ((r % 128 : ℕ) : ℤ))) (BitVec.ofInt 32 z))) (BitVec.ofInt 32 128)
      = if (((o : ℤ) + ((r % 128 : ℕ) : ℤ) - z).natAbs : ℤ) ≤ 128 then 1#1 else 0#1 := by
    intro z h1 h2
    rw [subi_int, absi_int _ (by omega) (by omega), sle_int _ _ (by omega) (by omega) (by omega) (by omega)]
  have hb : inBand o (r % 128) l ↔ (l ≤ r % 128 + 256 ∧ r % 128 ≤ l ∧ 128 ≤ o + l ∧ o + l < 2176) := Iff.rfl
  by_cases h1 : (o : ℤ) - 128 + (l : ℤ) < 0
  · rw [if_pos h1]
    refine (key (-8192) (by omega) (by omega)).trans ?_
    rw [if_neg (by omega), if_neg (by rw [hb]; omega)]
  · rw [if_neg h1]
    by_cases h2 : (2048 : ℤ) ≤ (o : ℤ) - 128 + (l : ℤ)
    · rw [if_pos h2]
      refine (key (-8192) (by omega) (by omega)).trans ?_
      rw [if_neg (by omega), if_neg (by rw [hb]; omega)]
    · rw [if_neg h2]
      refine (key _ (by omega) (by omega)).trans ?_
      by_cases h3 : (((o : ℤ) + ((r % 128 : ℕ) : ℤ) - ((o : ℤ) - 128 + (l : ℤ))).natAbs : ℤ) ≤ 128
      · rw [if_pos h3, if_pos (by rw [hb]; omega)]
      · rw [if_neg h3, if_neg (by rw [hb]; omega)]

theorem low_lane (c : Fin 128) : IntOp.cmpi CmpIPredicate.slt (BitVec.ofNat 32 c.val) 64#32 = if c.val < 64 then 1#1 else 0#1 := by
  revert c; decide +kernel

theorem high_lane (c : Fin 128) : IntOp.xori (IntOp.cmpi CmpIPredicate.slt (BitVec.ofNat 32 c.val) 64#32) 1#1 = if c.val < 64 then 0#1 else 1#1 := by
  revert c; decide +kernel

theorem lo_at (c : Fin 128) : k0_pay2 (ix2 (0 : Fin 1) c) = if c.val % 64 < 32 then 1#1 else 0#1 := by
  pointwise [k0_pay2]
  revert c; decide +kernel

theorem sum_low (f : Fin 128 → EReal) : (∑ c : Fin 128, Scalar.select (IntOp.cmpi CmpIPredicate.slt (BitVec.ofNat 32 c.val) 64#32) (f c) 0)
    = ∑ d : Fin 64, f ⟨d.val, by omega⟩ := by
  rw [show (∑ c : Fin 128, Scalar.select (IntOp.cmpi CmpIPredicate.slt (BitVec.ofNat 32 c.val) 64#32) (f c) 0)
    = ∑ c : Fin 128, if c.val < 64 then f c else 0 from Finset.sum_congr rfl fun c _ => by rw [low_lane]; split_ifs <;> rfl]
  rw [Fin.sum_univ_add (a := 64) (b := 64) (fun c : Fin 128 => if c.val < 64 then f c else 0)]
  simp
  rfl

theorem sum_high (f : Fin 128 → EReal) : (∑ c : Fin 128, Scalar.select (IntOp.xori (IntOp.cmpi CmpIPredicate.slt (BitVec.ofNat 32 c.val) 64#32) 1#1) (f c) 0)
    = ∑ d : Fin 64, f ⟨64 + d.val, by omega⟩ := by
  rw [show (∑ c : Fin 128, Scalar.select (IntOp.xori (IntOp.cmpi CmpIPredicate.slt (BitVec.ofNat 32 c.val) 64#32) 1#1) (f c) 0)
    = ∑ c : Fin 128, if c.val < 64 then 0 else f c from Finset.sum_congr rfl fun c _ => by rw [high_lane]; split_ifs <;> rfl]
  rw [Fin.sum_univ_add (a := 64) (b := 64) (fun c : Fin 128 => if c.val < 64 then 0 else f c)]
  simp
  rfl

/-- The scores of one row against the window, of the key head whose lanes start at `h`. -/
def KSC (K : Vec Ideal S2304x128 .bf16) (Q : Vec Ideal S4x2048x128 .bf16) (o : ℕ) (ho : o ≤ 1920) (r : Fin 512) (h : ℕ) (hh : h ≤ 64) (x : Fin 384) : EReal :=
  if inBand o (r.val % 128) x.val then
    ∑ d : Fin 64, Q (ix3 (⟨r.val / 128, by omega⟩ : Fin 4) (⟨o + r.val % 128, by omega⟩ : Fin 2048) (⟨h + d.val, by omega⟩ : Fin 128))
      * K (ix2 (⟨o + x.val, by omega⟩ : Fin 2304) (⟨h + d.val, by omega⟩ : Fin 128))
  else NEG

theorem q_congr (Q : Vec Ideal S4x2048x128 .bf16) (a a' : Fin 4) (b b' : Fin 2048) (l : Fin 128) (h1 : a.val = a'.val) (h2 : b.val = b'.val) :
    Q (ix3 a b l) = Q (ix3 a' b' l) := by rw [Fin.ext h1, Fin.ext h2]

theorem q_at (Q : Vec Ideal S4x2048x128 .bf16) (o : ℕ) (ho : o ≤ 1920) (r : Fin 512) (l : Fin 128) :
    k0_pay39 (F := Ideal) (View.ld (Val := Elt Ideal) (e' := .bf16) Q (Rect.unit ![0, o, 0] ![1, 128, 128] (inbQ 0 o (by omega) ho))) (View.ld (Val := Elt Ideal) (e' := .bf16) Q (Rect.unit ![1, o, 0] ![1, 128, 128] (inbQ 1 o (by omega) ho)))
      (View.ld (Val := Elt Ideal) (e' := .bf16) Q (Rect.unit ![2, o, 0] ![1, 128, 128] (inbQ 2 o (by omega) ho))) (View.ld (Val := Elt Ideal) (e' := .bf16) Q (Rect.unit ![3, o, 0] ![1, 128, 128] (inbQ 3 o (by omega) ho))) (ix2 r l)
    = Q (ix3 (⟨r.val / 128, by omega⟩ : Fin 4) (⟨o + r.val % 128, by omega⟩ : Fin 2048) l) := by
  pointwise [k0_pay39]
  have hr := r.isLt
  by_cases h1 : r.val < 128
  · exact (dif_pos h1).trans (q_congr Q _ _ _ _ l (by show 0 = r.val / 128; omega) (by show o + r.val = o + r.val % 128; omega))
  refine (dif_neg h1).trans ?_
  by_cases h2 : r.val - 128 < 128
  · exact (dif_pos h2).trans (q_congr Q _ _ _ _ l (by show 1 = r.val / 128; omega) (by show o + (r.val - 128) = o + r.val % 128; omega))
  refine (dif_neg h2).trans ?_
  by_cases h3 : r.val - 128 - 128 < 128
  · exact (dif_pos h3).trans (q_congr Q _ _ _ _ l (by show 2 = r.val / 128; omega) (by show o + (r.val - 128 - 128) = o + r.val % 128; omega))
  refine (dif_neg h3).trans ?_
  exact q_congr Q _ _ _ _ l (by show 3 = r.val / 128; omega) (by show o + (r.val - 128 - 128 - 128) = o + r.val % 128; omega)

theorem sel_one {α : Type} (a b : α) : Scalar.select 1#1 a b = a := rfl

theorem dot_at (K : Vec Ideal S2304x128 .bf16) (Q : Vec Ideal S4x2048x128 .bf16) (o : ℕ) (ho : o ≤ 1920) (r : Fin 512) (x : Fin 384) :
    k0_pay41 (F := Ideal) k0_pay3 (View.ld (Val := Elt Ideal) (e' := .bf16) K (Rect.unit ![o, 0] ![384, 128] (inbK o ho)))
      (View.ld (Val := Elt Ideal) (e' := .bf16) Q (Rect.unit ![0, o, 0] ![1, 128, 128] (inbQ 0 o (by omega) ho))) (View.ld (Val := Elt Ideal) (e' := .bf16) Q (Rect.unit ![1, o, 0] ![1, 128, 128] (inbQ 1 o (by omega) ho)))
      (View.ld (Val := Elt Ideal) (e' := .bf16) Q (Rect.unit ![2, o, 0] ![1, 128, 128] (inbQ 2 o (by omega) ho))) (View.ld (Val := Elt Ideal) (e' := .bf16) Q (Rect.unit ![3, o, 0] ![1, 128, 128] (inbQ 3 o (by omega) ho))) (ix2 r x)
    = ∑ d : Fin 64, Q (ix3 (⟨r.val / 128, by omega⟩ : Fin 4) (⟨o + r.val % 128, by omega⟩ : Fin 2048) (⟨d.val, by omega⟩ : Fin 128))
      * K (ix2 (⟨o + x.val, by omega⟩ : Fin 2304) (⟨d.val, by omega⟩ : Fin 128)) := by
  refine Eq.trans ?_ (sum_low fun c => Q (ix3 (⟨r.val / 128, by omega⟩ : Fin 4) (⟨o + r.val % 128, by omega⟩ : Fin 2048) c)
      * K (ix2 (⟨o + x.val, by omega⟩ : Fin 2304) c))
  refine Eq.trans ?_ (Finset.sum_congr (M := EReal) rfl fun c _ => congrArg (fun z : EReal => Scalar.select (IntOp.cmpi CmpIPredicate.slt (BitVec.ofNat 32 c.val) 64#32)
    (z * K (ix2 (⟨o + x.val, by omega⟩ : Fin 2304) c)) 0) (q_at Q o ho r c))
  pointwise [k0_pay41, k0_pay39, k0_pay3]

theorem blk_at (s1 s2 : FVec Ideal S512x1 .f32) (K V : Vec Ideal S2304x128 .bf16) (Q : Vec Ideal S4x2048x128 .bf16) (o : ℕ) (ho : o ≤ 1920) (r : Fin 512) (l : Fin 128) :
    BLK s1 s2 K V Q o ho (ix2 r l) = if l.val < 64 then
      attLate (KSC K Q o ho r 0 (by omega)) (s1 (ix2 r (0 : Fin 1))) (fun x => V (ix2 (⟨o + x.val, by omega⟩ : Fin 2304) l))
    else attLate (KSC K Q o ho r 64 (by omega)) (s2 (ix2 r (0 : Fin 1))) (fun x => V (ix2 (⟨o + x.val, by omega⟩ : Fin 2304) l)) := by
  have hlo : ∀ x : Fin 384, Scalar.select (k0_pay40 (BitVec.ofNat 32 o) (ix2 r x)) (k0_pay41 (F := Ideal) k0_pay3 (View.ld (Val := Elt Ideal) (e' := .bf16) K (Rect.unit ![o, 0] ![384, 128] (inbK o ho)))
      (View.ld (Val := Elt Ideal) (e' := .bf16) Q (Rect.unit ![0, o, 0] ![1, 128, 128] (inbQ 0 o (by omega) ho))) (View.ld (Val := Elt Ideal) (e' := .bf16) Q (Rect.unit ![1, o, 0] ![1, 128, 128] (inbQ 1 o (by omega) ho)))
      (View.ld (Val := Elt Ideal) (e' := .bf16) Q (Rect.unit ![2, o, 0] ![1, 128, 128] (inbQ 2 o (by omega) ho))) (View.ld (Val := Elt Ideal) (e' := .bf16) Q (Rect.unit ![3, o, 0] ![1, 128, 128] (inbQ 3 o (by omega) ho))) (ix2 r x)) NEG
      = KSC K Q o ho r 0 (by omega) x := by
    intro x
    rw [dot_at K Q o ho r x, mask_at o ho r x]
    unfold KSC
    by_cases h : inBand o (r.val % 128) x.val
    · rw [if_pos h, if_pos h]
      simp only [Nat.zero_add]
      rfl
    · rw [if_neg h, if_neg h]
      rfl
  have hhi : ∀ x : Fin 384, Scalar.select (k0_pay40 (BitVec.ofNat 32 o) (ix2 r x)) (∑ c : Fin 128, Scalar.select (IntOp.xori (IntOp.cmpi CmpIPredicate.slt (BitVec.ofNat 32 c.val) 64#32) 1#1)
      (k0_pay39 (F := Ideal) (View.ld (Val := Elt Ideal) (e' := .bf16) Q (Rect.unit ![0, o, 0] ![1, 128, 128] (inbQ 0 o (by omega) ho))) (View.ld (Val := Elt Ideal) (e' := .bf16) Q (Rect.unit ![1, o, 0] ![1, 128, 128] (inbQ 1 o (by omega) ho)))
      (View.ld (Val := Elt Ideal) (e' := .bf16) Q (Rect.unit ![2, o, 0] ![1, 128, 128] (inbQ 2 o (by omega) ho))) (View.ld (Val := Elt Ideal) (e' := .bf16) Q (Rect.unit ![3, o, 0] ![1, 128, 128] (inbQ 3 o (by omega) ho))) (ix2 r c)
        * K (ix2 (⟨o + x.val, by omega⟩ : Fin 2304) c)) 0) NEG
      = KSC K Q o ho r 64 (by omega) x := by
    intro x
    rw [sum_high, mask_at o ho r x]
    unfold KSC
    by_cases h : inBand o (r.val % 128) x.val
    · rw [if_pos h, if_pos h]
      refine Eq.trans (sel_one _ _) (Finset.sum_congr (M := EReal) rfl fun (d : Fin 64) _ => congrArg (fun z : EReal => z * K (ix2 (⟨o + x.val, by omega⟩ : Fin 2304) (⟨64 + d.val, by omega⟩ : Fin 128))) (q_at Q o ho r _))
    · rw [if_neg h, if_neg h]
      rfl
  unfold BLK
  generalize k0_pay40 (BitVec.ofNat 32 o) = mk at *
  generalize k0_pay41 (F := Ideal) k0_pay3 _ _ _ _ _ = sc at *
  generalize k0_pay39 (F := Ideal) _ _ _ _ = q at *
  pointwise [k0_pay42, k0_pay3, k0_pay4]
  rw [low_lane l]
  have e1 := funext hlo
  have e2 := funext hhi
  show Scalar.select (if l.val < 64 then 1#1 else 0#1) (attLate (fun x => Scalar.select (mk (ix2 r x)) (sc (ix2 r x)) NEG) (s1 (ix2 r (0 : Fin 1))) (fun x => V (ix2 (⟨o + x.val, by omega⟩ : Fin 2304) l)))
    (attLate (fun x : Fin 384 => Scalar.select (mk (ix2 r x)) (∑ c : Fin 128, Scalar.select (IntOp.xori (IntOp.cmpi CmpIPredicate.slt (BitVec.ofNat 32 c.val) 64#32) 1#1)
      (q (ix2 r c) * K (ix2 (⟨o + x.val, by omega⟩ : Fin 2304) c)) 0) NEG) (s2 (ix2 r (0 : Fin 1))) (fun x => V (ix2 (⟨o + x.val, by omega⟩ : Fin 2304) l))) = _
  rw [e1, e2]
  by_cases h : l.val < 64
  · rw [if_pos h, if_pos h]; rfl
  · rw [if_neg h, if_neg h]; rfl
end Cert.Swa
end
-- ==== Proof.SwaC.lean ====
module
public import proofs.«01_k».proof.Proof.SwaB
@[expose] public section
set_option maxRecDepth 16384
noncomputable section
open Idealize.ShloMosaic Idealize.ShloMosaic.TcCoe Idealize.SL.Sem
namespace Cert.Swa
open Cert.KernelIdeal Cert.KernelIdeal.Gen

section Pieces
variable {S : Shape} {Val : EltTy → Type} {e : EltTy} [∀ e, Nonempty (Val e)]

theorem canon_hit (off size : Fin S.rank → ℕ) (inb : ∀ a, off a + size a ≤ S.size a) (w : (Rect.unit off size inb).shape.Idx → Val e)
    (L : List (View.Piece Val S e)) (y : S.Idx) (x : (Rect.unit off size inb).shape.Idx) (h : ∀ a, (y a : ℕ) = off a + x a) :
    View.canon ((⟨Rect.unit off size inb, w⟩ : View.Piece Val S e) :: L) y = w x := by
  rw [show y = (Rect.unit off size inb).emb x from funext fun a => Fin.ext (by rw [h a, Rect.emb_apply]; show _ = off a + 1 * (x a : ℕ); omega)]
  exact View.canon_cons_emb _ w L x

theorem canon_miss (off size : Fin S.rank → ℕ) (inb : ∀ a, off a + size a ≤ S.size a) (w : (Rect.unit off size inb).shape.Idx → Val e)
    (L : List (View.Piece Val S e)) (y : S.Idx) (a : Fin S.rank) (h : (y a : ℕ) < off a ∨ off a + size a ≤ (y a : ℕ)) :
    View.canon ((⟨Rect.unit off size inb, w⟩ : View.Piece Val S e) :: L) y = View.canon L y := by
  refine View.canon_cons_of_not_mem _ L fun hm => ?_
  obtain ⟨x, hx⟩ := (Rect.unit off size inb).exists_idx_of_mem hm
  have h1 : (y a : ℕ) = off a + 1 * (x a : ℕ) := by rw [← hx]; rfl
  have h2 : (x a : ℕ) < size a := (x a).isLt
  omega
end Pieces

/-- The relaid columns of one sequence, read at natural indices. -/
def X0 (x0 : FVec Ideal S1x2048x768 .bf16) (s c : ℕ) : EReal :=
  if h : s < 2048 ∧ c < 768 then x0 (ix3 (0 : Fin 1) (⟨s, h.1⟩ : Fin 2048) (⟨c, h.2⟩ : Fin 768)) else 0

/-- Lane `l` of the rotation of the 128 columns from `base` on. -/
def RT (x0 : FVec Ideal S1x2048x768 .bf16) (x1 x2 : FVec Ideal S2048x128 .f32) (base : ℕ) (s : Fin 2048) (l : Fin 128) : EReal :=
  X0 x0 s.val (base + l.val) * x1 (ix2 s l) + (if l.val % 64 < 32 then X0 x0 s.val (base + l.val + 32) else X0 x0 s.val (base + l.val - 32)) * x2 (ix2 s l)

theorem x0_ld (x0 : FVec Ideal S1x2048x768 .bf16) (base : ℕ) (h : ∀ a, ![0, 0, base] a + ![1, 2048, 128] a ≤ S1x2048x768.size a) (hb : base ≤ 640) (s : Fin 2048) (l : Fin 128) :
    View.ld (Val := Elt Ideal) (e' := .bf16) x0 (Rect.unit ![0, 0, base] ![1, 2048, 128] h) (ix3 (0 : Fin 1) s l) = X0 x0 s.val (base + l.val) := by
  unfold X0
  rw [dif_pos ⟨s.isLt, by omega⟩]
  pointwise

theorem rot_at (x : FVec Ideal S1x2048x128 .bf16) (x1 x2 : FVec Ideal S2048x128 .f32) (x0 : FVec Ideal S1x2048x768 .bf16) (base : ℕ)
    (hx : ∀ (s : Fin 2048) (l : Fin 128), x (ix3 (0 : Fin 1) s l) = X0 x0 s.val (base + l.val)) (s : Fin 2048) (l : Fin 128) :
    k0_pay12 (F := Ideal) k0_pay2 (k0_pay5 x1) (k0_pay6 x2) x (ix2 s l) = RT x0 x1 x2 base s l := by
  pointwise [k0_pay12, k0_pay5, k0_pay6]
  rw [lo_at, hx, hx, hx]
  unfold RT
  have hl := l.isLt
  by_cases h : l.val % 64 < 32
  · rw [if_pos h, if_pos h]
    refine congrArg (fun z : EReal => X0 x0 s.val (base + l.val) * x1 (ix2 s l) + z * x2 (ix2 s l)) ?_
    show X0 x0 s.val (base + (l.val + 128 - 96) % 128) = _
    congr 1
    omega
  · rw [if_neg h, if_neg h]
    refine congrArg (fun z : EReal => X0 x0 s.val (base + l.val) * x1 (ix2 s l) + z * x2 (ix2 s l)) ?_
    show X0 x0 s.val (base + (l.val + 128 - 32) % 128) = _
    congr 1
    omega

theorem KS_at (x0 : FVec Ideal S1x2048x768 .bf16) (x1 x2 : FVec Ideal S2048x128 .f32) (t : Fin 2304) (l : Fin 128) :
    KS x0 x1 x2 (ix2 t l) = if h : 128 ≤ t.val ∧ t.val < 2176 then RT x0 x1 x2 512 ⟨t.val - 128, by omega⟩ l else 0 := by
  unfold KS
  by_cases h : 128 ≤ t.val ∧ t.val < 2176
  · rw [dif_pos h]
    refine (canon_hit (S := S2304x128) _ _ _ _ _ _ (ix2 (⟨t.val - 128, by omega⟩ : Fin 2048) l) ?_).trans ?_
    · intro a
      match a with
      | ⟨0, _⟩ => show t.val = 128 + (t.val - 128); omega
      | ⟨1, _⟩ => show l.val = 0 + l.val; omega
    · exact rot_at _ x1 x2 x0 512 (fun s l => x0_ld x0 512 _ (by omega) s l) _ _
  · rw [dif_neg h]
    refine (canon_miss (S := S2304x128) _ _ _ _ _ _ 0 (by show t.val < 128 ∨ 128 + 2048 ≤ t.val; omega)).trans ?_
    by_cases h2 : t.val < 128
    · refine (canon_miss (S := S2304x128) _ _ _ _ _ _ 0 (by show t.val < 2176 ∨ 2176 + 128 ≤ t.val; omega)).trans ?_
      refine (canon_hit (S := S2304x128) _ _ _ _ _ _ (ix2 (⟨t.val, h2⟩ : Fin 128) l) ?_).trans ?_
      · intro a
        match a with
        | ⟨0, _⟩ => show t.val = 0 + t.val; omega
        | ⟨1, _⟩ => show l.val = 0 + l.val; omega
      · pointwise [k0_pay8, k0_pay7]
    · refine (canon_hit (S := S2304x128) _ _ _ _ _ _ (ix2 (⟨t.val - 2176, by omega⟩ : Fin 128) l) ?_).trans ?_
      · intro a
        match a with
        | ⟨0, _⟩ => show t.val = 2176 + (t.val - 2176); omega
        | ⟨1, _⟩ => show l.val = 0 + l.val; omega
      · pointwise [k0_pay9, k0_pay7]

theorem VS_at (x0 : FVec Ideal S1x2048x768 .bf16) (t : Fin 2304) (l : Fin 128) :
    VS x0 (ix2 t l) = if 128 ≤ t.val ∧ t.val < 2176 then X0 x0 (t.val - 128) (640 + l.val) else 0 := by
  unfold VS
  by_cases h : 128 ≤ t.val ∧ t.val < 2176
  · rw [if_pos h]
    refine (canon_hit (S := S2304x128) _ _ _ _ _ _ (ix2 (⟨t.val - 128, by omega⟩ : Fin 2048) l) ?_).trans ?_
    · intro a
      match a with
      | ⟨0, _⟩ => show t.val = 128 + (t.val - 128); omega
      | ⟨1, _⟩ => show l.val = 0 + l.val; omega
    · refine Eq.trans ?_ (x0_ld x0 640 inb_S1x2048x768_S1x2048x128_0_0_640 (by omega) (⟨t.val - 128, by omega⟩ : Fin 2048) l)
      pointwise [k0_pay13]
  · rw [if_neg h]
    refine (canon_miss (S := S2304x128) _ _ _ _ _ _ 0 (by show t.val < 128 ∨ 128 + 2048 ≤ t.val; omega)).trans ?_
    by_cases h2 : t.val < 128
    · refine (canon_miss (S := S2304x128) _ _ _ _ _ _ 0 (by show t.val < 2176 ∨ 2176 + 128 ≤ t.val; omega)).trans ?_
      refine (canon_hit (S := S2304x128) _ _ _ _ _ _ (ix2 (⟨t.val, h2⟩ : Fin 128) l) ?_).trans ?_
      · intro a
        match a with
        | ⟨0, _⟩ => show t.val = 0 + t.val; omega
        | ⟨1, _⟩ => show l.val = 0 + l.val; omega
      · pointwise [k0_pay10, k0_pay7]
    · refine (canon_hit (S := S2304x128) _ _ _ _ _ _ (ix2 (⟨t.val - 2176, by omega⟩ : Fin 128) l) ?_).trans ?_
      · intro a
        match a with
        | ⟨0, _⟩ => show t.val = 2176 + (t.val - 2176); omega
        | ⟨1, _⟩ => show l.val = 0 + l.val; omega
      · pointwise [k0_pay11, k0_pay7]

theorem QS_at (x0 : FVec Ideal S1x2048x768 .bf16) (x1 x2 : FVec Ideal S2048x128 .f32) (p : Fin 4) (s : Fin 2048) (l : Fin 128) :
    QS x0 x1 x2 (ix3 p s l) = RT x0 x1 x2 (128 * p.val) s l * SCL := by
  unfold QS
  match p with
  | ⟨3, _⟩ =>
    show _ = RT x0 x1 x2 384 s l * SCL
    refine (canon_hit (S := S4x2048x128) _ _ _ _ _ _ (ix3 (0 : Fin 1) s l) ?_).trans ?_
    · intro a
      match a with
      | ⟨0, _⟩ => rfl
      | ⟨1, _⟩ => show s.val = 0 + s.val; omega
      | ⟨2, _⟩ => show l.val = 0 + l.val; omega
    · rw [← rot_at _ x1 x2 x0 384 (fun s l => x0_ld x0 384 inb_S1x2048x768_S1x2048x128_0_0_384 (by omega) s l) s l]
      pointwise [k0_pay18, k0_pay12, k0_pay5, k0_pay6]
      rfl
  | ⟨2, _⟩ =>
    show _ = RT x0 x1 x2 256 s l * SCL
    refine (canon_miss (S := S4x2048x128) _ _ _ _ _ _ 0 (Or.inl (by show 2 < 3; omega))).trans ?_
    refine (canon_hit (S := S4x2048x128) _ _ _ _ _ _ (ix3 (0 : Fin 1) s l) ?_).trans ?_
    · intro a
      match a with
      | ⟨0, _⟩ => rfl
      | ⟨1, _⟩ => show s.val = 0 + s.val; omega
      | ⟨2, _⟩ => show l.val = 0 + l.val; omega
    · rw [← rot_at _ x1 x2 x0 256 (fun s l => x0_ld x0 256 inb_S1x2048x768_S1x2048x128_0_0_256 (by omega) s l) s l]
      pointwise [k0_pay17, k0_pay12, k0_pay5, k0_pay6]
      rfl
  | ⟨1, _⟩ =>
    show _ = RT x0 x1 x2 128 s l * SCL
    refine (canon_miss (S := S4x2048x128) _ _ _ _ _ _ 0 (Or.inl (by show 1 < 3; omega))).trans ?_
    refine (canon_miss (S := S4x2048x128) _ _ _ _ _ _ 0 (Or.inl (by show 1 < 2; omega))).trans ?_
    refine (canon_hit (S := S4x2048x128) _ _ _ _ _ _ (ix3 (0 : Fin 1) s l) ?_).trans ?_
    · intro a
      match a with
      | ⟨0, _⟩ => rfl
      | ⟨1, _⟩ => show s.val = 0 + s.val; omega
      | ⟨2, _⟩ => show l.val = 0 + l.val; omega
    · rw [← rot_at _ x1 x2 x0 128 (fun s l => x0_ld x0 128 inb_S1x2048x768_S1x2048x128_0_0_128 (by omega) s l) s l]
      pointwise [k0_pay16, k0_pay12, k0_pay5, k0_pay6]
      rfl
  | ⟨0, _⟩ =>
    show _ = RT x0 x1 x2 0 s l * SCL
    refine (canon_miss (S := S4x2048x128) _ _ _ _ _ _ 0 (Or.inl (by show 0 < 3; omega))).trans ?_
    refine (canon_miss (S := S4x2048x128) _ _ _ _ _ _ 0 (Or.inl (by show 0 < 2; omega))).trans ?_
    refine (canon_miss (S := S4x2048x128) _ _ _ _ _ _ 0 (Or.inl (by show 0 < 1; omega))).trans ?_
    refine (canon_hit (S := S4x2048x128) _ _ _ _ _ _ (ix3 (0 : Fin 1) s l) ?_).trans ?_
    · intro a
      match a with
      | ⟨0, _⟩ => rfl
      | ⟨1, _⟩ => show s.val = 0 + s.val; omega
      | ⟨2, _⟩ => show l.val = 0 + l.val; omega
    · rw [← rot_at _ x1 x2 x0 0 (fun s l => x0_ld x0 0 inb_S1x2048x768_S1x2048x128_0_0_0 (by omega) s l) s l]
      pointwise [k0_pay15, k0_pay14, k0_pay12, k0_pay5, k0_pay6]
      rfl

theorem x3_congr (x3 : FVec Ideal S8x128 .f32) (a b : Fin 8) (h : a.val = b.val) : x3 (ix2 a (0 : Fin 128)) = x3 (ix2 b (0 : Fin 128)) := by rw [Fin.ext h]

theorem SK1_at (x3 : FVec Ideal S8x128 .f32) (r : Fin 512) : SK1 x3 (ix2 r (0 : Fin 1)) = x3 (ix2 (⟨r.val / 128, by omega⟩ : Fin 8) (0 : Fin 128)) := by
  unfold SK1
  pointwise [k0_pay19]
  by_cases h1 : r.val < 128
  · exact (dif_pos h1).trans (x3_congr x3 _ _ (by show 0 = r.val / 128; omega))
  refine (dif_neg h1).trans ?_
  by_cases h2 : r.val - 128 < 128
  · exact (dif_pos h2).trans (x3_congr x3 _ _ (by show 1 = r.val / 128; omega))
  refine (dif_neg h2).trans ?_
  by_cases h3 : r.val - 128 - 128 < 128
  · exact (dif_pos h3).trans (x3_congr x3 _ _ (by show 2 = r.val / 128; omega))
  refine (dif_neg h3).trans ?_
  exact (x3_congr x3 _ _ (by show 3 = r.val / 128; omega))

theorem SK2_at (x3 : FVec Ideal S8x128 .f32) (r : Fin 512) : SK2 x3 (ix2 r (0 : Fin 1)) = x3 (ix2 (⟨4 + r.val / 128, by omega⟩ : Fin 8) (0 : Fin 128)) := by
  unfold SK2
  pointwise [k0_pay21, k0_pay20]
  by_cases h1 : r.val < 128
  · exact (dif_pos h1).trans (x3_congr x3 _ _ (by show 4 = 4 + r.val / 128; omega))
  refine (dif_neg h1).trans ?_
  by_cases h2 : r.val - 128 < 128
  · exact (dif_pos h2).trans (x3_congr x3 _ _ (by show 5 = 4 + r.val / 128; omega))
  refine (dif_neg h2).trans ?_
  by_cases h3 : r.val - 128 - 128 < 128
  · exact (dif_pos h3).trans (x3_congr x3 _ _ (by show 6 = 4 + r.val / 128; omega))
  refine (dif_neg h3).trans ?_
  exact (x3_congr x3 _ _ (by show 7 = 4 + r.val / 128; omega))

theorem PAY_at (s1 s2 : FVec Ideal S512x1 .f32) (K V : Vec Ideal S2304x128 .bf16) (Q : Vec Ideal S4x2048x128 .bf16) (o p : ℕ) (ho : o ≤ 1920) (hp : S512x128.Slices ![p, 0] S128x128)
    (a : Fin 1) (b c : Fin 128) (r : Fin 512) (hr : r.val = p + b.val) :
    PAY s1 s2 K V Q o p ho hp (ix3 a b c) = BLK s1 s2 K V Q o ho (ix2 r c) := by
  unfold PAY
  generalize BLK s1 s2 K V Q o ho = B
  pointwise
  rw [show r = (⟨p + b.val, by omega⟩ : Fin 512) from Fin.ext hr]

/-- What the body leaves in one sequence's output block: column `c` is query group `c / 128`, the key head `c % 128 / 64`. -/
def OUTK (x0 : FVec Ideal S1x2048x768 .bf16) (x1 x2 : FVec Ideal S2048x128 .f32) (x3 : FVec Ideal S8x128 .f32) (s : Fin 2048) (e : Fin 512) : EReal :=
  attLate (fun x : Fin 384 => if inBand (s.val / 128 * 128) (s.val % 128) x.val then
      ∑ d : Fin 64, (RT x0 x1 x2 (128 * (e.val / 128)) s ⟨e.val % 128 / 64 * 64 + d.val, by omega⟩ * SCL)
        * (if h : 128 ≤ s.val / 128 * 128 + x.val ∧ s.val / 128 * 128 + x.val < 2176 then
            RT x0 x1 x2 512 ⟨s.val / 128 * 128 + x.val - 128, by omega⟩ ⟨e.val % 128 / 64 * 64 + d.val, by omega⟩ else 0)
    else NEG)
    (x3 (ix2 (⟨e.val % 128 / 64 * 4 + e.val / 128, by omega⟩ : Fin 8) (0 : Fin 128)))
    (fun x : Fin 384 => if 128 ≤ s.val / 128 * 128 + x.val ∧ s.val / 128 * 128 + x.val < 2176 then
      X0 x0 (s.val / 128 * 128 + x.val - 128) (640 + e.val % 128) else 0)

theorem att_congr {sc sc' : Fin 384 → EReal} {sk sk' : EReal} {v v' : Fin 384 → EReal} (h1 : sc = sc') (h2 : sk = sk') (h3 : v = v') :
    attLate sc sk v = attLate sc' sk' v' := by subst h1 h2 h3; rfl

theorem PAY_OUTK (x0 : FVec Ideal S1x2048x768 .bf16) (x1 x2 : FVec Ideal S2048x128 .f32) (x3 : FVec Ideal S8x128 .f32)
    (o p : ℕ) (ho : o ≤ 1920) (hp : S512x128.Slices ![p, 0] S128x128) (ho' : o % 128 = 0) (hp' : p % 128 = 0) (a : Fin 1) (b l : Fin 128) (s : Fin 2048) (e : Fin 512)
    (h1 : s.val = o + b.val) (h2 : e.val = p + l.val) :
    PAY (SK1 x3) (SK2 x3) (KS x0 x1 x2) (VS x0) (QS x0 x1 x2) o p ho hp (ix3 a b l) = OUTK x0 x1 x2 x3 s e := by
  have hx1 := b.isLt
  have hx2 := l.isLt
  have hy2 := e.isLt
  have hpb : p + 128 ≤ 512 := by omega
  have hr : p + b.val < 512 := by omega
  rw [PAY_at _ _ _ _ _ o p ho hp a b l ⟨p + b.val, hr⟩ rfl, blk_at, SK1_at, SK2_at]
  have e1 : s.val / 128 * 128 = o := by omega
  have e2 : e.val % 128 = l.val := by omega
  have e3 : e.val / 128 = p / 128 := by omega
  have e4 : (p + b.val) % 128 = b.val := by omega
  have e5 : (p + b.val) / 128 = p / 128 := by omega
  have e6 : s.val % 128 = b.val := by omega
  have key : ∀ (kv : ℕ) (hkv : kv ≤ 1) (hk : l.val / 64 = kv) (sk sk' : EReal) (hsk : sk = sk'),
      attLate (KSC (KS x0 x1 x2) (QS x0 x1 x2) o ho ⟨p + b.val, hr⟩ (64 * kv) (by omega)) sk (fun z => VS x0 (ix2 (⟨o + z.val, by omega⟩ : Fin 2304) l))
        = attLate (fun z : Fin 384 => if inBand (s.val / 128 * 128) (s.val % 128) z.val then
      ∑ d : Fin 64, (RT x0 x1 x2 (128 * (e.val / 128)) s ⟨e.val % 128 / 64 * 64 + d.val, by omega⟩ * SCL)
        * (if h : 128 ≤ s.val / 128 * 128 + z.val ∧ s.val / 128 * 128 + z.val < 2176 then
            RT x0 x1 x2 512 ⟨s.val / 128 * 128 + z.val - 128, by omega⟩ ⟨e.val % 128 / 64 * 64 + d.val, by omega⟩ else 0)
    else NEG) sk' (fun z : Fin 384 => if 128 ≤ s.val / 128 * 128 + z.val ∧ s.val / 128 * 128 + z.val < 2176 then
      X0 x0 (s.val / 128 * 128 + z.val - 128) (640 + e.val % 128) else 0) := by
    intro kv hkv hk sk sk' hsk
    refine att_congr (funext fun z => ?_) hsk (funext fun z => ?_)
    · unfold KSC
      simp only [e1, e2, e3, e4, e5, e6, hk]
      by_cases hb : inBand o b.val z.val
      · rw [if_pos hb, if_pos hb]
        refine Finset.sum_congr rfl fun d _ => ?_
        rw [QS_at, KS_at]
        have a1 : (⟨o + b.val, by omega⟩ : Fin 2048) = s := Fin.ext h1.symm
        have a2 : (⟨64 * kv + d.val, by omega⟩ : Fin 128) = ⟨kv * 64 + d.val, by omega⟩ := Fin.ext (by show 64 * kv + d.val = kv * 64 + d.val; omega)
        rw [a1, a2]
      · rw [if_neg hb, if_neg hb]
    · rw [VS_at]
      simp only [e1, e2]
  by_cases hl : l.val < 64
  · rw [if_pos hl]
    refine key 0 (by omega) (by omega) _ _ (x3_congr x3 _ _ ?_)
    show (p + b.val) / 128 = e.val % 128 / 64 * 4 + e.val / 128
    omega
  · rw [if_neg hl]
    refine key 1 (by omega) (by omega) _ _ (x3_congr x3 _ _ ?_)
    show 4 + (p + b.val) / 128 = e.val % 128 / 64 * 4 + e.val / 128
    omega

variable (m : (ℓ : Loc nD τ sig) → Buf (Elt Ideal) ℓ)
theorem outs_eq (c : Dev nD) (t : Fin cfg0.N) (y : S1x2048x512.Idx) :
    outsAt0 m c t y = OUTK (iblk m c 0 t) (iblk m c 1 t) (iblk m c 2 t) (iblk m c 3 t) (y 1) (y 2) := by
  refine point_of m c t (fun y => OUTK (iblk m c 0 t) (iblk m c 1 t) (iblk m c 2 t) (iblk m c 3 t) (y 1) (y 2)) (fun o p ho hp ho' hp' x y h1 h2 => ?_) y
  obtain ⟨a, b, l, rfl⟩ : ∃ (a : Fin 1) (b l : Fin 128), x = ix3 a b l := ⟨x 0, x 1, x 2, by funext i; fin_cases i <;> rfl⟩
  exact PAY_OUTK _ _ _ _ o p ho hp ho' hp' a b l (y 1) (y 2) h1 h2

end Cert.Swa
end
-- ==== Proof.SwaHost.lean ====
module
public import proofs.«01_k».proof.Proof.SwaC
public import proofs.«01_k».proof.Proof.Gen.KernelIdeal.Value
public import Idealize.ShloMosaic.Lib.Pipeline.ValueKit
public import Idealize.ShloMosaic.Lib.Claim
public import Idealize.ShloMosaic.Lib.Pointwise
public import Idealize.ShloMosaic.Lib.StableHlo.ReadAt
@[expose] public section
set_option maxRecDepth 16384
noncomputable section
open Idealize.ShloMosaic Idealize.ShloMosaic.TcCoe Idealize.SL.Sem
namespace Cert.Swa
open Cert.KernelIdeal Cert.KernelIdeal.Gen
variable (m : (ℓ : Loc nD τ sig) → Buf (Elt Ideal) ℓ)

set_option maxHeartbeats 4000000 in
theorem sinkT (c : Dev nD) (h : Fin 8) (l : Fin 128) :
    (V m c main_v89 : FVec Ideal S8x128 .f32) (ix2 h l) = (m ((c.tc : Thread nD τ).loc main_arg1) : FVec Ideal S8 .f32) (ix1 h) := by
  unfold V
  after_reads_at

set_option maxHeartbeats 4000000 in
theorem cosT (c : Dev nD) (s : Fin 2048) (l : Fin 128) :
    (V m c main_v25 : FVec Ideal S2048x128 .f32) (ix2 s l) = Ideal.cos (ANG s.val (l.val % 32)) := by
  unfold V
  after_reads_at
  rfl

/-- The sign of a lane: minus one on the first half of each head. -/
def SGN (l : ℕ) : EReal := if l % 64 < 32 then Ideal.ofBits .f32 3212836864#32 else 1

theorem sgn_word : ∀ l : Fin 128, IntOp.cmpi CmpIPredicate.slt
          (Scalar.select
            (IntOp.andi
              (IntOp.cmpi CmpIPredicate.ne
                (IntOp.cmpi CmpIPredicate.slt
                  (IntOp.remsi ArithUnit.host (BitVec.ofNat 32 l.val)
                    (Scalar.select (IntOp.cmpi CmpIPredicate.eq 64#32 0#32) 1#32 64#32))
                  0#32)
                (IntOp.cmpi CmpIPredicate.slt (Scalar.select (IntOp.cmpi CmpIPredicate.eq 64#32 0#32) 1#32 64#32) 0#32))
              (IntOp.cmpi CmpIPredicate.ne
                (IntOp.remsi ArithUnit.host (BitVec.ofNat 32 l.val)
                  (Scalar.select (IntOp.cmpi CmpIPredicate.eq 64#32 0#32) 1#32 64#32))
                0#32))
            (IntOp.addi
              (IntOp.remsi ArithUnit.host (BitVec.ofNat 32 l.val)
                (Scalar.select (IntOp.cmpi CmpIPredicate.eq 64#32 0#32) 1#32 64#32))
              (Scalar.select (IntOp.cmpi CmpIPredicate.eq 64#32 0#32) 1#32 64#32))
            (IntOp.remsi ArithUnit.host (BitVec.ofNat 32 l.val)
              (Scalar.select (IntOp.cmpi CmpIPredicate.eq 64#32 0#32) 1#32 64#32)))
          32#32 = if l.val % 64 < 32 then 1#1 else 0#1 := by
  have h64 : Scalar.select (IntOp.cmpi CmpIPredicate.eq 64#32 0#32) 1#32 64#32 = 64#32 := by decide +kernel
  have hr : ∀ l : Fin 128, IntOp.remsi ArithUnit.host (BitVec.ofNat 32 l.val) 64#32 = BitVec.ofNat 32 (l.val % 64) := by decide +kernel
  intro l
  rw [h64, hr]
  exact (by decide +kernel : ∀ k : Fin 64, IntOp.cmpi CmpIPredicate.slt (Scalar.select (IntOp.andi (IntOp.cmpi CmpIPredicate.ne (IntOp.cmpi CmpIPredicate.slt (BitVec.ofNat 32 k.val) 0#32)
    (IntOp.cmpi CmpIPredicate.slt 64#32 0#32)) (IntOp.cmpi CmpIPredicate.ne (BitVec.ofNat 32 k.val) 0#32)) (IntOp.addi (BitVec.ofNat 32 k.val) 64#32) (BitVec.ofNat 32 k.val)) 32#32
      = if k.val < 32 then 1#1 else 0#1) ⟨l.val % 64, by omega⟩

set_option maxHeartbeats 4000000 in
theorem sinT (c : Dev nD) (s : Fin 2048) (l : Fin 128) :
    (V m c main_v32 : FVec Ideal S2048x128 .f32) (ix2 s l) = Ideal.sin (ANG s.val (l.val % 32)) * SGN l.val := by
  unfold V
  after_reads_at
  simp only [id_eq]
  pointwise
  rw [sgn_word]
  unfold SGN
  by_cases h : l.val % 64 < 32
  · rw [if_pos h, if_pos h]; rfl
  · rw [if_neg h, if_neg h]
    show _ * (1 : EReal) = _ * (1 : EReal)
    rfl

theorem gather_at {α : Type} {w : Nat} (x : S32768x512.Idx → α) (idx : IVec S512x1 w) (r : Fin 32768) (j : Fin 512) (q : Fin 512)
    (hq : (idx (ix2 j (0 : Fin 1))).toInt.toNat = q.val) :
    Host.gather gather_S32768x512_S512x1_S32768x512_0_1_n_n_1_1_327681 x idx (ix2 r j) = x (ix2 r q) := by
  unfold Host.gather
  congr 1
  funext a
  apply Fin.ext
  match a with
  | ⟨0, _⟩ =>
    show 0 + 0 + r.val = r.val
    omega
  | ⟨1, _⟩ =>
    have : GatherDims.siIdx gather_S32768x512_S512x1_S32768x512_0_1_n_n_1_1_327681 (ix2 r j) ⟨0, by decide⟩ = ix2 j (0 : Fin 1) := by
      funext b; apply Fin.ext
      match b with
      | ⟨0, _⟩ => rfl
      | ⟨1, _⟩ => rfl
    show min (idx (GatherDims.siIdx gather_S32768x512_S512x1_S32768x512_0_1_n_n_1_1_327681 (ix2 r j) ⟨0, _⟩)).toInt.toNat (512 - 1) + 0 + 0 = q.val
    rw [this, hq]; omega

theorem add_word (a b : ℕ) : IntOp.addi (BitVec.ofNat 32 a) (BitVec.ofNat 32 b) = BitVec.ofNat 32 (a + b) := by
  show BitVec.ofNat 32 a + BitVec.ofNat 32 b = _
  rw [BitVec.ofNat_add]

/-- The word of a small number is not negative, so the wrap of negative indices keeps it. -/
theorem wrap_small (q : ℕ) (hq : q < 512) (w : BitVec 32) (hw : w = BitVec.ofNat 32 q) :
    (Scalar.select (IntOp.cmpi .slt w 0#32) (IntOp.addi w 512#32) w).toInt.toNat = q := by
  subst hw
  interval_cases q <;> rfl

theorem dite_eq_of {α : Sort*} {p : Prop} [Decidable p] {a : p → α} {b : ¬p → α} {r : α} (ha : ∀ h, a h = r) (hb : ∀ h, b h = r) :
    dite p a b = r := by
  split
  · exact ha _
  · exact hb _

theorem tbl0 (c : Dev nD) (i : Fin 64) :
    (StableHlo.upto [hostOps0, hostOps0_1, hostOps0_2, hostOps0_3, hostOps0_4].flatten (fun b => m (c, b)) 112 (Proc.tc.devRef main_v53) : IVec S64 32) (ix1 i) = BitVec.ofNat 32 (0 + i.val) := by
  after_reads_at
theorem tbl1 (c : Dev nD) (i : Fin 64) :
    (StableHlo.upto [hostOps0, hostOps0_1, hostOps0_2, hostOps0_3, hostOps0_4].flatten (fun b => m (c, b)) 112 (Proc.tc.devRef main_v56) : IVec S64 32) (ix1 i) = BitVec.ofNat 32 (256 + i.val) := by
  after_reads_at
  exact add_word _ _
theorem tbl2 (c : Dev nD) (i : Fin 64) :
    (StableHlo.upto [hostOps0, hostOps0_1, hostOps0_2, hostOps0_3, hostOps0_4].flatten (fun b => m (c, b)) 112 (Proc.tc.devRef main_v59) : IVec S64 32) (ix1 i) = BitVec.ofNat 32 (64 + i.val) := by
  after_reads_at
  exact add_word _ _
theorem tbl3 (c : Dev nD) (i : Fin 64) :
    (StableHlo.upto [hostOps0, hostOps0_1, hostOps0_2, hostOps0_3, hostOps0_4].flatten (fun b => m (c, b)) 112 (Proc.tc.devRef main_v62) : IVec S64 32) (ix1 i) = BitVec.ofNat 32 (320 + i.val) := by
  after_reads_at
  exact add_word _ _
theorem tbl4 (c : Dev nD) (i : Fin 64) :
    (StableHlo.upto [hostOps0, hostOps0_1, hostOps0_2, hostOps0_3, hostOps0_4].flatten (fun b => m (c, b)) 112 (Proc.tc.devRef main_v65) : IVec S64 32) (ix1 i) = BitVec.ofNat 32 (128 + i.val) := by
  after_reads_at
  exact add_word _ _
theorem tbl5 (c : Dev nD) (i : Fin 64) :
    (StableHlo.upto [hostOps0, hostOps0_1, hostOps0_2, hostOps0_3, hostOps0_4].flatten (fun b => m (c, b)) 112 (Proc.tc.devRef main_v68) : IVec S64 32) (ix1 i) = BitVec.ofNat 32 (384 + i.val) := by
  after_reads_at
  exact add_word _ _
theorem tbl6 (c : Dev nD) (i : Fin 64) :
    (StableHlo.upto [hostOps0, hostOps0_1, hostOps0_2, hostOps0_3, hostOps0_4].flatten (fun b => m (c, b)) 112 (Proc.tc.devRef main_v71) : IVec S64 32) (ix1 i) = BitVec.ofNat 32 (192 + i.val) := by
  after_reads_at
  exact add_word _ _
theorem tbl7 (c : Dev nD) (i : Fin 64) :
    (StableHlo.upto [hostOps0, hostOps0_1, hostOps0_2, hostOps0_3, hostOps0_4].flatten (fun b => m (c, b)) 112 (Proc.tc.devRef main_v74) : IVec S64 32) (ix1 i) = BitVec.ofNat 32 (448 + i.val) := by
  after_reads_at
  exact add_word _ _

theorem x_eq (c : Dev nD) (b b' : Fin 16) (s s' : Fin 2048) (q q' : Fin 7680) (h1 : b.val = b'.val) (h2 : s.val = s'.val) (h3 : q.val = q'.val) :
    (m ((c.tc : Thread nD τ).loc main_arg0) : FVec Ideal S16x2048x7680 .f32) (ix3 b s q)
      = (m ((c.tc : Thread nD τ).loc main_arg0) : FVec Ideal S16x2048x7680 .f32) (ix3 b' s' q') := by
  rw [Fin.ext h1, Fin.ext h2, Fin.ext h3]

set_option maxHeartbeats 4000000 in
theorem colQ (c : Dev nD) (b : Fin 16) (s : Fin 2048) (j : Fin 512) (n : Fin 6144) (hn : n.val = 5376 + j.val) (q : Fin 7680)
    (hq : q.val = 3840 + ((j.val % 128 / 64 * 4 + j.val / 128) * 64 + j.val % 64)) :
    (V m c main_v87 : FVec Ideal S16x2048x6144 .bf16) (ix3 b s n) = (m ((c.tc : Thread nD τ).loc main_arg0) : FVec Ideal S16x2048x7680 .f32) (ix3 b s q) := by
  have hj := j.isLt
  unfold V
  after_reads_simp
  dsimp only [Matrix.cons_val]
  clean_types
  pointwise
  refine Eq.trans (dif_neg (by omega)) (Eq.trans (dif_neg (by omega)) (Eq.trans (dif_neg (by omega)) (Eq.trans (dif_pos (by omega)) ?_)))
  after_reads_simp
  have hj : ((n.val - 3072 - 1536 - 768) % 128 / 64 * 4 + (n.val - 3072 - 1536 - 768) / 128) * 64 + (n.val - 3072 - 1536 - 768) % 64 < 512 := by omega
  refine Eq.trans (gather_at _ _ _ _ ⟨_, hj⟩ ?_) ?_
  · dsimp only [Matrix.cons_val]
    clean_types
    pointwise
    refine wrap_small _ hj _ ?_
    exact dite_eq_of (fun h => (tbl0 m c _).trans (congrArg (BitVec.ofNat 32) (by dsimp only; omega))) fun h0 =>
      dite_eq_of (fun h => (tbl1 m c _).trans (congrArg (BitVec.ofNat 32) (by dsimp only; omega))) fun h1 =>
      dite_eq_of (fun h => (tbl2 m c _).trans (congrArg (BitVec.ofNat 32) (by dsimp only; omega))) fun h2 =>
      dite_eq_of (fun h => (tbl3 m c _).trans (congrArg (BitVec.ofNat 32) (by dsimp only; omega))) fun h3 =>
      dite_eq_of (fun h => (tbl4 m c _).trans (congrArg (BitVec.ofNat 32) (by dsimp only; omega))) fun h4 =>
      dite_eq_of (fun h => (tbl5 m c _).trans (congrArg (BitVec.ofNat 32) (by dsimp only; omega))) fun h5 =>
      dite_eq_of (fun h => (tbl6 m c _).trans (congrArg (BitVec.ofNat 32) (by dsimp only; omega))) fun h6 =>
      (tbl7 m c ⟨_, _⟩).trans (congrArg (BitVec.ofNat 32) (by dsimp only; omega))
  · pointwise
    exact x_eq m c _ _ _ _ _ _ (by dsimp only; omega) (by dsimp only; omega) (by dsimp only; omega)

set_option maxHeartbeats 4000000 in
theorem colKV (c : Dev nD) (b : Fin 16) (s : Fin 2048) (j : Fin 256) (n : Fin 6144) (hn : n.val = 5888 + j.val) (q : Fin 7680) (hq : q.val = 4352 + j.val) :
    (V m c main_v87 : FVec Ideal S16x2048x6144 .bf16) (ix3 b s n) = (m ((c.tc : Thread nD τ).loc main_arg0) : FVec Ideal S16x2048x7680 .f32) (ix3 b s q) := by
  unfold V
  after_reads_simp
  dsimp only [Matrix.cons_val]
  clean_types
  pointwise
  refine Eq.trans (dif_neg (by omega)) (Eq.trans (dif_neg (by omega)) (Eq.trans (dif_neg (by omega)) (Eq.trans (dif_neg (by omega)) ?_)))
  after_reads_simp
  pointwise
  exact x_eq m c _ _ _ _ _ _ (by dsimp only; omega) (by dsimp only; omega) (by dsimp only; omega)

end Cert.Swa
end
-- ==== Proof.SwaBlk.lean ====
module
public import proofs.«01_k».proof.Proof.SwaHost
public import proofs.«01_k».proof.Proof.Gen.KernelIdeal.Value
public import Idealize.ShloMosaic.Lib.Pipeline.ValueKit
public import Idealize.ShloMosaic.Lib.Claim
public import Idealize.ShloMosaic.Lib.Pointwise
public import Idealize.ShloMosaic.Lib.StableHlo.ReadAt
@[expose] public section
set_option maxRecDepth 16384
noncomputable section
open Idealize.ShloMosaic Idealize.ShloMosaic.TcCoe Idealize.SL.Sem
namespace Cert.Swa
open Cert.KernelIdeal Cert.KernelIdeal.Gen
variable (m : (ℓ : Loc nD τ sig) → Buf (Elt Ideal) ℓ)

theorem idx : ∀ t : Fin cfg0.N, win0_0.index t = ![t.val, 0, 7] ∧ win0_1.index t = ![0, 0] ∧ win0_2.index t = ![0, 0] ∧ win0_3.index t = ![0, 0] ∧ win0_4.index t = ![t.val, 0, 0] :=
  (by decide +kernel : ∀ t : Fin grid0.N, _)

theorem emb0 (t : Fin cfg0.N) (s : Fin 2048) (j : Fin 768) (b : Fin 16) (hb : b.val = t.val) :
    ((cfg0.win 0).blk t).view.emb (ix3 (0 : Fin 1) s j) = (ix3 b s (⟨5376 + j.val, by omega⟩ : Fin 6144) : S16x2048x6144.Idx) := by
  funext a
  apply Fin.ext
  have h := Pipeline.Window.rect_emb_val win0_0 t (ix3 (0 : Fin 1) s j) a
  rw [(idx t).1] at h
  refine Eq.trans h ?_
  match a with
  | ⟨0, _⟩ => show t.val * 1 + 0 = b.val; omega
  | ⟨1, _⟩ => show 0 * 2048 + s.val = s.val; omega
  | ⟨2, _⟩ => show 7 * 768 + j.val = 5376 + j.val; omega
theorem rd0 (t : Fin cfg0.N) (f : FVec Ideal S16x2048x6144 .bf16) (s : Fin 2048) (j : Fin 768) (b : Fin 16) (hb : b.val = t.val) :
    View.read (Elt Ideal) ((cfg0.win 0).blk t).view f (ix3 (0 : Fin 1) s j) = f (ix3 b s (⟨5376 + j.val, by omega⟩ : Fin 6144)) :=
  congrArg f (emb0 t s j b hb)

theorem blk0 (c : Dev nD) (t : Fin cfg0.N) (s : Fin 2048) (j : Fin 768) (b : Fin 16) (hb : b.val = t.val) :
    (iblk m c 0 t : FVec Ideal S1x2048x768 .bf16) (ix3 (0 : Fin 1) s j) = (V m c main_v87 : FVec Ideal S16x2048x6144 .bf16) (ix3 b s (⟨5376 + j.val, by omega⟩ : Fin 6144)) := by
  unfold iblk
  exact rd0 t (V m c main_v87) s j b hb

theorem emb1 (t : Fin cfg0.N) (s : Fin 2048) (l : Fin 128) :
   ((cfg0.win 1).blk t).view.emb (ix2 s l) = (ix2 s l : S2048x128.Idx) := by
    funext a
    apply Fin.ext
    have h := Pipeline.Window.rect_emb_val_of_index_zero win0_1 t a (by rw [(idx t).2.1]; match a with | ⟨0, _⟩ => rfl | ⟨1, _⟩ => rfl) (ix2 s l)
    exact h

theorem rd1 (t : Fin cfg0.N) (f : FVec Ideal S2048x128 .f32) (s : Fin 2048) (l : Fin 128) :
    View.read (Elt Ideal) ((cfg0.win 1).blk t).view f (ix2 s l) = f (ix2 s l) :=
  congrArg f (emb1 t s l)

theorem blk1 (c : Dev nD) (t : Fin cfg0.N) (s : Fin 2048) (l : Fin 128) :
    (iblk m c 1 t : FVec Ideal S2048x128 .f32) (ix2 s l) = (V m c main_v25 : FVec Ideal S2048x128 .f32) (ix2 s l) := by
  unfold iblk
  exact rd1 t (V m c main_v25) s l

theorem emb2 (t : Fin cfg0.N) (s : Fin 2048) (l : Fin 128) :
   ((cfg0.win 2).blk t).view.emb (ix2 s l) = (ix2 s l : S2048x128.Idx) := by
    funext a
    apply Fin.ext
    have h := Pipeline.Window.rect_emb_val_of_index_zero win0_2 t a (by rw [(idx t).2.2.1]; match a with | ⟨0, _⟩ => rfl | ⟨1, _⟩ => rfl) (ix2 s l)
    exact h

theorem rd2 (t : Fin cfg0.N) (f : FVec Ideal S2048x128 .f32) (s : Fin 2048) (l : Fin 128) :
    View.read (Elt Ideal) ((cfg0.win 2).blk t).view f (ix2 s l) = f (ix2 s l) :=
  congrArg f (emb2 t s l)

theorem blk2 (c : Dev nD) (t : Fin cfg0.N) (s : Fin 2048) (l : Fin 128) :
    (iblk m c 2 t : FVec Ideal S2048x128 .f32) (ix2 s l) = (V m c main_v32 : FVec Ideal S2048x128 .f32) (ix2 s l) := by
  unfold iblk
  exact rd2 t (V m c main_v32) s l

theorem blk3 (c : Dev nD) (t : Fin cfg0.N) (s : Fin 8) (l : Fin 128) :
    (iblk m c 3 t : FVec Ideal S8x128 .f32) (ix2 s l) = (V m c main_v89 : FVec Ideal S8x128 .f32) (ix2 s l) := by
  blk_point [iblk, idx t]

end Cert.Swa
end
-- ==== Proof.SwaRefA.lean ====
module
public import proofs.«01_k».proof.Proof.SwaB
public import proofs.«01_k».proof.Proof.Gen.ReferenceIdeal.Read
public import Idealize.ShloMosaic.Lib.Pointwise
@[expose] public section
set_option maxRecDepth 16384
noncomputable section
open Idealize.ShloMosaic Idealize.ShloMosaic.TcCoe Idealize.SL.Sem
namespace Cert.Swa
open Cert.ReferenceIdeal Cert.ReferenceIdeal.Gen Cert.ReferenceIdeal.Read
variable (x : FVec Ideal S16x2048x7680 .f32) (k : FVec Ideal S8 .f32)

/-- The projections read at natural indices. -/
def XR (b : Fin 16) (s c : ℕ) : EReal := if h : s < 2048 ∧ c < 7680 then x (ix3 b ⟨s, h.1⟩ ⟨c, h.2⟩) else 0
theorem x_ix (b : Fin 16) (s : Fin 2048) (c : Fin 7680) (s' c' : ℕ) (hs : s.val = s') (hc : c.val = c') : x (ix3 b s c) = XR x b s' c' := by
  subst hs; subst hc
  unfold XR
  rw [dif_pos ⟨s.isLt, c.isLt⟩]

/-- A head starting at column `base`, rotated. -/
def ROT (base : ℕ) (b : Fin 16) (s d : ℕ) : EReal :=
  if d < 32 then XR x b s (base + d) * Ideal.cos (ANG s d) - XR x b s (base + d + 32) * Ideal.sin (ANG s d)
  else XR x b s (base + d) * Ideal.cos (ANG s (d - 32)) + XR x b s (base + d - 32) * Ideal.sin (ANG s (d - 32))

theorem r16 (s : Fin 2048) (j : Fin 32) : (val_main_v16 (F := Ideal) : FVec Ideal S2048x32 .f32) (ix2 s j) = Ideal.cos (ANG s.val j.val) := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl
theorem r33 (s : Fin 2048) (j : Fin 32) : (val_main_v33 (F := Ideal) : FVec Ideal S2048x32 .f32) (ix2 s j) = Ideal.sin (ANG s.val j.val) := by
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_cst_3, val_main_cst_4, val_main_cst_5, val_main_cst_6]
  rfl
theorem r38 (b : Fin 16) (h : Fin 8) (s : Fin 2048) (d : Fin 64) (c : ℕ) (hc : c = 3840 + h.val * 64 + d.val) :
    (val_main_v38 (F := Ideal) x : FVec Ideal S16x8x2048x64 .f32) (ix4 b h s d) = XR x b s.val c := by
  pointwise [val_main_v38, val_main_v37, val_main_v34]
  exact x_ix x _ _ _ _ _ (by dsimp only) (by dsimp only; omega)
theorem r57 (b : Fin 16) (h : Fin 2) (s : Fin 2048) (d : Fin 64) (c : ℕ) (hc : c = 4352 + h.val * 64 + d.val) :
    (val_main_v57 (F := Ideal) x : FVec Ideal S16x2x2048x64 .f32) (ix4 b h s d) = XR x b s.val c := by
  pointwise [val_main_v57, val_main_v56, val_main_v35]
  exact x_ix x _ _ _ _ _ (by dsimp only) (by dsimp only; omega)
theorem r76 (b : Fin 16) (h : Fin 2) (s : Fin 2048) (d : Fin 64) :
    (val_main_v76 (F := Ideal) x : FVec Ideal S16x2x2048x64 .f32) (ix4 b h s d) = XR x b s.val (4480 + h.val * 64 + d.val) := by
  pointwise [val_main_v76, val_main_v75, val_main_v36]
  exact x_ix x _ _ _ _ _ (by dsimp only) (by dsimp only; omega)

theorem r55 (b : Fin 16) (h : Fin 8) (s : Fin 2048) (d : Fin 64) :
    (val_main_v55 (F := Ideal) x : FVec Ideal S16x8x2048x64 .f32) (ix4 b h s d) = ROT x (3840 + h.val * 64) b s.val d.val := by
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39]
  unfold ROT
  by_cases hd : d.val < 32
  · refine (dif_pos hd).trans ((?_ : _ = _).trans (if_pos hd).symm)
    rw [r38 x b h s _ (3840 + h.val * 64 + d.val) (by dsimp only), r38 x b h s _ (3840 + h.val * 64 + d.val + 32) (by dsimp only; omega), r16, r33]
  · refine (dif_neg hd).trans ((?_ : _ = _).trans (if_neg hd).symm)
    rw [r38 x b h s _ (3840 + h.val * 64 + d.val) (by dsimp only; omega), r38 x b h s _ (3840 + h.val * 64 + d.val - 32) (by dsimp only; omega), r16, r33]
theorem r74 (b : Fin 16) (h : Fin 2) (s : Fin 2048) (d : Fin 64) :
    (val_main_v74 (F := Ideal) x : FVec Ideal S16x2x2048x64 .f32) (ix4 b h s d) = ROT x (4352 + h.val * 64) b s.val d.val := by
  pointwise [val_main_v74, val_main_v73, val_main_v72, val_main_v71, val_main_v70, val_main_v69, val_main_v68, val_main_v67, val_main_v66, val_main_v65, val_main_v64, val_main_v63, val_main_v62, val_main_v61, val_main_v60, val_main_v59, val_main_v58]
  unfold ROT
  by_cases hd : d.val < 32
  · refine (dif_pos hd).trans ((?_ : _ = _).trans (if_pos hd).symm)
    rw [r57 x b h s _ (4352 + h.val * 64 + d.val) (by dsimp only), r57 x b h s _ (4352 + h.val * 64 + d.val + 32) (by dsimp only; omega), r16, r33]
  · refine (dif_neg hd).trans ((?_ : _ = _).trans (if_neg hd).symm)
    rw [r57 x b h s _ (4352 + h.val * 64 + d.val) (by dsimp only; omega), r57 x b h s _ (4352 + h.val * 64 + d.val - 32) (by dsimp only; omega), r16, r33]

theorem kp_word (n z : ℕ) : IntOp.addi (IntOp.muli (BitVec.ofNat 32 n) 128#32) (IntOp.addi 4294967168#32 (BitVec.ofNat 32 z)) = BitVec.ofInt 32 ((n * 128 : ℕ) + ((z : ℤ) - 128)) := by
  have h : IntOp.muli (BitVec.ofNat 32 n) 128#32 = BitVec.ofNat 32 (n * 128) := by
    show BitVec.ofNat 32 n * BitVec.ofNat 32 128 = _
    rw [BitVec.ofNat_mul]
  rw [h, ofNat_int, ofNat_int z, show (4294967168#32) = BitVec.ofInt 32 (-128) from rfl, addi_int, addi_int]
  congr 1

theorem and3 (A B C : Prop) [Decidable A] [Decidable B] [Decidable C] :
    IntOp.andi (IntOp.andi (if A then 1#1 else 0#1) (if B then 1#1 else 0#1)) (if C then 1#1 else 0#1) = if A ∧ B ∧ C then 1#1 else 0#1 := by
  by_cases hA : A <;> by_cases hB : B <;> by_cases hC : C <;> simp [hA, hB, hC] <;> rfl

theorem r122 (n : Fin 16) (q : Fin 128) (z : Fin 384) : (val_main_v122 (F := Ideal) : IVec S16x128x384 1) (ix3 n q z) = if inBand (n.val * 128) q.val z.val then 1#1 else 0#1 := by
  pointwise [val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_c_8, val_main_c_9, val_main_c_10, val_main_c_11, val_main_c_12]
  have hn := n.isLt
  have hq := q.isLt
  have hz := z.isLt
  generalize n.val = n at *
  generalize q.val = q at *
  generalize z.val = z at *
  rw [kp_word, ofNat_int (n * 128 + q), subi_int, absi_int _ (by omega) (by omega), show (0#32) = BitVec.ofInt 32 0 from rfl, show (2048#32) = BitVec.ofInt 32 2048 from rfl,
    show (128#32) = BitVec.ofInt 32 128 from rfl, sle_int _ _ (by omega) (by omega) (by omega) (by omega), sge_int _ _ (by omega) (by omega) (by omega) (by omega),
    slt_int _ _ (by omega) (by omega) (by omega) (by omega)]
  have hb : inBand (n * 128) q z ↔ (z ≤ q + 256 ∧ q ≤ z ∧ 128 ≤ n * 128 + z ∧ n * 128 + z < 2176) := Iff.rfl
  rw [and3]
  by_cases h1 : inBand (n * 128) q z
  · rw [if_pos h1]; rw [hb] at h1; exact if_pos (by omega)
  · rw [if_neg h1]; rw [hb] at h1; exact if_neg (by omega)

theorem r79 (b : Fin 16) (h : Fin 2) (p : Fin 2304) (d : Fin 64) :
    (val_main_v79 (F := Ideal) x : FVec Ideal S16x2x2304x64 .f32) (ix4 b h p d) = if 128 ≤ p.val ∧ p.val < 2176 then ROT x (4352 + h.val * 64) b (p.val - 128) d.val else 0 := by
  pointwise [val_main_v79, val_main_call0_v0, val_main_c]
  by_cases hp : 128 ≤ p.val ∧ p.val < 2176
  · rw [if_pos hp]
    exact (dif_pos (by omega)).trans (r74 x b h _ d)
  · rw [if_neg hp]
    refine (dif_neg (by omega)).trans ?_
    show (((0#32 : BitVec 32).toInt : ℝ) : EReal) = 0
    simp
theorem r81 (b : Fin 16) (h : Fin 2) (p : Fin 2304) (d : Fin 64) :
    (val_main_v81 (F := Ideal) x : FVec Ideal S16x2x2304x64 .f32) (ix4 b h p d) = if 128 ≤ p.val ∧ p.val < 2176 then XR x b (p.val - 128) (4480 + h.val * 64 + d.val) else 0 := by
  pointwise [val_main_v81, val_main_call1_v0, val_main_c_7]
  by_cases hp : 128 ≤ p.val ∧ p.val < 2176
  · rw [if_pos hp]
    exact (dif_pos (by omega)).trans (r76 x b h _ d)
  · rw [if_neg hp]
    refine (dif_neg (by omega)).trans ?_
    show (((0#32 : BitVec 32).toInt : ℝ) : EReal) = 0
    simp
end Cert.Swa
end
-- ==== Proof.SwaRefB.lean ====
module
public import proofs.«01_k».proof.Proof.SwaRefA
public import proofs.«01_k».proof.Proof.Gen.ReferenceIdeal.Read
public import Idealize.ShloMosaic.Lib.Pointwise
public import Idealize.ShloMosaic.Lib.ValueIdxRank6
@[expose] public section
set_option maxRecDepth 16384
noncomputable section
open Idealize.ShloMosaic Idealize.ShloMosaic.TcCoe Idealize.SL.Sem
namespace Cert.Swa
open Cert.ReferenceIdeal Cert.ReferenceIdeal.Gen Cert.ReferenceIdeal.Read
variable (x : FVec Ideal S16x2048x7680 .f32) (k : FVec Ideal S8 .f32)

theorem r80 (b : Fin 16) (h : Fin 2) (n : Fin 18) (z : Fin 128) (d : Fin 64) (p : Fin 2304) (hp : p.val = n.val * 128 + z.val) :
    (val_main_v80 (F := Ideal) x : FVec Ideal S16x2x18x128x64 .f32) (ix5 b h n z d) = (val_main_v79 (F := Ideal) x : FVec Ideal S16x2x2304x64 .f32) (ix4 b h p d) := by
  rw [val_main_v80_apply]
  refine congrArg _ (funext fun a => Fin.ext ?_)
  have hb := b.isLt; have hh := h.isLt; have hn := n.isLt; have hz := z.isLt; have hd := d.isLt
  match a with
  | ⟨0, _⟩ => show ((((b.val * 2 + h.val) * 18 + n.val) * 128 + z.val) * 64 + d.val) / 294912 = b.val; omega
  | ⟨1, _⟩ => show ((((b.val * 2 + h.val) * 18 + n.val) * 128 + z.val) * 64 + d.val) / 147456 % 2 = h.val; omega
  | ⟨2, _⟩ => show ((((b.val * 2 + h.val) * 18 + n.val) * 128 + z.val) * 64 + d.val) / 64 % 2304 = p.val; omega
  | ⟨3, _⟩ => show ((((b.val * 2 + h.val) * 18 + n.val) * 128 + z.val) * 64 + d.val) % 64 = d.val; omega
theorem r82 (b : Fin 16) (h : Fin 2) (n : Fin 18) (z : Fin 128) (d : Fin 64) (p : Fin 2304) (hp : p.val = n.val * 128 + z.val) :
    (val_main_v82 (F := Ideal) x : FVec Ideal S16x2x18x128x64 .f32) (ix5 b h n z d) = (val_main_v81 (F := Ideal) x : FVec Ideal S16x2x2304x64 .f32) (ix4 b h p d) := by
  rw [val_main_v82_apply]
  refine congrArg _ (funext fun a => Fin.ext ?_)
  have hb := b.isLt; have hh := h.isLt; have hn := n.isLt; have hz := z.isLt; have hd := d.isLt
  match a with
  | ⟨0, _⟩ => show ((((b.val * 2 + h.val) * 18 + n.val) * 128 + z.val) * 64 + d.val) / 294912 = b.val; omega
  | ⟨1, _⟩ => show ((((b.val * 2 + h.val) * 18 + n.val) * 128 + z.val) * 64 + d.val) / 147456 % 2 = h.val; omega
  | ⟨2, _⟩ => show ((((b.val * 2 + h.val) * 18 + n.val) * 128 + z.val) * 64 + d.val) / 64 % 2304 = p.val; omega
  | ⟨3, _⟩ => show ((((b.val * 2 + h.val) * 18 + n.val) * 128 + z.val) * 64 + d.val) % 64 = d.val; omega

/-- The keys a block sees. -/
def KW (b : Fin 16) (h n z d : ℕ) : EReal :=
  if 128 ≤ n * 128 + z ∧ n * 128 + z < 2176 then ROT x (4352 + h * 64) b (n * 128 + z - 128) d else 0
/-- The values a block sees. -/
def VW (b : Fin 16) (h n z d : ℕ) : EReal :=
  if 128 ≤ n * 128 + z ∧ n * 128 + z < 2176 then XR x b (n * 128 + z - 128) (4480 + h * 64 + d) else 0

theorem r80' (b : Fin 16) (h : Fin 2) (n : Fin 18) (z : Fin 128) (d : Fin 64) (n' z' : ℕ) (hp : n.val * 128 + z.val = n' * 128 + z') :
    (val_main_v80 (F := Ideal) x : FVec Ideal S16x2x18x128x64 .f32) (ix5 b h n z d) = KW x b h.val n' z' d.val := by
  have hn := n.isLt; have hz := z.isLt
  rw [r80 x b h n z d ⟨n' * 128 + z', by omega⟩ hp.symm, r79]
  rfl
theorem r82' (b : Fin 16) (h : Fin 2) (n : Fin 18) (z : Fin 128) (d : Fin 64) (n' z' : ℕ) (hp : n.val * 128 + z.val = n' * 128 + z') :
    (val_main_v82 (F := Ideal) x : FVec Ideal S16x2x18x128x64 .f32) (ix5 b h n z d) = VW x b h.val n' z' d.val := by
  have hn := n.isLt; have hz := z.isLt
  rw [r82 x b h n z d ⟨n' * 128 + z', by omega⟩ hp.symm, r81]
  rfl

theorem r86 (b : Fin 16) (h : Fin 2) (n : Fin 16) (z : Fin 384) (d : Fin 64) : (val_main_v86 (F := Ideal) x : FVec Ideal S16x2x16x384x64 .f32) (ix5 b h n z d) = KW x b h.val n.val z.val d.val := by
  pointwise [val_main_v86, val_main_v85, val_main_v84, val_main_v83]
  by_cases h1 : z.val < 128
  · exact (dif_pos h1).trans (r80' x _ _ _ _ _ _ _ (by dsimp only))
  refine (dif_neg h1).trans ?_
  by_cases h2 : z.val - 128 < 128
  · exact (dif_pos h2).trans (r80' x _ _ _ _ _ _ _ (by dsimp only; omega))
  exact (dif_neg h2).trans (r80' x _ _ _ _ _ _ _ (by dsimp only; omega))
theorem r90 (b : Fin 16) (h : Fin 2) (n : Fin 16) (z : Fin 384) (d : Fin 64) : (val_main_v90 (F := Ideal) x : FVec Ideal S16x2x16x384x64 .f32) (ix5 b h n z d) = VW x b h.val n.val z.val d.val := by
  pointwise [val_main_v90, val_main_v89, val_main_v88, val_main_v87]
  by_cases h1 : z.val < 128
  · exact (dif_pos h1).trans (r82' x _ _ _ _ _ _ _ (by dsimp only))
  refine (dif_neg h1).trans ?_
  by_cases h2 : z.val - 128 < 128
  · exact (dif_pos h2).trans (r82' x _ _ _ _ _ _ _ (by dsimp only; omega))
  exact (dif_neg h2).trans (r82' x _ _ _ _ _ _ _ (by dsimp only; omega))

theorem r77 (b : Fin 16) (h : Fin 2) (g : Fin 4) (s : Fin 2048) (d : Fin 64) :
    (val_main_v77 (F := Ideal) x : FVec Ideal S16x2x4x2048x64 .f32) (ix5 b h g s d) = ROT x (3840 + (h.val * 4 + g.val) * 64) b s.val d.val := by
  have hb := b.isLt; have hh := h.isLt; have hg := g.isLt; have hs := s.isLt; have hd := d.isLt
  rw [val_main_v77_apply, ← r55 x b ⟨h.val * 4 + g.val, by omega⟩ s d]
  refine congrArg _ (funext fun a => Fin.ext ?_)
  match a with
  | ⟨0, _⟩ => show ((((b.val * 2 + h.val) * 4 + g.val) * 2048 + s.val) * 64 + d.val) / 1048576 = b.val; omega
  | ⟨1, _⟩ => show ((((b.val * 2 + h.val) * 4 + g.val) * 2048 + s.val) * 64 + d.val) / 131072 % 8 = h.val * 4 + g.val; omega
  | ⟨2, _⟩ => show ((((b.val * 2 + h.val) * 4 + g.val) * 2048 + s.val) * 64 + d.val) / 64 % 2048 = s.val; omega
  | ⟨3, _⟩ => show ((((b.val * 2 + h.val) * 4 + g.val) * 2048 + s.val) * 64 + d.val) % 64 = d.val; omega
theorem r91 (b : Fin 16) (h : Fin 2) (g : Fin 4) (n : Fin 16) (q : Fin 128) (d : Fin 64) :
    (val_main_v91 (F := Ideal) x : FVec Ideal S16x2x4x16x128x64 .f32) (ix6 b h g n q d) = ROT x (3840 + (h.val * 4 + g.val) * 64) b (n.val * 128 + q.val) d.val := by
  have hn := n.isLt; have hq := q.isLt
  rw [← r77 x b h g ⟨n.val * 128 + q.val, by omega⟩ d]
  unfold val_main_v91
  generalize val_main_v77 (F := Ideal) x = y
  refine shapeCast_apply y shapeCasts_S16x2x4x2048x64_S16x2x4x16x128x64 (ix6 b h g n q d) (ix5 b h g ⟨n.val * 128 + q.val, by omega⟩ d) ?_
  rewrite [Shape.rowMajor_val_five, Shape.rowMajor_val_six]
  show (((b.val * 2 + h.val) * 4 + g.val) * 2048 + (n.val * 128 + q.val)) * 64 + d.val = ((((b.val * 2 + h.val) * 4 + g.val) * 16 + n.val) * 128 + q.val) * 64 + d.val
  omega

/-- The masked scores of a query. -/
def SCR (b : Fin 16) (h g n q : ℕ) (z : Fin 384) : EReal :=
  if inBand (n * 128) q z.val then (∑ d : Fin 64, KW x b h n z.val d.val * ROT x (3840 + (h * 4 + g) * 64) b (n * 128 + q) d.val) * SCL else NEG

theorem r124 (b : Fin 16) (h : Fin 2) (g : Fin 4) (n : Fin 16) (q : Fin 128) (z : Fin 384) :
    (val_main_v124 (F := Ideal) x : FVec Ideal S16x2x4x16x128x384 .f32) (ix6 b h g n q z) = ∑ d : Fin 64, KW x b h.val n.val z.val d.val * ROT x (3840 + (h.val * 4 + g.val) * 64) b (n.val * 128 + q.val) d.val := by
  rw [val_main_v124_apply, val_main_v123_apply]
  refine Finset.sum_congr (M := EReal) rfl fun d _ => ?_
  rw [← r86 x b h n z d, ← r91 x b h g n q d]
  have e1 : lidx_main_v123 (idx_main_v124 (ix6 b h g n q z)) d = ix5 b h n z d := funext fun a => match a with
    | ⟨0, _⟩ => rfl | ⟨1, _⟩ => rfl | ⟨2, _⟩ => rfl | ⟨3, _⟩ => rfl | ⟨4, _⟩ => rfl
  have e2 : ridx_main_v123 (idx_main_v124 (ix6 b h g n q z)) d = ix6 b h g n q d := funext fun a => match a with
    | ⟨0, _⟩ => rfl | ⟨1, _⟩ => rfl | ⟨2, _⟩ => rfl | ⟨3, _⟩ => rfl | ⟨4, _⟩ => rfl | ⟨5, _⟩ => rfl
  rw [e1, e2]

theorem r127 (b : Fin 16) (h : Fin 2) (g : Fin 4) (n : Fin 16) (q : Fin 128) (z : Fin 384) :
    (val_main_v127 (F := Ideal) x : FVec Ideal S16x2x4x16x128x384 .f32) (ix6 b h g n q z) = SCR x b h.val g.val n.val q.val z := by
  rw [val_main_v127_apply, val_main_call2_v1_apply, val_main_v126_apply, val_main_v125_apply, val_main_cst_13_apply, val_main_call2_v2_apply, r124]
  have e1 : idx_main_call2_v1 (ix6 b h g n q z) = ix3 n q z := funext fun a => match a with
    | ⟨0, _⟩ => rfl | ⟨1, _⟩ => rfl | ⟨2, _⟩ => rfl
  rw [e1, r122]
  unfold SCR
  by_cases hb : inBand (n.val * 128) q.val z.val
  · rw [if_pos hb, if_pos hb]; rfl
  · rw [if_neg hb, if_neg hb]; rfl

theorem r128 (b : Fin 16) (h : Fin 2) (g : Fin 4) (n : Fin 16) (q : Fin 128) :
    (val_main_v128 (F := Ideal) x : FVec Ideal S16x2x4x16x128 .f32) (ix5 b h g n q) = Finset.fold max BOT (SCR x b h.val g.val n.val q.val) Finset.univ := by
  unfold val_main_v128
  have e : (SCR x b h.val g.val n.val q.val) = fun z => (val_main_v127 (F := Ideal) x : FVec Ideal S16x2x4x16x128x384 .f32) (ix6 b h g n q z) := funext fun z => (r127 x b h g n q z).symm
  rw [e]
  generalize val_main_v127 (F := Ideal) x = y
  refine (Host.reduce_eq_fold_single (max : EReal → EReal → EReal) y (val_main_cst_15 (F := Ideal)) reducesTo_S16x2x4x16x128x384_S16x2x4x16x128_d5 (by decide) h_S_ (ix5 b h g n q)).trans ?_
  refine Finset.fold_congr (fun z _ => congrArg y (funext fun a => Fin.ext ?_))
  match a with | ⟨0, _⟩ => rfl | ⟨1, _⟩ => rfl | ⟨2, _⟩ => rfl | ⟨3, _⟩ => rfl | ⟨4, _⟩ => rfl | ⟨5, _⟩ => rfl

/-- The sink of a head. -/
def SNK (h g : ℕ) (hh : h < 2) (hg : g < 4) : EReal := k (ix1 ⟨h * 4 + g, by omega⟩)

theorem r130 (b : Fin 1) (h : Fin 2) (g : Fin 4) (n q z : Fin 1) :
    (val_main_v130 (F := Ideal) k : FVec Ideal S1x2x4x1x1x1 .f32) (ix6 b h g n q z) = SNK k h.val g.val h.isLt g.isLt := by
  rw [val_main_v130_apply, val_main_v78_apply]
  refine congrArg k (funext fun a => Fin.ext ?_)
  match a with | ⟨0, _⟩ => rfl

theorem r132 (b : Fin 16) (h : Fin 2) (g : Fin 4) (n : Fin 16) (q : Fin 128) (z : Fin 1) :
    (val_main_v132 (F := Ideal) x k : FVec Ideal S16x2x4x16x128x1 .f32) (ix6 b h g n q z) = rowMax (SCR x b h.val g.val n.val q.val) (SNK k h.val g.val h.isLt g.isLt) := by
  rw [val_main_v132_apply, val_main_v129_apply, val_main_v131_apply]
  have e1 : idx_main_v129 (ix6 b h g n q z) = ix5 b h g n q := funext fun a => match a with
    | ⟨0, _⟩ => rfl | ⟨1, _⟩ => rfl | ⟨2, _⟩ => rfl | ⟨3, _⟩ => rfl | ⟨4, _⟩ => rfl
  have e2 : idx_main_v131 (ix6 b h g n q z) = ix6 (0 : Fin 1) h g (0 : Fin 1) (0 : Fin 1) (0 : Fin 1) := funext fun a => match a with
    | ⟨0, _⟩ => rfl | ⟨1, _⟩ => rfl | ⟨2, _⟩ => rfl | ⟨3, _⟩ => rfl | ⟨4, _⟩ => rfl | ⟨5, _⟩ => rfl
  rw [e1, e2, r128, r130]
  rfl

theorem r135 (b : Fin 16) (h : Fin 2) (g : Fin 4) (n : Fin 16) (q : Fin 128) (z : Fin 384) :
    (val_main_v135 (F := Ideal) x k : FVec Ideal S16x2x4x16x128x384 .f32) (ix6 b h g n q z)
      = Ideal.exp (SCR x b h.val g.val n.val q.val z - rowMax (SCR x b h.val g.val n.val q.val) (SNK k h.val g.val h.isLt g.isLt)) := by
  rw [val_main_v135_apply, val_main_v134_apply, val_main_v133_apply, r127]
  have e1 : idx_main_v133 (ix6 b h g n q z) = ix6 b h g n q (0 : Fin 1) := funext fun a => match a with
    | ⟨0, _⟩ => rfl | ⟨1, _⟩ => rfl | ⟨2, _⟩ => rfl | ⟨3, _⟩ => rfl | ⟨4, _⟩ => rfl | ⟨5, _⟩ => rfl
  rw [e1, r132]
  rfl

theorem r141 (b : Fin 16) (h : Fin 2) (g : Fin 4) (n : Fin 16) (q : Fin 128) (z : Fin 1) :
    (val_main_v141 (F := Ideal) x k : FVec Ideal S16x2x4x16x128x1 .f32) (ix6 b h g n q z) = rowDen (SCR x b h.val g.val n.val q.val) (SNK k h.val g.val h.isLt g.isLt) := by
  rw [val_main_v141_apply, val_main_v137_apply, val_main_v136_apply, val_main_v140_apply, val_main_v139_apply, val_main_v138_apply, r132]
  have e1 : idx_main_v137 (ix6 b h g n q z) = ix5 b h g n q := funext fun a => match a with
    | ⟨0, _⟩ => rfl | ⟨1, _⟩ => rfl | ⟨2, _⟩ => rfl | ⟨3, _⟩ => rfl | ⟨4, _⟩ => rfl
  have e2 : idx_main_v138 (ix6 b h g n q z) = ix6 (0 : Fin 1) h g (0 : Fin 1) (0 : Fin 1) (0 : Fin 1) := funext fun a => match a with
    | ⟨0, _⟩ => rfl | ⟨1, _⟩ => rfl | ⟨2, _⟩ => rfl | ⟨3, _⟩ => rfl | ⟨4, _⟩ => rfl | ⟨5, _⟩ => rfl
  have e3 : ∀ z' : Fin 384, idx_main_v136 (ix5 b h g n q) z' = ix6 b h g n q z' := fun z' => funext fun a => match a with
    | ⟨0, _⟩ => rfl | ⟨1, _⟩ => rfl | ⟨2, _⟩ => rfl | ⟨3, _⟩ => rfl | ⟨4, _⟩ => rfl | ⟨5, _⟩ => rfl
  have e0 : (val_main_cst_16 (F := Ideal) : FVec Ideal S_ .f32) (Shape.Idx.first h_S_) = (0 : EReal) := by
    rw [val_main_cst_16_apply]
    exact Ideal.ofBits_zero_f32
  rw [e1, e2, r130, e0]
  refine congrArg₂ (fun a b : EReal => a + b) ((zero_add _).trans (Finset.sum_congr (M := EReal) rfl fun z' _ => ?_)) rfl
  rw [e3, r135]

theorem r145 (b : Fin 16) (h : Fin 2) (g : Fin 4) (n : Fin 16) (q : Fin 128) (d : Fin 64) :
    (val_main_v145 (F := Ideal) x k : FVec Ideal S16x2x4x16x128x64 .f32) (ix6 b h g n q d)
      = attEarly (SCR x b h.val g.val n.val q.val) (SNK k h.val g.val h.isLt g.isLt) (fun z => VW x b h.val n.val z.val d.val) := by
  rw [val_main_v145_apply, val_main_v144_apply]
  refine Finset.sum_congr (M := EReal) rfl fun z _ => ?_
  have e1 : lidx_main_v144 (idx_main_v145 (ix6 b h g n q d)) z = ix5 b h n z d := funext fun a => match a with
    | ⟨0, _⟩ => rfl | ⟨1, _⟩ => rfl | ⟨2, _⟩ => rfl | ⟨3, _⟩ => rfl | ⟨4, _⟩ => rfl
  have e2 : ridx_main_v144 (idx_main_v145 (ix6 b h g n q d)) z = ix6 b h g n q z := funext fun a => match a with
    | ⟨0, _⟩ => rfl | ⟨1, _⟩ => rfl | ⟨2, _⟩ => rfl | ⟨3, _⟩ => rfl | ⟨4, _⟩ => rfl | ⟨5, _⟩ => rfl
  have e3 : idx_main_v142 (ix6 b h g n q z) = ix6 b h g n q (0 : Fin 1) := funext fun a => match a with
    | ⟨0, _⟩ => rfl | ⟨1, _⟩ => rfl | ⟨2, _⟩ => rfl | ⟨3, _⟩ => rfl | ⟨4, _⟩ => rfl | ⟨5, _⟩ => rfl
  rw [e1, e2, r90, val_main_v143_apply, val_main_v142_apply, e3, r135, r141]
  rfl

theorem r146 (b : Fin 16) (h : Fin 2) (g : Fin 4) (s : Fin 2048) (d : Fin 64) :
    (val_main_v146 (F := Ideal) x k : FVec Ideal S16x2x4x2048x64 .f32) (ix5 b h g s d)
      = attEarly (SCR x b h.val g.val (s.val / 128) (s.val % 128)) (SNK k h.val g.val h.isLt g.isLt) (fun z => VW x b h.val (s.val / 128) z.val d.val) := by
  have hs := s.isLt
  rw [← r145 x k b h g ⟨s.val / 128, by omega⟩ ⟨s.val % 128, by omega⟩ d]
  unfold val_main_v146
  generalize val_main_v145 (F := Ideal) x k = y
  refine shapeCast_apply y shapeCasts_S16x2x4x16x128x64_S16x2x4x2048x64 (ix5 b h g s d) (ix6 b h g ⟨s.val / 128, by omega⟩ ⟨s.val % 128, by omega⟩ d) ?_
  rewrite [Shape.rowMajor_val_five, Shape.rowMajor_val_six]
  show ((((b.val * 2 + h.val) * 4 + g.val) * 16 + s.val / 128) * 128 + s.val % 128) * 64 + d.val = (((b.val * 2 + h.val) * 4 + g.val) * 2048 + s.val) * 64 + d.val
  omega

/-- The reference's windowed attention. -/
def REF (b : Fin 16) (s : Fin 2048) (e : Fin 512) : EReal :=
  attEarly (SCR x b (e.val % 128 / 64) (e.val / 128) (s.val / 128) (s.val % 128)) (SNK k (e.val % 128 / 64) (e.val / 128) (by omega) (by omega))
    (fun z => VW x b (e.val % 128 / 64) (s.val / 128) z.val (e.val % 64))

theorem ref_eq (b : Fin 16) (s : Fin 2048) (e : Fin 512) :
    (val_main_v149 (F := Ideal) x k : FVec Ideal S16x2048x512 .bf16) (ix3 b s e) = REF x k b s e := by
  have hb := b.isLt; have hs := s.isLt; have he := e.isLt
  refine Eq.trans ?_ (r146 x k b ⟨e.val % 128 / 64, by omega⟩ ⟨e.val / 128, by omega⟩ s ⟨e.val % 64, by omega⟩)
  rw [val_main_v149_apply]
  show val_main_v148 (F := Ideal) x k (ix3 b s e) = _
  rw [val_main_v148_apply, val_main_v147_apply]
  refine congrArg _ (funext fun a => Fin.ext ?_)
  match a with
  | ⟨0, _⟩ => show ((b.val * 2048 + s.val) * 512 + e.val) / 1048576 = b.val; omega
  | ⟨1, _⟩ => show ((b.val * 2048 + s.val) * 512 + e.val) / 64 % 2 = e.val % 128 / 64; omega
  | ⟨2, _⟩ => show ((b.val * 2048 + s.val) * 512 + e.val) / 128 % 4 = e.val / 128; omega
  | ⟨3, _⟩ => show ((b.val * 2048 + s.val) * 512 + e.val) / 512 % 2048 = s.val; omega
  | ⟨4, _⟩ => show ((b.val * 2048 + s.val) * 512 + e.val) % 64 = e.val % 64; omega
end Cert.Swa
end
-- ==== Proof.SwaFin.lean ====
module
public import proofs.«01_k».proof.Proof.SwaRefB
public import proofs.«01_k».proof.Proof.SwaC
public import proofs.«01_k».proof.Proof.Gen.Pre_bounded
public import Idealize.ShloMosaic.Lib.Pointwise
@[expose] public section
set_option maxRecDepth 16384
noncomputable section
open Idealize.ShloMosaic Idealize.ShloMosaic.TcCoe Idealize.SL.Sem
namespace Cert.Swa
open Cert.KernelIdeal Cert.KernelIdeal.Gen
variable (x : FVec Ideal S16x2048x7680 .f32) (k : FVec Ideal S8 .f32)

/-- A literal that is minus one. -/
theorem neg_one_lit : Ideal.ofBits FTy.f32 3212836864#32 = ((-1 : ℝ) : EReal) := by
  simp [Ideal.ofBits, Ideal.ieee, -EReal.coe_mul]
  norm_num

theorem mul_div_real {a b : EReal} (ha : IsR a) (hb : IsR b) (hb0 : b ≠ 0) : IsR (Ideal.div a b) := by
  unfold Ideal.div
  rw [if_neg hb0]
  obtain ⟨r, rfl⟩ := hb
  exact ha.mul ⟨r⁻¹, (EReal.coe_inv r).symm⟩

theorem lit_theta : ∃ r : ℝ, Ideal.ofBits FTy.f32 1176256512#32 = (r : EReal) :=
  ⟨_, by simp [Ideal.ofBits, Ideal.ieee, -EReal.coe_mul]; rfl⟩
theorem lit_two : IsR (Ideal.ofBits FTy.f32 1073741824#32) :=
  ⟨_, by simp [Ideal.ofBits, Ideal.ieee, -EReal.coe_mul]; rfl⟩
theorem lit_sixty_four : Ideal.ofBits FTy.f32 1115684864#32 = ((64 : ℝ) : EReal) := by
  simp [Ideal.ofBits, Ideal.ieee, -EReal.coe_mul]
  norm_num

theorem ang_isR (s j : ℕ) : IsR (ANG s j) := by
  unfold ANG
  have h64 : IsR (Ideal.ofBits FTy.f32 1115684864#32) := ⟨64, lit_sixty_four⟩
  have hne : Ideal.ofBits FTy.f32 1115684864#32 ≠ 0 := by
    rw [lit_sixty_four]; exact_mod_cast (by norm_num : (64 : ℝ) ≠ 0)
  have hn : IsR (-(Ideal.ofBits FTy.f32 1073741824#32 * FloatOps.sitofp (F := Ideal) FTy.f32 (BitVec.ofNat 32 j))) := by
    obtain ⟨r, hr⟩ := lit_two.mul (⟨_, rfl⟩ : IsR (FloatOps.sitofp (F := Ideal) FTy.f32 (BitVec.ofNat 32 j)))
    exact ⟨-r, by rw [hr, EReal.coe_neg]⟩
  obtain ⟨d, hd⟩ := mul_div_real hn h64 hne
  obtain ⟨t, ht⟩ := lit_theta
  rw [hd, ht]
  exact IsR.mul ⟨_, rfl⟩ ⟨_, rfl⟩

theorem cos_isR {a : EReal} (h : IsR a) : IsR (Ideal.cos a) := by
  obtain ⟨r, rfl⟩ := h; exact ⟨Real.cos r, rfl⟩
theorem sin_isR {a : EReal} (h : IsR a) : IsR (Ideal.sin a) := by
  obtain ⟨r, rfl⟩ := h; exact ⟨Real.sin r, rfl⟩

section Finite
variable (b : Fin 16) (hx : ∀ s c, 3840 ≤ c → c < 4480 → IsR (XR x b s c))
include hx
theorem rot_isR (base s d : ℕ) (h1 : 3840 ≤ base) (h2 : base + 64 ≤ 4480) (hd : d < 64) : IsR (ROT x base b s d) := by
  unfold ROT
  by_cases h : d < 32
  · rw [if_pos h]
    exact ((hx _ _ (by omega) (by omega)).mul (cos_isR (ang_isR _ _))).sub ((hx _ _ (by omega) (by omega)).mul (sin_isR (ang_isR _ _)))
  · rw [if_neg h]
    exact ((hx _ _ (by omega) (by omega)).mul (cos_isR (ang_isR _ _))).add ((hx _ _ (by omega) (by omega)).mul (sin_isR (ang_isR _ _)))
theorem scr_isR (h g n q : ℕ) (hh : h < 2) (hg : g < 4) (z : Fin 384) : IsR (SCR x b h g n q z) := by
  unfold SCR
  by_cases hb : inBand (n * 128) q z.val
  · rw [if_pos hb]
    refine IsR.mul (IsR.sum _ fun d => IsR.mul ?_ (rot_isR x b hx _ _ _ (by omega) (by omega) d.isLt)) ⟨_, scl_eq⟩
    unfold KW
    by_cases hk : 128 ≤ n * 128 + z.val ∧ n * 128 + z.val < 2176
    · rw [if_pos hk]; exact rot_isR x b hx _ _ _ (by omega) (by omega) d.isLt
    · rw [if_neg hk]; exact IsR.zero
  · rw [if_neg hb]; exact neg_isR
end Finite

section Block
variable (b : Fin 16) (x0 : FVec Ideal S1x2048x768 .bf16) (x1 x2 : FVec Ideal S2048x128 .f32) (x3 : FVec Ideal S8x128 .f32)
variable (hq : ∀ s c, s < 2048 → c < 512 → X0 x0 s c = XR x b s (3840 + ((c % 128 / 64 * 4 + c / 128) * 64 + c % 64)))
variable (hkv : ∀ s c, s < 2048 → c < 256 → X0 x0 s (512 + c) = XR x b s (4352 + c))
variable (h1 : ∀ (s : Fin 2048) (l : Fin 128), x1 (ix2 s l) = Ideal.cos (ANG s.val (l.val % 32)))
variable (h2 : ∀ (s : Fin 2048) (l : Fin 128), x2 (ix2 s l) = Ideal.sin (ANG s.val (l.val % 32)) * (if l.val % 64 < 32 then Ideal.ofBits .f32 3212836864#32 else 1))
variable (h3 : ∀ (h : Fin 8) (l : Fin 128), x3 (ix2 h l) = k (ix1 h))

include h1 h2 in
/-- The signed rotation of a head is the rotation by cases. -/
theorem rt_eq (base base' kv : ℕ) (s : Fin 2048) (d : ℕ) (hd : d < 64) (l : Fin 128) (hl : l.val = kv * 64 + d)
    (h : ∀ j, j < 64 → X0 x0 s.val (base + kv * 64 + j) = XR x b s.val (base' + j)) :
    RT x0 x1 x2 base s l = ROT x base' b s.val d := by
  unfold RT ROT
  rw [h1, h2]
  have e0 := h d hd
  by_cases hd' : d < 32
  · have e1 := h (d + 32) (by omega)
    rw [if_pos (by omega), if_pos (by omega), if_pos hd', show base + l.val = base + kv * 64 + d by omega, e0,
      show base + kv * 64 + d + 32 = base + kv * 64 + (d + 32) by omega, e1, show base' + (d + 32) = base' + d + 32 by omega,
      show l.val % 32 = d by omega, neg_one_lit, sub_eq_add_neg]
    congr 1
    rw [EReal.coe_neg, EReal.coe_one, mul_neg_one, mul_neg]
  · have e1 := h (d - 32) (by omega)
    rw [if_neg (by omega), if_neg (by omega), if_neg hd', show base + l.val = base + kv * 64 + d by omega, e0,
      show base + kv * 64 + d - 32 = base + kv * 64 + (d - 32) by omega, e1, show base' + (d - 32) = base' + d - 32 by omega,
      show l.val % 32 = d - 32 by omega, mul_one]

include hq hkv h1 h2 h3 in
/-- What a block holds is the reference's row, divided after the weighted sum. -/
theorem outk_late (s : Fin 2048) (e : Fin 512) :
    OUTK x0 x1 x2 x3 s e = attLate (SCR x b (e.val % 128 / 64) (e.val / 128) (s.val / 128) (s.val % 128)) (SNK k (e.val % 128 / 64) (e.val / 128) (by omega) (by omega))
      (fun z => VW x b (e.val % 128 / 64) (s.val / 128) z.val (e.val % 64)) := by
  have he := e.isLt
  have hs := s.isLt
  unfold OUTK
  refine att_congr (funext fun z => ?_) ((h3 _ _).trans ?_) (funext fun z => ?_)
  · have hz := z.isLt
    unfold SCR
    by_cases hb : inBand (s.val / 128 * 128) (s.val % 128) z.val
    · rw [if_pos hb, if_pos hb, scl_eq, sum_mul_real _ _ (by norm_num)]
      refine Finset.sum_congr (M := EReal) rfl fun d _ => ?_
      have hd := d.isLt
      rw [rt_eq x b x0 x1 x2 h1 h2 (128 * (e.val / 128)) (3840 + (e.val % 128 / 64 * 4 + e.val / 128) * 64) (e.val % 128 / 64) s d.val hd _ rfl
        (fun j hj => (hq _ _ hs (by omega)).trans (congrArg _ (by omega)))]
      unfold KW
      by_cases hk : 128 ≤ s.val / 128 * 128 + z.val ∧ s.val / 128 * 128 + z.val < 2176
      · rw [dif_pos hk, if_pos hk, rt_eq x b x0 x1 x2 h1 h2 512 (4352 + e.val % 128 / 64 * 64) (e.val % 128 / 64) ⟨s.val / 128 * 128 + z.val - 128, by omega⟩ d.val hd _ rfl
          (fun j hj => (show X0 x0 _ (512 + _ + j) = _ from by
            rw [show 512 + e.val % 128 / 64 * 64 + j = 512 + (e.val % 128 / 64 * 64 + j) by omega]
            exact (hkv _ _ (by dsimp only; omega) (by omega)).trans (congrArg _ (by omega)))),
          show s.val / 128 * 128 + s.val % 128 = s.val by omega, mul_right_comm, mul_comm (ROT x _ b s.val d.val)]
      · rw [dif_neg hk, if_neg hk, mul_zero, zero_mul, zero_mul]
    · rw [if_neg hb, if_neg hb]
  · rfl
  · have hz := z.isLt
    unfold VW
    by_cases hk : 128 ≤ s.val / 128 * 128 + z.val ∧ s.val / 128 * 128 + z.val < 2176
    · rw [if_pos hk, if_pos hk, show 640 + e.val % 128 = 512 + (128 + e.val % 128) by omega]
      exact (hkv _ _ (by omega) (by omega)).trans (congrArg _ (by omega))
    · rw [if_neg hk, if_neg hk]

include hq hkv h1 h2 h3 in
/-- … and, where the scores are finite and the sink is below infinity, the reference's row. -/
theorem outk_ref (hx : ∀ s c, 3840 ≤ c → c < 4480 → IsR (XR x b s c)) (hk : ∀ h : Fin 8, k (ix1 h) < ⊤) (s : Fin 2048) (e : Fin 512) :
    OUTK x0 x1 x2 x3 s e = REF x k b s e := by
  rw [outk_late x k b x0 x1 x2 x3 hq hkv h1 h2 h3]
  exact att_eq _ _ _ (fun z => scr_isR x b hx _ _ _ _ (by omega) (by omega) z) (hk _)
end Block

theorem top_lit : Ideal.ofBits FTy.f32 0x7F800000#32 = ⊤ := by simp [Ideal.ofBits, Ideal.ieee]

theorem lt_of_word {a : EReal} (h : BitVec.ofBool (decide (a < Ideal.ofBits FTy.f32 2139095040#32)) = 1#1) : a < ⊤ := by
  rw [← top_lit]
  by_contra hn
  rw [decide_eq_false hn] at h
  exact absurd h (by decide)

theorem isR_of_abs {a : EReal} (h : max a (-a) < ⊤) : IsR a := by
  have h1 := (max_lt_iff.mp h).1
  have h2 := (max_lt_iff.mp h).2
  induction a using EReal.rec with
  | bot => exact absurd h2 (by simp)
  | top => exact absurd h1 (lt_irrefl _)
  | coe r => exact ⟨r, rfl⟩

theorem pre_k (hp : Cert.Pre_bounded.fn (F := Ideal) x k = fun _ => 1#1) (h : Fin 8) : k (ix1 h) < ⊤ := by
  have e := congrFun hp (ix3 (0 : Fin 16) (0 : Fin 2048) (⟨640 + h.val, by omega⟩ : Fin 648))
  unfold Cert.Pre_bounded.fn at e
  pointwise at e
  exact lt_of_word e

theorem pre_x (hp : Cert.Pre_bounded.fn (F := Ideal) x k = fun _ => 1#1) (b : Fin 16) (s c : ℕ) (h1 : 3840 ≤ c) (h2 : c < 4480) : IsR (XR x b s c) := by
  unfold XR
  by_cases hs : s < 2048 ∧ c < 7680
  · rw [dif_pos hs]
    have e := congrFun hp (ix3 b (⟨s, hs.1⟩ : Fin 2048) (⟨c - 3840, by omega⟩ : Fin 648))
    unfold Cert.Pre_bounded.fn at e
    pointwise at e
    have hc : c - 3840 < 640 := by omega
    rw [dif_pos hc] at e
    have r : IsR (x (ix3 b (⟨s, hs.1⟩ : Fin 2048) (⟨3840 + (c - 3840), by omega⟩ : Fin 7680))) := isR_of_abs (lt_of_word e)
    have hc' : (⟨3840 + (c - 3840), by omega⟩ : Fin 7680) = ⟨c, hs.2⟩ := Fin.ext (by dsimp only; omega)
    rw [hc'] at r
    exact r
  · rw [dif_neg hs]; exact IsR.zero
end Cert.Swa
end
-- ==== Proof.SwaOut.lean ====
module
public import proofs.«01_k».proof.Proof.SwaBlk
public import proofs.«01_k».proof.Proof.SwaFin
@[expose] public section
set_option maxRecDepth 16384
noncomputable section
open Idealize.ShloMosaic Idealize.ShloMosaic.TcCoe Idealize.SL.Sem
namespace Cert.Swa
open Cert.KernelIdeal Cert.KernelIdeal.Gen
variable (m : (ℓ : Loc nD τ sig) → Buf (Elt Ideal) ℓ)

/-- Sequence `t`'s block of the projections, at a query column. -/
theorem hq (c : Dev nD) (t : Fin cfg0.N) (b : Fin 16) (hb : b.val = t.val) (s j : ℕ) (hs : s < 2048) (hj : j < 512) :
    X0 (iblk m c 0 t) s j = XR (m ((c.tc).loc main_arg0)) b s (3840 + ((j % 128 / 64 * 4 + j / 128) * 64 + j % 64)) := by
  unfold X0
  rw [dif_pos ⟨hs, by omega⟩]
  refine (blk0 m c t ⟨s, hs⟩ ⟨j, by omega⟩ b hb).trans ?_
  refine (colQ m c b ⟨s, hs⟩ ⟨j, hj⟩ _ rfl ⟨3840 + ((j % 128 / 64 * 4 + j / 128) * 64 + j % 64), by omega⟩ rfl).trans ?_
  exact x_ix _ b _ _ _ _ rfl rfl

/-- … and at a key or value column. -/
theorem hkv (c : Dev nD) (t : Fin cfg0.N) (b : Fin 16) (hb : b.val = t.val) (s j : ℕ) (hs : s < 2048) (hj : j < 256) :
    X0 (iblk m c 0 t) s (512 + j) = XR (m ((c.tc).loc main_arg0)) b s (4352 + j) := by
  unfold X0
  rw [dif_pos ⟨hs, by omega⟩]
  refine (blk0 m c t ⟨s, hs⟩ ⟨512 + j, by omega⟩ b hb).trans ?_
  refine (colKV m c b ⟨s, hs⟩ ⟨j, hj⟩ _ (show 5376 + (512 + j) = 5888 + j by omega) ⟨4352 + j, by omega⟩ rfl).trans ?_
  exact x_ix _ b _ _ _ _ rfl rfl

/-- Where an element of sequence `t`'s output block lies in the output. -/
theorem emb4 (t : Fin cfg0.N) (y : S1x2048x512.Idx) (b : Fin 16) (hb : b.val = t.val) :
    ((cfg0.win 4).blk t).view.emb y = (ix3 b (y 1) (y 2) : S16x2048x512.Idx) := by
  funext a
  apply Fin.ext
  have h := Pipeline.Window.rect_emb_val win0_4 t y a
  rw [(idx t).2.2.2.2] at h
  refine Eq.trans h ?_
  match a with
  | ⟨0, _⟩ => show t.val * 1 + (y 0).val = b.val; have := (y 0).isLt; have h1 : S1x2048x512.size 0 = 1 := rfl; omega
  | ⟨1, _⟩ => show 0 * 2048 + (y 1).val = (y 1).val; omega
  | ⟨2, _⟩ => show 0 * 512 + (y 2).val = (y 2).val; omega

theorem final (c : Dev nD) (hp : Cert.Pre_bounded.fn (F := Ideal) (m ((c.tc).loc main_arg0)) (m ((c.tc).loc main_arg1)) = fun _ => 1#1) :
    (dats m 0 c).arrAt 4 (cfgs 0).N
      = fun i : S16x2048x512.Idx => REF (m ((c.tc).loc main_arg0)) (m ((c.tc).loc main_arg1)) (i 0) (i 1) (i 2) := by
  refine (dats m 0 c).arrAt_eq_of_covers 4 _ (by decide +kernel) fun t _ y => ?_
  blk_simp
  rw [after0_4]
  have hN : cfg0.N = 16 := rfl
  have ht : t.val < 16 := hN ▸ t.isLt
  have e := emb4 t y ⟨t.val, ht⟩ rfl
  rw [show (win0_4.blk t).view.emb y = (ix3 (⟨t.val, ht⟩ : Fin 16) (y 1) (y 2) : S16x2048x512.Idx) from e, outs_eq]
  exact outk_ref _ _ ⟨t.val, ht⟩ _ _ _ _ (hq m c t _ rfl) (hkv m c t _ rfl)
    (fun s l => (blk1 m c t s l).trans (cosT m c s l)) (fun s l => (blk2 m c t s l).trans (sinT m c s l))
    (fun h l => (blk3 m c t h l).trans (sinkT m c h l)) (fun s j h1 h2 => pre_x _ _ hp _ s j h1 h2) (fun h => pre_k _ _ hp h) (y 1) (y 2)

end Cert.Swa
end
-- ==== Proof.DilA.lean ====
module
public import proofs.«01_k».proof.Proof.Gen.Kernel3Ideal.Value
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Dil
open Cert.Kernel3Ideal Cert.Kernel3Ideal.Gen
variable (m : (ℓ : Loc nD τ sig) → Buf (Elt Ideal) ℓ)

/-- The product's twelve slabs of 128 columns, as the kernel leaves them in its scratch. -/
def SC (x0 : Vec Ideal S1x1024x1024 .f32) (x1 x2 : Vec Ideal S1x1x1024 .f32) (x3 : Vec Ideal S1024x1536 .bf16) : Vec Ideal S12x1024x128 .f32 :=
  View.canon (Val := Elt Ideal) (e := .f32)
    [⟨Rect.unit ![11, 0, 0] ![1, 1024, 128] inb_S12x1024x128_S1x1024x128_11_0_0, k0_pay16 (k0_pay15 (k0_pay2 x0 x1 x2 x3))⟩,
      ⟨Rect.unit ![10, 0, 0] ![1, 1024, 128] inb_S12x1024x128_S1x1024x128_10_0_0, k0_pay14 (k0_pay2 x0 x1 x2 x3)⟩,
      ⟨Rect.unit ![9, 0, 0] ![1, 1024, 128] inb_S12x1024x128_S1x1024x128_9_0_0, k0_pay13 (k0_pay2 x0 x1 x2 x3)⟩,
      ⟨Rect.unit ![8, 0, 0] ![1, 1024, 128] inb_S12x1024x128_S1x1024x128_8_0_0, k0_pay12 (k0_pay2 x0 x1 x2 x3)⟩,
      ⟨Rect.unit ![7, 0, 0] ![1, 1024, 128] inb_S12x1024x128_S1x1024x128_7_0_0, k0_pay11 (k0_pay2 x0 x1 x2 x3)⟩,
      ⟨Rect.unit ![6, 0, 0] ![1, 1024, 128] inb_S12x1024x128_S1x1024x128_6_0_0, k0_pay10 (k0_pay2 x0 x1 x2 x3)⟩,
      ⟨Rect.unit ![5, 0, 0] ![1, 1024, 128] inb_S12x1024x128_S1x1024x128_5_0_0, k0_pay9 (k0_pay2 x0 x1 x2 x3)⟩,
      ⟨Rect.unit ![4, 0, 0] ![1, 1024, 128] inb_S12x1024x128_S1x1024x128_4_0_0, k0_pay8 (k0_pay2 x0 x1 x2 x3)⟩,
      ⟨Rect.unit ![3, 0, 0] ![1, 1024, 128] inb_S12x1024x128_S1x1024x128_3_0_0, k0_pay7 (k0_pay6 x0 x1 x2 x3)⟩,
      ⟨Rect.unit ![2, 0, 0] ![1, 1024, 128] inb_S12x1024x128_S1x1024x128_2_0_0, k0_pay5 x0 x1 x2 x3⟩,
      ⟨Rect.unit ![1, 0, 0] ![1, 1024, 128] inb_S12x1024x128_S1x1024x128_1_0_0, k0_pay4 x0 x1 x2 x3⟩,
      ⟨Rect.unit ![0, 0, 0] ![1, 1024, 128] inb_S12x1024x128_S1x1024x128_0_0_0, k0_pay3 x0 x1 x2 x3⟩]

/-- The columns of the product from `o` on, as a slab of the scratch. -/
def SLAB (P : FVec Ideal S1024x1536 .f32) (o : ℕ) (ho : S1024x1536.Slices ![0, o] S1024x128) : FVec Ideal S1x1024x128 .f32 :=
  shapeCast S1x1024x128 (extractStridedSlice S1024x128 ![0, o] P ho) shapeCasts_S1024x128_S1x1024x128

theorem slab_at (P : FVec Ideal S1024x1536 .f32) (o : ℕ) (ho : S1024x1536.Slices ![0, o] S1024x128) (a : Fin 1) (r : Fin 1024) (l : Fin 128)
    (z : Fin 1536) (h : z.val = o + l.val) : SLAB P o ho (ix3 a r l) = P (ix2 r z) := by
  unfold SLAB
  pointwise
  exact congrArg (fun u : Fin 1536 => P (ix2 r u)) (Fin.ext h.symm)

theorem slab_trans (P : FVec Ideal S1024x1536 .f32) (y : S12x1024x128.Idx) (x : S1x1024x128.Idx) (q : ℕ)
    (h0 : (y 0 : ℕ) = q + x 0) (h1 : (y 1 : ℕ) = x 1) (h2 : (y 2 : ℕ) = x 2) (o : ℕ) (hq : o = 128 * q) (ho : S1024x1536.Slices ![0, o] S1024x128)
    (Q : FVec Ideal S1x1024x128 .f32) (hQ : Q = SLAB P o ho) :
    Q x = P (ix2 (y 1 : Fin 1024) (⟨128 * (y 0).val + (y 2).val, by have : (y 0).val < 12 := (y 0).isLt; have : (y 2).val < 128 := (y 2).isLt; omega⟩ : Fin 1536)) := by
  have b0 : (x 0).val < 1 := (x 0).isLt
  obtain ⟨x0, x1, x2, rfl⟩ : ∃ (a : Fin 1) (b : Fin 1024) (d : Fin 128), x = ix3 a b d := ⟨x 0, x 1, x 2, by funext a; match a with | ⟨0, _⟩ => rfl | ⟨1, _⟩ => rfl | ⟨2, _⟩ => rfl⟩
  rw [hQ, show (y 1 : Fin 1024) = x1 from Fin.ext h1]
  refine slab_at P o ho x0 x1 x2 _ ?_
  have h2' : (y 2).val = x2.val := h2
  show 128 * (y 0).val + (y 2).val = o + x2.val
  omega

set_option maxHeartbeats 4000000 in
theorem SC_at (x0 : Vec Ideal S1x1024x1024 .f32) (x1 x2 : Vec Ideal S1x1x1024 .f32) (x3 : Vec Ideal S1024x1536 .bf16) (y : S12x1024x128.Idx) :
    SC x0 x1 x2 x3 y = k0_pay2 (F := Ideal) x0 x1 x2 x3 (ix2 (y 1 : Fin 1024) (⟨128 * (y 0).val + (y 2).val, by have : (y 0).val < 12 := (y 0).isLt; have : (y 2).val < 128 := (y 2).isLt; omega⟩ : Fin 1536)) := by
  unfold SC
  canon_tiles x h
  all_goals
    first
    | refine slab_trans (k0_pay2 (F := Ideal) x0 x1 x2 x3) y x _ h0 h1 h2 _ rfl (by decide) _ ?_
    | refine slab_trans (k0_pay2 (F := Ideal) x0 x1 x2 x3) y x _ (h0.trans (Nat.zero_add _).symm) h1 h2 _ rfl (by decide) _ ?_
    rfl

/-- Every 4th row of slab `q` from row `r` on, as the kernel stores it. -/
def PAY4 (S : Vec Ideal S12x1024x128 .f32) (q r : ℕ) (inb : ∀ a, S1x256x128.size a = 0 ∨ (![q, r, 0] : Fin 3 → Nat) a + (![1, 4, 1] : Fin 3 → Nat) a * (S1x256x128.size a - 1) < S12x1024x128.size a) :
    FVec Ideal S1x1x256x128 .bf16 :=
  shapeCast S1x1x256x128 (truncf (F := Ideal) .bf16 (shapeCast S256x128 (fun j => S ((⟨![q, r, 0], S1x256x128.size, ![1, 4, 1], inb⟩ : LoadRect S12x1024x128).idx j) : FVec Ideal S1x256x128 .f32) shapeCasts_S1x256x128_S256x128) bitsLt_bf16_f32) shapeCasts_S256x128_S1x1x256x128

theorem pay4_at (S : Vec Ideal S12x1024x128 .f32) (q r : ℕ) (inb : ∀ a, S1x256x128.size a = 0 ∨ (![q, r, 0] : Fin 3 → Nat) a + (![1, 4, 1] : Fin 3 → Nat) a * (S1x256x128.size a - 1) < S12x1024x128.size a)
    (x : S1x1x256x128.Idx) (z : S12x1024x128.Idx) (h0 : (z 0 : ℕ) = q) (h1 : (z 1 : ℕ) = r + 4 * (x 2).val) (h2 : (z 2 : ℕ) = x 3) : PAY4 S q r inb x = S z := by
  obtain ⟨x0, x1, x2, x3, rfl⟩ : ∃ (a : Fin 1) (b : Fin 1) (d : Fin 256) (e : Fin 128), x = ix4 a b d e := ⟨x 0, x 1, x 2, x 3, by funext a; match a with | ⟨0, _⟩ => rfl | ⟨1, _⟩ => rfl | ⟨2, _⟩ => rfl | ⟨3, _⟩ => rfl⟩
  have e : PAY4 S q r inb (ix4 x0 x1 x2 x3) = S ((⟨![q, r, 0], S1x256x128.size, ![1, 4, 1], inb⟩ : LoadRect S12x1024x128).idx (ix3 (0 : Fin 1) x2 x3)) := by
    unfold PAY4
    generalize ((⟨![q, r, 0], S1x256x128.size, ![1, 4, 1], inb⟩ : LoadRect S12x1024x128).idx) = f
    pointwise
  rw [e]
  congr 1
  funext a; apply Fin.ext
  match a with
  | ⟨0, _⟩ => exact Eq.trans (show q + 1 * 0 = q by omega) h0.symm
  | ⟨1, _⟩ => exact h1.symm
  | ⟨2, _⟩ => exact Eq.trans (show 0 + 1 * x3.val = x3.val by omega) h2.symm

theorem pay4_trans (S : Vec Ideal S12x1024x128 .f32) (y : S1x4x256x768.Idx) (x : S1x1x256x128.Idx) (q r o : ℕ)
    (h1 : (y 1 : ℕ) = r + x 1) (h2 : (y 2 : ℕ) = x 2) (h3 : (y 3 : ℕ) = o + x 3) (ho : 0 + o / 128 = q) (ho' : o % 128 = 0)
    (inb : ∀ a, S1x256x128.size a = 0 ∨ (![q, r, 0] : Fin 3 → Nat) a + (![1, 4, 1] : Fin 3 → Nat) a * (S1x256x128.size a - 1) < S12x1024x128.size a)
    (P : FVec Ideal S1x1x256x128 .bf16) (hP : P = PAY4 S q r inb) :
    P x = S (ix3 (⟨0 + (y 3).val / 128, by have : (y 3).val < 768 := (y 3).isLt; omega⟩ : Fin 12) (⟨(y 1).val + 4 * (y 2).val, by have : (y 1).val < 4 := (y 1).isLt; have : (y 2).val < 256 := (y 2).isLt; omega⟩ : Fin 1024) (⟨(y 3).val % 128, by omega⟩ : Fin 128)) := by
  have b3 : (x 3).val < 128 := (x 3).isLt
  have b1 : (x 1).val < 1 := (x 1).isLt
  rw [hP]
  refine pay4_at S q r inb x _ ?_ ?_ ?_
  · show 0 + (y 3).val / 128 = q; omega
  · show (y 1).val + 4 * (y 2).val = _; omega
  · show (y 3).val % 128 = _; omega

/-- Every 16th row of slab `q` from row `r` on, as the kernel stores it. -/
def PAY16 (S : Vec Ideal S12x1024x128 .f32) (q r : ℕ) (inb : ∀ a, S1x64x128.size a = 0 ∨ (![q, r, 0] : Fin 3 → Nat) a + (![1, 16, 1] : Fin 3 → Nat) a * (S1x64x128.size a - 1) < S12x1024x128.size a) :
    FVec Ideal S1x1x64x128 .bf16 :=
  shapeCast S1x1x64x128 (truncf (F := Ideal) .bf16 (shapeCast S64x128 (fun j => S ((⟨![q, r, 0], S1x64x128.size, ![1, 16, 1], inb⟩ : LoadRect S12x1024x128).idx j) : FVec Ideal S1x64x128 .f32) shapeCasts_S1x64x128_S64x128) bitsLt_bf16_f32) shapeCasts_S64x128_S1x1x64x128

theorem pay16_at (S : Vec Ideal S12x1024x128 .f32) (q r : ℕ) (inb : ∀ a, S1x64x128.size a = 0 ∨ (![q, r, 0] : Fin 3 → Nat) a + (![1, 16, 1] : Fin 3 → Nat) a * (S1x64x128.size a - 1) < S12x1024x128.size a)
    (x : S1x1x64x128.Idx) (z : S12x1024x128.Idx) (h0 : (z 0 : ℕ) = q) (h1 : (z 1 : ℕ) = r + 16 * (x 2).val) (h2 : (z 2 : ℕ) = x 3) : PAY16 S q r inb x = S z := by
  obtain ⟨x0, x1, x2, x3, rfl⟩ : ∃ (a : Fin 1) (b : Fin 1) (d : Fin 64) (e : Fin 128), x = ix4 a b d e := ⟨x 0, x 1, x 2, x 3, by funext a; match a with | ⟨0, _⟩ => rfl | ⟨1, _⟩ => rfl | ⟨2, _⟩ => rfl | ⟨3, _⟩ => rfl⟩
  have e : PAY16 S q r inb (ix4 x0 x1 x2 x3) = S ((⟨![q, r, 0], S1x64x128.size, ![1, 16, 1], inb⟩ : LoadRect S12x1024x128).idx (ix3 (0 : Fin 1) x2 x3)) := by
    unfold PAY16
    generalize ((⟨![q, r, 0], S1x64x128.size, ![1, 16, 1], inb⟩ : LoadRect S12x1024x128).idx) = f
    pointwise
  rw [e]
  congr 1
  funext a; apply Fin.ext
  match a with
  | ⟨0, _⟩ => exact Eq.trans (show q + 1 * 0 = q by omega) h0.symm
  | ⟨1, _⟩ => exact h1.symm
  | ⟨2, _⟩ => exact Eq.trans (show 0 + 1 * x3.val = x3.val by omega) h2.symm

theorem pay16_trans (S : Vec Ideal S12x1024x128 .f32) (y : S1x16x64x768.Idx) (x : S1x1x64x128.Idx) (q r o : ℕ)
    (h1 : (y 1 : ℕ) = r + x 1) (h2 : (y 2 : ℕ) = x 2) (h3 : (y 3 : ℕ) = o + x 3) (ho : 6 + o / 128 = q) (ho' : o % 128 = 0)
    (inb : ∀ a, S1x64x128.size a = 0 ∨ (![q, r, 0] : Fin 3 → Nat) a + (![1, 16, 1] : Fin 3 → Nat) a * (S1x64x128.size a - 1) < S12x1024x128.size a)
    (P : FVec Ideal S1x1x64x128 .bf16) (hP : P = PAY16 S q r inb) :
    P x = S (ix3 (⟨6 + (y 3).val / 128, by have : (y 3).val < 768 := (y 3).isLt; omega⟩ : Fin 12) (⟨(y 1).val + 16 * (y 2).val, by have : (y 1).val < 16 := (y 1).isLt; have : (y 2).val < 64 := (y 2).isLt; omega⟩ : Fin 1024) (⟨(y 3).val % 128, by omega⟩ : Fin 128)) := by
  have b3 : (x 3).val < 128 := (x 3).isLt
  have b1 : (x 1).val < 1 := (x 1).isLt
  rw [hP]
  refine pay16_at S q r inb x _ ?_ ?_ ?_
  · show 6 + (y 3).val / 128 = q; omega
  · show (y 1).val + 16 * (y 2).val = _; omega
  · show (y 3).val % 128 = _; omega
end Cert.Dil
end
-- ==== Proof.DilB.lean ====
module
public import proofs.«01_k».proof.Proof.DilA
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Dil
open Cert.Kernel3Ideal Cert.Kernel3Ideal.Gen
variable (m : (ℓ : Loc nD τ sig) → Buf (Elt Ideal) ℓ)

set_option maxHeartbeats 4000000 in
theorem point4 (c : Dev nD) (t : Fin cfg0.N) (y : S1x4x256x768.Idx) : (outsAt0 m c t).1 y
    = SC (iblk m c 0 t) (iblk m c 1 t) (iblk m c 2 t) (iblk m c 3 t) (ix3 (⟨0 + (y 3).val / 128, by have : (y 3).val < 768 := (y 3).isLt; omega⟩ : Fin 12) (⟨(y 1).val + 4 * (y 2).val, by have : (y 1).val < 4 := (y 1).isLt; have : (y 2).val < 256 := (y 2).isLt; omega⟩ : Fin 1024) (⟨(y 3).val % 128, by omega⟩ : Fin 128)) := by
  unfold outsAt0
  dsimp only
  frame_open
  simp only [View.readCov_eq_canon']
  frame_out
  have hS := SC.eq_1 (iblk m c 0 t) (iblk m c 1 t) (iblk m c 2 t) (iblk m c 3 t)
  simp only [← hS]
  generalize SC (iblk m c 0 t) (iblk m c 1 t) (iblk m c 2 t) (iblk m c 3 t) = S at *
  clear hS
  canon_tiles x h
  all_goals
    first
    | refine pay4_trans S y x _ _ _ h1 h2 h3 rfl rfl (by decide) _ ?_
    | refine pay4_trans S y x _ _ _ h1 h2 (h3.trans (Nat.zero_add _).symm) rfl rfl (by decide) _ ?_
    | refine pay4_trans S y x _ _ _ (h1.trans (Nat.zero_add _).symm) h2 h3 rfl rfl (by decide) _ ?_
    | refine pay4_trans S y x _ _ _ (h1.trans (Nat.zero_add _).symm) h2 (h3.trans (Nat.zero_add _).symm) rfl rfl (by decide) _ ?_
    rfl

set_option maxHeartbeats 4000000 in
theorem point16 (c : Dev nD) (t : Fin cfg0.N) (y : S1x16x64x768.Idx) : (outsAt0 m c t).2 y
    = SC (iblk m c 0 t) (iblk m c 1 t) (iblk m c 2 t) (iblk m c 3 t) (ix3 (⟨6 + (y 3).val / 128, by have : (y 3).val < 768 := (y 3).isLt; omega⟩ : Fin 12) (⟨(y 1).val + 16 * (y 2).val, by have : (y 1).val < 16 := (y 1).isLt; have : (y 2).val < 64 := (y 2).isLt; omega⟩ : Fin 1024) (⟨(y 3).val % 128, by omega⟩ : Fin 128)) := by
  unfold outsAt0
  dsimp only
  frame_open
  simp only [View.readCov_eq_canon']
  frame_out
  have hS := SC.eq_1 (iblk m c 0 t) (iblk m c 1 t) (iblk m c 2 t) (iblk m c 3 t)
  simp only [← hS]
  generalize SC (iblk m c 0 t) (iblk m c 1 t) (iblk m c 2 t) (iblk m c 3 t) = S at *
  clear hS
  canon_tiles x h
  all_goals
    first
    | refine pay16_trans S y x _ _ _ h1 h2 h3 rfl rfl (by decide) _ ?_
    | refine pay16_trans S y x _ _ _ h1 h2 (h3.trans (Nat.zero_add _).symm) rfl rfl (by decide) _ ?_
    | refine pay16_trans S y x _ _ _ (h1.trans (Nat.zero_add _).symm) h2 h3 rfl rfl (by decide) _ ?_
    | refine pay16_trans S y x _ _ _ (h1.trans (Nat.zero_add _).symm) h2 (h3.trans (Nat.zero_add _).symm) rfl rfl (by decide) _ ?_
    rfl
end Cert.Dil
end
-- ==== Proof.DilC.lean ====
module
public import proofs.«01_k».proof.Proof.DilB
public import Idealize.ShloMosaic.Lib.Claim
public import Idealize.ShloMosaic.Lib.Pointwise
public import Idealize.ShloMosaic.Lib.StableHlo.ReadAt
@[expose] public section
set_option maxRecDepth 16384
noncomputable section
open Idealize.ShloMosaic Idealize.ShloMosaic.TcCoe Idealize.SL.Sem
open Idealize.ShloMosaic.Pipeline (Dat)
namespace Cert.Dil
open Cert.Kernel3Ideal Cert.Kernel3Ideal.Gen
variable (m : (ℓ : Loc nD τ sig) → Buf (Elt Ideal) ℓ)

theorem dite_eq_of {α : Sort*} {p : Prop} [Decidable p] {a : p → α} {b : ¬p → α} {r : α} (ha : ∀ h, a h = r) (hb : ∀ h, b h = r) :
    dite p a b = r := by
  split
  · exact ha _
  · exact hb _

/-- The column of the problem's weights that holds column `n` of the dilated groups' weights. -/
def colD (n : ℕ) : ℕ := 768 * (n % 768 / 256) + 256 * (n / 768 + 1) + n % 256

theorem colD_lt (n : ℕ) (h : n < 1536) : colD n < 7680 := by
  unfold colD; omega

theorem w_eq (c : Dev nD) (k : Fin 1024) (a b : Fin 7680) (h : a.val = b.val) :
    (m ((c.tc : Thread nD τ).loc main_arg3) : FVec Ideal S1024x7680 .f32) (ix2 k a)
      = (m ((c.tc : Thread nD τ).loc main_arg3) : FVec Ideal S1024x7680 .f32) (ix2 k b) := by
  rw [Fin.ext h]

set_option maxHeartbeats 4000000 in
theorem wdil_eq (c : Dev nD) (k : Fin 1024) (n : Fin 1536) :
    (V m c main_v52 : FVec Ideal S1024x1536 .bf16) (ix2 k n) = (m ((c.tc : Thread nD τ).loc main_arg3) : FVec Ideal S1024x7680 .f32) (ix2 k ⟨colD n.val, colD_lt _ n.isLt⟩) := by
  have hn := n.isLt
  unfold V
  after_reads_simp
  pointwise
  refine dite_eq_of (fun h => ?_) fun h => ?_
  all_goals
    after_reads_simp
    dsimp only [Matrix.cons_val]
    pointwise
    refine dite_eq_of (fun g => ?_) fun g => dite_eq_of (fun g' => ?_) fun g' => ?_
    all_goals
      rw [StableHlo.unary_result']
      after_reads_simp
      pointwise
      exact w_eq m c k _ _ (by simp only [colD]; omega)

/-- The dilated groups' modulated projection at its index: row `s` of `x (1 + scale) + shift` against column `colD n` of the weights. -/
def PD (x : FVec Ideal S16x2048x1024 .f32) (sc sh : FVec Ideal S16x1x1024 .f32) (w : FVec Ideal S1024x7680 .f32)
    (b : Fin 16) (s : Fin 2048) (n : Fin 1536) : EReal :=
  ∑ k : Fin 1024, (x (ix3 b s k) * (1 + sc (ix3 b (0 : Fin 1) k)) + sh (ix3 b (0 : Fin 1) k)) * w (ix2 k ⟨colD n.val, colD_lt _ n.isLt⟩)

theorem idx : ∀ t : Fin cfg0.N, win0_0.index t = ![t.val / 2, t.val % 2, 0] ∧ win0_1.index t = ![t.val / 2, 0, 0]
    ∧ win0_2.index t = ![t.val / 2, 0, 0] ∧ win0_3.index t = ![0, 0] ∧ win0_4.index t = ![t.val / 2, 0, t.val % 2, 0] ∧ win0_5.index t = ![t.val / 2, 0, t.val % 2, 0] :=
  (by decide +kernel : ∀ t : Fin grid0.N, _)

theorem N32 : cfg0.N = 32 := by decide +kernel

theorem pay_pd (c : Dev nD) (t : Fin cfg0.N) (r : Fin 1024) (n : Fin 1536) (b : Fin 16) (s : Fin 2048)
    (hb : b.val = t.val / 2) (hs : s.val = 1024 * (t.val % 2) + r.val) :
    k0_pay2 (F := Ideal) (iblk m c 0 t) (iblk m c 1 t) (iblk m c 2 t) (iblk m c 3 t) (ix2 r n)
      = PD (m ((c.tc : Thread nD τ).loc main_arg0)) (m ((c.tc : Thread nD τ).loc main_arg1)) (m ((c.tc : Thread nD τ).loc main_arg2)) (m ((c.tc : Thread nD τ).loc main_arg3)) b s n := by
  pointwise [k0_pay2, PD]
  refine Finset.sum_congr (M := EReal) rfl fun k _ => ?_
  rw [← wdil_eq m c k n]
  blk_point [iblk, idx t]

theorem out4 (c : Dev nD) (t : Fin cfg0.N) (y : S1x4x256x768.Idx) (b : Fin 16) (s : Fin 2048) (z : Fin 1536)
    (hb : b.val = t.val / 2) (hs : s.val = 1024 * (t.val % 2) + ((y 1).val + 4 * (y 2).val)) (hz : z.val = 0 + (y 3).val) :
    (outsAt0 m c t).1 y = PD (m ((c.tc : Thread nD τ).loc main_arg0)) (m ((c.tc : Thread nD τ).loc main_arg1)) (m ((c.tc : Thread nD τ).loc main_arg2)) (m ((c.tc : Thread nD τ).loc main_arg3)) b s z := by
  rw [point4, SC_at]
  refine Eq.trans ?_ (pay_pd m c t ⟨(y 1).val + 4 * (y 2).val, by have : (y 1).val < 4 := (y 1).isLt; have : (y 2).val < 256 := (y 2).isLt; omega⟩ z b s hb hs)
  refine congrArg (fun z => k0_pay2 (F := Ideal) (iblk m c 0 t) (iblk m c 1 t) (iblk m c 2 t) (iblk m c 3 t) (ix2 _ z)) (Fin.ext ?_)
  show 128 * (0 + (y 3).val / 128) + (y 3).val % 128 = z.val
  omega

theorem final4 (c : Dev nD) : (dats m 0 c).arrAt 4 (cfgs 0).N
    = fun i : S16x4x512x768.Idx => PD (m ((c.tc : Thread nD τ).loc main_arg0)) (m ((c.tc : Thread nD τ).loc main_arg1)) (m ((c.tc : Thread nD τ).loc main_arg2)) (m ((c.tc : Thread nD τ).loc main_arg3)) (i 0)
        (⟨(i 1).val + 4 * (i 2).val, by have : (i 1).val < 4 := (i 1).isLt; have : (i 2).val < 512 := (i 2).isLt; omega⟩ : Fin 2048) (⟨0 + (i 3).val, by have : (i 3).val < 768 := (i 3).isLt; omega⟩ : Fin 1536) := by
  refine (dats m 0 c).arrAt_eq_of_covers 4 _ (by decide +kernel) fun t _ y => ?_
  blk_simp
  rw [after0_4]
  have e := (idx t).2.2.2.2.1
  have e0 : win0_4.index t 0 = t.val / 2 := congrFun e 0
  have e1 : win0_4.index t 1 = 0 := congrFun e 1
  have e2 : win0_4.index t 2 = t.val % 2 := congrFun e 2
  have e3 : win0_4.index t 3 = 0 := congrFun e 3
  have b0 : (y 0).val < 1 := (y 0).isLt
  refine out4 m c t y _ _ _ ?_ ?_ ?_
  · refine Eq.trans (Pipeline.Window.rect_emb_val win0_4 t y 0) ?_
    show win0_4.index t 0 * 1 + (y 0).val = _
    rw [e0]; omega
  · show win0_4.index t 1 * 4 + (y 1).val + 4 * (win0_4.index t 2 * 256 + (y 2).val) = _
    rw [e1, e2]; omega
  · show _ = 0 + (y 3).val
    dsimp only
    rw [e3]

theorem out16 (c : Dev nD) (t : Fin cfg0.N) (y : S1x16x64x768.Idx) (b : Fin 16) (s : Fin 2048) (z : Fin 1536)
    (hb : b.val = t.val / 2) (hs : s.val = 1024 * (t.val % 2) + ((y 1).val + 16 * (y 2).val)) (hz : z.val = 768 + (y 3).val) :
    (outsAt0 m c t).2 y = PD (m ((c.tc : Thread nD τ).loc main_arg0)) (m ((c.tc : Thread nD τ).loc main_arg1)) (m ((c.tc : Thread nD τ).loc main_arg2)) (m ((c.tc : Thread nD τ).loc main_arg3)) b s z := by
  rw [point16, SC_at]
  refine Eq.trans ?_ (pay_pd m c t ⟨(y 1).val + 16 * (y 2).val, by have : (y 1).val < 16 := (y 1).isLt; have : (y 2).val < 64 := (y 2).isLt; omega⟩ z b s hb hs)
  refine congrArg (fun z => k0_pay2 (F := Ideal) (iblk m c 0 t) (iblk m c 1 t) (iblk m c 2 t) (iblk m c 3 t) (ix2 _ z)) (Fin.ext ?_)
  show 128 * (6 + (y 3).val / 128) + (y 3).val % 128 = z.val
  omega

theorem final16 (c : Dev nD) : (dats m 0 c).arrAt 5 (cfgs 0).N
    = fun i : S16x16x128x768.Idx => PD (m ((c.tc : Thread nD τ).loc main_arg0)) (m ((c.tc : Thread nD τ).loc main_arg1)) (m ((c.tc : Thread nD τ).loc main_arg2)) (m ((c.tc : Thread nD τ).loc main_arg3)) (i 0)
        (⟨(i 1).val + 16 * (i 2).val, by have : (i 1).val < 16 := (i 1).isLt; have : (i 2).val < 128 := (i 2).isLt; omega⟩ : Fin 2048) (⟨768 + (i 3).val, by have : (i 3).val < 768 := (i 3).isLt; omega⟩ : Fin 1536) := by
  refine (dats m 0 c).arrAt_eq_of_covers 5 _ (by decide +kernel) fun t _ y => ?_
  blk_simp
  rw [after0_5]
  have e := (idx t).2.2.2.2.2
  have e0 : win0_5.index t 0 = t.val / 2 := congrFun e 0
  have e1 : win0_5.index t 1 = 0 := congrFun e 1
  have e2 : win0_5.index t 2 = t.val % 2 := congrFun e 2
  have e3 : win0_5.index t 3 = 0 := congrFun e 3
  have b0 : (y 0).val < 1 := (y 0).isLt
  refine out16 m c t y _ _ _ ?_ ?_ ?_
  · refine Eq.trans (Pipeline.Window.rect_emb_val win0_5 t y 0) ?_
    show win0_5.index t 0 * 1 + (y 0).val = _
    rw [e0]; omega
  · show win0_5.index t 1 * 16 + (y 1).val + 16 * (win0_5.index t 2 * 64 + (y 2).val) = _
    rw [e1, e2]; omega
  · show _ = 768 + (y 3).val
    dsimp only
    rw [e3]; omega
end Cert.Dil
end
-- ==== Proof.DilRef.lean ====
module
public import proofs.«01_k».proof.Proof.DilC
public import proofs.«01_k».proof.Proof.Gen.Reference3Ideal.Read
@[expose] public section
set_option maxRecDepth 16384
noncomputable section
open Idealize.ShloMosaic Idealize.ShloMosaic.TcCoe Idealize.SL.Sem
namespace Cert.Dil
open Cert.Reference3Ideal Cert.Reference3Ideal.Gen Cert.Reference3Ideal.Read
variable (x : FVec Ideal S16x2048x1024 .f32) (sc sh : FVec Ideal S16x1x1024 .f32) (w : FVec Ideal S1024x7680 .f32)

/-- The reference's projection before its columns are rearranged. -/
theorem proj_row (b : Fin 16) (s : Fin 2048) (q : Fin 7680) : (val_main_v6 (F := Ideal) x sc sh w : FVec Ideal S16x2048x7680 .f32) (ix3 b s q)
    = ∑ k : Fin 1024, (x (ix3 b s k) * (1 + sc (ix3 b (0 : Fin 1) k)) + sh (ix3 b (0 : Fin 1) k)) * w (ix2 k q) := by
  pointwise [val_main_v6, val_main_v5, val_main_v4, val_main_v3, val_main_v2, val_main_v1, val_main_v0, val_main_cst]

theorem proj_col (b : Fin 16) (s : Fin 2048) (q : Fin 7680) (n : Fin 1536) (h : q.val = colD n.val) :
    (val_main_v6 (F := Ideal) x sc sh w : FVec Ideal S16x2048x7680 .f32) (ix3 b s q) = PD x sc sh w b s n := by
  rw [proj_row]; unfold PD
  rw [show q = ⟨colD n.val, colD_lt _ n.isLt⟩ from Fin.ext h]

/-- The two groups' columns: the queries', keys' and values' columns of the group, side by side. -/
theorem group1 (b : Fin 16) (s : Fin 2048) (j : Fin 768) (n : Fin 1536) (h : n.val = 0 + j.val) :
    (val_main_v14 (F := Ideal) x sc sh w : FVec Ideal S16x2048x768 .f32) (ix3 b s j) = PD x sc sh w b s n := by
  have hj := j.isLt
  unfold val_main_v14
  generalize e : (val_main_v6 (F := Ideal) x sc sh w : FVec Ideal S16x2048x7680 .f32) = P
  pointwise
  refine dite_eq_of (fun h0 => ?_) fun h0 => dite_eq_of (fun h1 => ?_) fun h1 => ?_
  all_goals
    pointwise [val_main_v13, val_main_v12, val_main_v11, val_main_v10, val_main_v9, val_main_v8, val_main_v7]
    exact proj_col x sc sh w b s _ n (by simp only [colD]; omega)

theorem group2 (b : Fin 16) (s : Fin 2048) (j : Fin 768) (n : Fin 1536) (h : n.val = 768 + j.val) :
    (val_main_v21 (F := Ideal) x sc sh w : FVec Ideal S16x2048x768 .f32) (ix3 b s j) = PD x sc sh w b s n := by
  have hj := j.isLt
  unfold val_main_v21
  generalize e : (val_main_v6 (F := Ideal) x sc sh w : FVec Ideal S16x2048x7680 .f32) = P
  pointwise
  refine dite_eq_of (fun h0 => ?_) fun h0 => dite_eq_of (fun h1 => ?_) fun h1 => ?_
  all_goals
    pointwise [val_main_v20, val_main_v19, val_main_v18, val_main_v10, val_main_v9, val_main_v8, val_main_v7]
    exact proj_col x sc sh w b s _ n (by simp only [colD]; omega)

theorem ref4 (b : Fin 16) (r : Fin 4) (p : Fin 512) (j : Fin 768) (s : Fin 2048) (n : Fin 1536) (hs : s.val = r.val + 4 * p.val) (h : n.val = 0 + j.val) :
    (val_main_v17 (F := Ideal) x sc sh w : FVec Ideal S16x4x512x768 .bf16) (ix4 b r p j) = PD x sc sh w b s n := by
  have hb := b.isLt
  have hr := r.isLt
  have hp := p.isLt
  have hj := j.isLt
  rw [val_main_v17_apply]
  show (val_main_v16 (F := Ideal) x sc sh w : FVec Ideal S16x4x512x768 .f32) (ix4 b r p j) = _
  rw [val_main_v16_apply, val_main_v15_apply]
  refine Eq.trans (congrArg (val_main_v14 (F := Ideal) x sc sh w) ?_) (group1 x sc sh w b s j n h)
  funext a; apply Fin.ext
  match a with
  | ⟨0, _⟩ => show (((b.val * 512 + p.val) * 4 + r.val) * 768 + j.val) / 1572864 = b.val; omega
  | ⟨1, _⟩ => show (((b.val * 512 + p.val) * 4 + r.val) * 768 + j.val) / 768 % 2048 = s.val; omega
  | ⟨2, _⟩ => show (((b.val * 512 + p.val) * 4 + r.val) * 768 + j.val) % 768 = j.val; omega

theorem ref16 (b : Fin 16) (r : Fin 16) (p : Fin 128) (j : Fin 768) (s : Fin 2048) (n : Fin 1536) (hs : s.val = r.val + 16 * p.val) (h : n.val = 768 + j.val) :
    (val_main_v24 (F := Ideal) x sc sh w : FVec Ideal S16x16x128x768 .bf16) (ix4 b r p j) = PD x sc sh w b s n := by
  have hb := b.isLt
  have hr := r.isLt
  have hp := p.isLt
  have hj := j.isLt
  rw [val_main_v24_apply]
  show (val_main_v23 (F := Ideal) x sc sh w : FVec Ideal S16x16x128x768 .f32) (ix4 b r p j) = _
  rw [val_main_v23_apply, val_main_v22_apply]
  refine Eq.trans (congrArg (val_main_v21 (F := Ideal) x sc sh w) ?_) (group2 x sc sh w b s j n h)
  funext a; apply Fin.ext
  match a with
  | ⟨0, _⟩ => show (((b.val * 128 + p.val) * 16 + r.val) * 768 + j.val) / 1572864 = b.val; omega
  | ⟨1, _⟩ => show (((b.val * 128 + p.val) * 16 + r.val) * 768 + j.val) / 768 % 2048 = s.val; omega
  | ⟨2, _⟩ => show (((b.val * 128 + p.val) * 16 + r.val) * 768 + j.val) % 768 = j.val; omega
end Cert.Dil
end
-- ==== Proof.MergeA.lean ====
module
public import proofs.«01_k».proof.Proof.Gen.Kernel4Ideal.Skeleton
public import proofs.«01_k».proof.Proof.SwaMath
public import Idealize.ShloMosaic.Lib.Pipeline.ValueKit
@[expose] public section
set_option maxRecDepth 16384
noncomputable section
open Idealize.ShloMosaic Idealize.ShloMosaic.TcCoe Idealize.SL.Sem
namespace Cert.Merge
open Cert.Kernel4Ideal Cert.Kernel4Ideal.Gen

/-- Three values weighted by the exponentials of their log-denominators, times the reciprocal of the weights' sum. -/
def SMK (a b c x y z : EReal) : EReal :=
  Ideal.exp (a - max (max a b) c) * Ideal.div 1 (Ideal.exp (a - max (max a b) c) + Ideal.exp (b - max (max a b) c) + Ideal.exp (c - max (max a b) c)) * x
    + Ideal.exp (b - max (max a b) c) * Ideal.div 1 (Ideal.exp (a - max (max a b) c) + Ideal.exp (b - max (max a b) c) + Ideal.exp (c - max (max a b) c)) * y
    + Ideal.exp (c - max (max a b) c) * Ideal.div 1 (Ideal.exp (a - max (max a b) c) + Ideal.exp (b - max (max a b) c) + Ideal.exp (c - max (max a b) c)) * z

/-- The gated sum of the three branches, at one position. -/
def GATED (Y : Fin 256 → EReal) (B C : Fin 512 → EReal) (ga gb gc : Fin 1024 → EReal)
    (WA : Fin 256 → Fin 1024 → EReal) (WB WC : Fin 512 → Fin 1024 → EReal) (j : Fin 1024) : EReal :=
  Ideal.logistic (ga j) * (∑ k, Y k * WA k j) + Ideal.logistic (gb j) * (∑ k, B k * WB k j) + Ideal.logistic (gc j) * (∑ k, C k * WC k j)

/-- The mean of a row of 1024. -/
def MEAN (f : Fin 1024 → EReal) : EReal := Ideal.div (∑ k, f k) (Ideal.ofBits FTy.f32 0x44800000#32)
/-- A row's layer norm, scaled by `g` and shifted by `b`. -/
def LNF (f g b : Fin 1024 → EReal) (j : Fin 1024) : EReal :=
  (f j - MEAN f) * Ideal.rsqrt (MEAN (fun k => (f k - MEAN f) * (f k - MEAN f)) + Ideal.ofBits FTy.f32 0x3727C5AC#32) * g j + b j

theorem pay4_at (a b c x y z : FVec Ideal S1x512x128 .f32) (r : Fin 512) (l : Fin 128) :
    k0_pay4 (F := Ideal) a b c x y z (ix2 r l) = SMK (a (ix3 (0 : Fin 1) r l)) (b (ix3 (0 : Fin 1) r l)) (c (ix3 (0 : Fin 1) r l)) (x (ix3 (0 : Fin 1) r l)) (y (ix3 (0 : Fin 1) r l)) (z (ix3 (0 : Fin 1) r l)) := by
  pointwise [k0_pay4]
  rfl

set_option maxHeartbeats 1000000 in
theorem pay6_at (p : FVec Ideal S512x128 .f32) (a : FVec Ideal S512x128 .f32) (b c x y z : FVec Ideal S1x512x128 .f32) (w : FVec Ideal S256x1024 .bf16)
    (r : Fin 512) (j : Fin 1024) (Y : Fin 256 → EReal)
    (hlo : ∀ (l : Fin 128) (k : Fin 256), k.val = l.val → p (ix2 r l) = Y k)
    (hhi : ∀ (l : Fin 128) (k : Fin 256), k.val = 128 + l.val → SMK (a (ix2 r l)) (b (ix3 (0 : Fin 1) r l)) (c (ix3 (0 : Fin 1) r l)) (x (ix3 (0 : Fin 1) r l)) (y (ix3 (0 : Fin 1) r l)) (z (ix3 (0 : Fin 1) r l)) = Y k) :
    k0_pay6 (F := Ideal) p a b c x y z w (ix2 r j) = ∑ k : Fin 256, Y k * w (ix2 k j) := by
  pointwise [k0_pay6]
  refine (congrArg₂ (· + ·) (Finset.sum_congr (M := EReal) rfl fun k _ => ?_) (Finset.sum_congr (M := EReal) rfl fun k _ => ?_)).trans
    (Fin.sum_univ_add (M := EReal) (a := 128) (b := 128) fun k : Fin 256 => Y k * w (ix2 k j)).symm
  · exact congrArg (· * w (ix2 _ j)) (hlo k _ rfl)
  · exact congrArg (· * w (ix2 _ j)) (hhi k _ rfl)

set_option maxHeartbeats 1000000 in
theorem pay8_at (A : FVec Ideal S512x1024 .f32) (B : FVec Ideal S512x512 .bf16) (wb : FVec Ideal S512x1024 .bf16) (C : FVec Ideal S1x512x512 .bf16) (wc : FVec Ideal S512x1024 .bf16)
    (ga gb gc : FVec Ideal S1x512x1024 .bf16) (wo : FVec Ideal S1024x1024 .bf16) (r : Fin 512) (j : Fin 1024) (Y : Fin 256 → EReal) (WA : Fin 256 → Fin 1024 → EReal)
    (hA : ∀ j, A (ix2 r j) = ∑ k, Y k * WA k j) :
    k0_pay8 (F := Ideal) A B wb C wc ga gb gc wo (ix2 r j) = ∑ q : Fin 1024, GATED Y (fun k => B (ix2 r k)) (fun k => C (ix3 (0 : Fin 1) r k)) (fun q => ga (ix3 (0 : Fin 1) r q)) (fun q => gb (ix3 (0 : Fin 1) r q)) (fun q => gc (ix3 (0 : Fin 1) r q))
      WA (fun k j => wb (ix2 k j)) (fun k j => wc (ix2 k j)) q * wo (ix2 q j) := by
  pointwise [k0_pay8]
  refine Finset.sum_congr (M := EReal) rfl fun q _ => ?_
  unfold GATED
  rw [← hA]

set_option maxHeartbeats 1000000 in
theorem pay11_at (P X : FVec Ideal S512x1024 .f32) (g : FVec Ideal S1x1024 .f32) (lg lb : FVec Ideal S1x1024 .f32) (r : Fin 512) (j : Fin 1024) (f : Fin 1024 → EReal)
    (hf : ∀ k, X (ix2 r k) + g (ix2 (0 : Fin 1) k) * P (ix2 r k) = f k) :
    k0_pay11 (F := Ideal) P X g lg lb (ix2 r j) = LNF f (fun k => lg (ix2 (0 : Fin 1) k)) (fun k => lb (ix2 (0 : Fin 1) k)) j := by
  obtain rfl : (fun k => X (ix2 r k) + g (ix2 (0 : Fin 1) k) * P (ix2 r k)) = f := funext hf
  pointwise [k0_pay11]
  rfl

theorem pay9_at (x : FVec Ideal S1x512x1024 .f32) (r : Fin 512) (j : Fin 1024) :
    k0_pay9 (F := Ideal) x (ix2 r j) = Ideal.ofBits FTy.f32 0x3FB504F3#32 * x (ix3 (0 : Fin 1) r j) := by
  pointwise [k0_pay9]
theorem pay10_at (x : FVec Ideal S1x1x1024 .f32) (j : Fin 1024) :
    k0_pay10 (F := Ideal) x (ix2 (0 : Fin 1) j) = x (ix3 (0 : Fin 1) (0 : Fin 1) j) := by
  pointwise [k0_pay10]
theorem pay5_at (x : FVec Ideal S1x512x128 .f32) (r : Fin 512) (j : Fin 128) :
    k0_pay5 (F := Ideal) x (ix2 r j) = x (ix3 (0 : Fin 1) r j) := by
  pointwise [k0_pay5]
theorem pay7_at (x : FVec Ideal S1x512x512 .bf16) (r : Fin 512) (j : Fin 512) :
    k0_pay7 (F := Ideal) x (ix2 r j) = x (ix3 (0 : Fin 1) r j) := by
  pointwise [k0_pay7]
theorem pay12_at (P X : FVec Ideal S512x1024 .f32) (g : FVec Ideal S1x1024 .f32) (lg lb : FVec Ideal S1x1024 .f32) (a : Fin 1) (r : Fin 512) (j : Fin 1024) :
    k0_pay12 (F := Ideal) P X g lg lb (ix3 a r j) = k0_pay11 (F := Ideal) P X g lg lb (ix2 r j) := by
  unfold k0_pay12
  generalize k0_pay11 (F := Ideal) P X g lg lb = y
  pointwise
theorem pay13_at (P X : FVec Ideal S512x1024 .f32) (g : FVec Ideal S1x1024 .f32) (lg lb : FVec Ideal S1x1024 .f32) (s t : FVec Ideal S1x1x1024 .f32) (r : Fin 512) (j : Fin 1024) :
    k0_pay13 (F := Ideal) P X g lg lb s t (ix2 r j) = k0_pay11 (F := Ideal) P X g lg lb (ix2 r j) * (1 + s (ix3 (0 : Fin 1) (0 : Fin 1) j)) + t (ix3 (0 : Fin 1) (0 : Fin 1) j) := by
  unfold k0_pay13
  generalize k0_pay11 (F := Ideal) P X g lg lb = y
  pointwise
theorem pay2_at (u : FVec Ideal S512x1024 .f32) (j : Fin 1024) (r : Fin 512) :
    k0_pay2 (F := Ideal) u (ix2 j r) = u (ix2 r j) := by
  pointwise [k0_pay2, k0_pay1]

/-- The largest magnitude over 512 positions of the columns that are `l` modulo 128, taken column group by column group. -/
def UMX (u : Fin 512 → Fin 1024 → EReal) (l : Fin 128) : EReal :=
  Finset.fold max Cert.Swa.BOT (fun r : Fin 512 => Finset.fold max Cert.Swa.BOT (fun q : Fin 8 => max (u r ⟨128 * q.val + l.val, by omega⟩) (-(u r ⟨128 * q.val + l.val, by omega⟩))) Finset.univ) Finset.univ

theorem bot_eq : Cert.Swa.BOT = ⊥ := by
  unfold Cert.Swa.BOT; simp [Ideal.ofBits, Ideal.ieee]

theorem fold_eight (f : Fin 8 → EReal) :
    Finset.fold max Cert.Swa.BOT f Finset.univ = max (max (max (max (max (max (max (f 0) (f 1)) (f 2)) (f 3)) (f 4)) (f 5)) (f 6)) (f 7) :=
  eq_of_forall_ge_iff fun z => by
    rw [Finset.fold_max_le]
    simp only [bot_eq, bot_le, true_and, Finset.mem_univ, true_implies, max_le_iff, and_assoc]
    constructor
    · intro h; exact ⟨h 0, h 1, h 2, h 3, h 4, h 5, h 6, h 7⟩
    · rintro ⟨h0, h1, h2, h3, h4, h5, h6, h7⟩ q
      match q with
      | 0 => exact h0 | 1 => exact h1 | 2 => exact h2 | 3 => exact h3 | 4 => exact h4 | 5 => exact h5 | 6 => exact h6 | 7 => exact h7

theorem abs_eq (u : FVec Ideal S512x1024 .f32) (r : Fin 512) (a b : Fin 1024) (h : a.val = b.val) :
    FloatOps.absf (F := Ideal) (φ := .f32) (u (ix2 r a)) = max (u (ix2 r b)) (-(u (ix2 r b))) := by
  rw [Fin.ext h]; rfl

set_option maxHeartbeats 1000000 in
theorem pay3_at (u : FVec Ideal S512x1024 .f32) (a b : Fin 1) (h : Fin 8) (l : Fin 128) :
    k0_pay3 (F := Ideal) u (ix4 a b h l) = UMX (fun r j => u (ix2 r j)) l := by
  pointwise [k0_pay3, k0_pay1]
  unfold UMX
  refine congrArg (fun f => Finset.fold max Cert.Swa.BOT f Finset.univ) (funext fun r => ?_)
  rw [fold_eight]
  refine congrArg₂ max (congrArg₂ max (congrArg₂ max (congrArg₂ max (congrArg₂ max (congrArg₂ max (congrArg₂ max ?_ ?_) ?_) ?_) ?_) ?_) ?_) ?_
  · exact abs_eq u r _ _ (by simp)
  all_goals exact abs_eq u r _ _ (by rfl)

/-- The largest of three log-denominators. -/
def MX (L : Fin 3 → EReal) : EReal := Finset.fold max Cert.Swa.BOT L Finset.univ
/-- Three values weighted by the softmax of their log-denominators. -/
def SMX (L o : Fin 3 → EReal) : EReal := ∑ g, Ideal.div (Ideal.exp (L g - MX L)) (∑ k, Ideal.exp (L k - MX L)) * o g

theorem mx_eq (L : Fin 3 → EReal) : MX L = max (max (L 0) (L 1)) (L 2) :=
  eq_of_forall_ge_iff fun z => by
    unfold MX
    rw [Finset.fold_max_le]
    simp only [bot_eq, bot_le, true_and, Finset.mem_univ, true_implies, max_le_iff, and_assoc]
    constructor
    · intro h; exact ⟨h 0, h 1, h 2⟩
    · rintro ⟨h0, h1, h2⟩ q
      match q with
      | 0 => exact h0 | 1 => exact h1 | 2 => exact h2

theorem exp_nonneg (x : EReal) : 0 ≤ Ideal.exp x := by
  by_cases h : x < ⊤
  · obtain ⟨r, hr, e⟩ := Cert.Swa.exp_real h
    rw [e]; exact_mod_cast hr
  · rw [not_lt_top_iff.mp h]; exact le_top

theorem exp_self_pos {x : EReal} (h : Cert.Swa.IsR x) : 0 < Ideal.exp (x - x) := by
  obtain ⟨r, hr, e⟩ := Cert.Swa.exp_pos_real (h.sub h)
  rw [e]; exact_mod_cast hr

/-- Where the largest log-denominator is finite, the weights' sum is not zero: it holds the exponential of zero. -/
theorem den_ne (L : Fin 3 → EReal) (h : Cert.Swa.IsR (MX L)) : Ideal.exp (L 0 - MX L) + Ideal.exp (L 1 - MX L) + Ideal.exp (L 2 - MX L) ≠ 0 := by
  have n0 := exp_nonneg (L 0 - MX L)
  have n1 := exp_nonneg (L 1 - MX L)
  have n2 := exp_nonneg (L 2 - MX L)
  refine ne_of_gt ?_
  have e := mx_eq L
  rcases max_choice (max (L 0) (L 1)) (L 2) with h2 | h2
  · rcases max_choice (L 0) (L 1) with h1 | h1
    · refine lt_of_lt_of_le (lt_of_lt_of_eq (exp_self_pos h) (congrArg (fun a => Ideal.exp (a - MX L)) (e.trans (h2.trans h1)))) ?_
      exact (le_add_of_nonneg_right n1).trans (le_add_of_nonneg_right n2)
    · refine lt_of_lt_of_le (lt_of_lt_of_eq (exp_self_pos h) (congrArg (fun a => Ideal.exp (a - MX L)) (e.trans (h2.trans h1)))) ?_
      exact (le_add_of_nonneg_left n0).trans (le_add_of_nonneg_right n2)
  · refine lt_of_lt_of_le (lt_of_lt_of_eq (exp_self_pos h) (congrArg (fun a => Ideal.exp (a - MX L)) (e.trans h2))) ?_
    exact le_add_of_nonneg_left (add_nonneg n0 n1)

/-- Multiplying by the reciprocal of the weights' sum, or dividing by it. -/
theorem smk_eq (L o : Fin 3 → EReal) (h : Cert.Swa.IsR (MX L)) : SMK (L 0) (L 1) (L 2) (o 0) (o 1) (o 2) = SMX L o := by
  have hd := den_ne L h
  unfold SMK SMX
  rw [← mx_eq, Fin.sum_univ_three, Fin.sum_univ_three]
  simp only [Ideal.div, if_neg hd, one_mul]
end Cert.Merge
end
-- ==== Proof.MergeRed.lean ====
module
public import proofs.«01_k».proof.Proof.MergeA
public import Idealize.ShloMosaic.Lib.IdealHost
public import proofs.«01_k».proof.Proof.Gen.Reference4Ideal
@[expose] public section
set_option maxRecDepth 16384
noncomputable section
open Idealize.ShloMosaic Idealize.ShloMosaic.TcCoe Idealize.SL.Sem
namespace Cert.Merge
open Cert.Reference4Ideal Cert.Reference4Ideal.Gen

theorem max_bot (a : EReal) : max Cert.Swa.BOT a = a := by rw [bot_eq]; exact max_eq_right bot_le

/-- A maximum over the first of four axes. -/
theorem reduce_groups (y : FVec Ideal S3x16x4x2048 .f32) (init : FVec Ideal S_ .f32) (hi : ∀ i, init i = Cert.Swa.BOT) (b : Fin 16) (q : Fin 4) (s : Fin 2048) :
    Host.reduce (FloatOps.maximumf (F := Ideal) (φ := .f32)) y init reducesTo_S3x16x4x2048_S16x4x2048_d0 h_S_ (ix3 b q s) = MX (fun g => y (ix4 g b q s)) := by
  refine (Host.reduce_eq_fold_single (max : EReal → EReal → EReal) y init reducesTo_S3x16x4x2048_S16x4x2048_d0 (by decide) h_S_ (ix3 b q s)).trans ?_
  rw [hi]
  unfold MX
  refine Finset.fold_congr (fun z _ => congrArg y (funext fun a => Fin.ext ?_))
  match a with | ⟨0, _⟩ => rfl | ⟨1, _⟩ => rfl | ⟨2, _⟩ => rfl | ⟨3, _⟩ => rfl

/-- A maximum over the fourth of five axes. -/
theorem reduce_cols (y : FVec Ideal S16x4x512x8x128 .f32) (init : FVec Ideal S_ .f32) (hi : ∀ i, init i = Cert.Swa.BOT) (b : Fin 16) (i : Fin 4) (r : Fin 512) (l : Fin 128) :
    Host.reduce (FloatOps.maximumf (F := Ideal) (φ := .f32)) y init reducesTo_S16x4x512x8x128_S16x4x512x128_d3 h_S_ (ix4 b i r l)
      = Finset.fold max Cert.Swa.BOT (fun q : Fin 8 => y (ix5 b i r q l)) Finset.univ := by
  refine (Host.reduce_eq_fold_single (max : EReal → EReal → EReal) y init reducesTo_S16x4x512x8x128_S16x4x512x128_d3 (by decide) h_S_ (ix4 b i r l)).trans ?_
  rw [hi]
  refine Finset.fold_congr (fun z _ => congrArg y (funext fun a => Fin.ext ?_))
  match a with | ⟨0, _⟩ => rfl | ⟨1, _⟩ => rfl | ⟨2, _⟩ => rfl | ⟨3, _⟩ => rfl | ⟨4, _⟩ => rfl

/-- A maximum over the third of four axes. -/
theorem reduce_rows (y : FVec Ideal S16x4x512x128 .f32) (init : FVec Ideal S_ .f32) (hi : ∀ i, init i = Cert.Swa.BOT) (b : Fin 16) (i : Fin 4) (l : Fin 128) :
    Host.reduce (FloatOps.maximumf (F := Ideal) (φ := .f32)) y init reducesTo_S16x4x512x128_S16x4x128_d2 h_S_ (ix3 b i l)
      = Finset.fold max Cert.Swa.BOT (fun r : Fin 512 => y (ix4 b i r l)) Finset.univ := by
  refine (Host.reduce_eq_fold_single (max : EReal → EReal → EReal) y init reducesTo_S16x4x512x128_S16x4x128_d2 (by decide) h_S_ (ix3 b i l)).trans ?_
  rw [hi]
  refine Finset.fold_congr (fun z _ => congrArg y (funext fun a => Fin.ext ?_))
  match a with | ⟨0, _⟩ => rfl | ⟨1, _⟩ => rfl | ⟨2, _⟩ => rfl | ⟨3, _⟩ => rfl
end Cert.Merge
end
-- ==== Proof.MergeRef.lean ====
module
public import proofs.«01_k».proof.Proof.MergeRed
public import proofs.«01_k».proof.Proof.SwaFin
public import proofs.«01_k».proof.Proof.Gen.Reference4Ideal.Read
public import proofs.«01_k».proof.Proof.Gen.Pre_finite_peak
@[expose] public section
set_option maxRecDepth 16384
noncomputable section
open Idealize.ShloMosaic Idealize.ShloMosaic.TcCoe Idealize.SL.Sem
namespace Cert.Merge
open Cert.Reference4Ideal Cert.Reference4Ideal.Gen Cert.Reference4Ideal.Read

section Spec
variable (x0 : FVec Ideal S3x16x4x2048x64 .f32) (x1 : FVec Ideal S3x16x4x2048 .f32) (x2 x3 : FVec Ideal S16x2048x512 .bf16) (x4 : FVec Ideal S16x2048x6144 .bf16)
  (x5 : FVec Ideal S16x2048x1024 .f32) (x6 x7 x8 : FVec Ideal S16x1x1024 .f32) (x9 x10 : FVec Ideal S1024 .f32)
  (x11 : FVec Ideal S256x1024 .f32) (x12 x13 : FVec Ideal S512x1024 .f32) (x14 : FVec Ideal S1024x1024 .f32)

/-- The dilated branch: column `k` is channel `k % 64` of head `k / 64`. -/
def YA (b : Fin 16) (s : Fin 2048) (k : Fin 256) : EReal :=
  SMX (fun g => x1 (ix4 g b (⟨k.val / 64, by omega⟩ : Fin 4) s)) (fun g => x0 (ix5 g b (⟨k.val / 64, by omega⟩ : Fin 4) s (⟨k.val % 64, by omega⟩ : Fin 64)))
/-- The place, in the kernel's order of heads, of row `k` of the windowed branch's weights. -/
def place (k : Fin 512) : Fin 512 := ⟨k.val / 64 % 4 * 128 + k.val / 256 * 64 + k.val % 64, by omega⟩
/-- The layer norm's argument. -/
def PN (b : Fin 16) (s : Fin 2048) (j : Fin 1024) : EReal :=
  Ideal.ofBits FTy.f32 0x3FB504F3#32 * x5 (ix3 b s j) + x6 (ix3 b (0 : Fin 1) j) * ∑ q : Fin 1024,
    GATED (YA x0 x1 b s) (fun k => x2 (ix3 b s k)) (fun k => x3 (ix3 b s (place k)))
      (fun q => x4 (ix3 b s (⟨q.val, by omega⟩ : Fin 6144))) (fun q => x4 (ix3 b s (⟨1024 + q.val, by omega⟩ : Fin 6144))) (fun q => x4 (ix3 b s (⟨2048 + q.val, by omega⟩ : Fin 6144)))
      (fun k q => x11 (ix2 k q)) (fun k q => x12 (ix2 k q)) (fun k q => x13 (ix2 k q)) q * x14 (ix2 q j)
/-- The first result: the normalized rows. -/
def XO (b : Fin 16) (s : Fin 2048) (j : Fin 1024) : EReal :=
  LNF (PN x0 x1 x2 x3 x4 x5 x6 x11 x12 x13 x14 b s) (fun k => x9 (ix1 k)) (fun k => x10 (ix1 k)) j
/-- The second result, not transposed: the normalized rows modulated. -/
def UO (b : Fin 16) (s : Fin 2048) (j : Fin 1024) : EReal :=
  XO x0 x1 x2 x3 x4 x5 x6 x9 x10 x11 x12 x13 x14 b s j * (1 + x7 (ix3 b (0 : Fin 1) j)) + x8 (ix3 b (0 : Fin 1) j)

theorem r2 (b : Fin 16) (q : Fin 4) (s : Fin 2048) : (val_main_v2 (F := Ideal) x1 : FVec Ideal S16x4x2048 .f32) (ix3 b q s) = MX (fun g => x1 (ix4 g b q s)) := by
  rw [← max_bot (MX _), ← reduce_groups x1 (val_main_cst (F := Ideal)) (fun _ => rfl) b q s]
  rfl

set_option maxHeartbeats 1000000 in
theorem r10 (g : Fin 3) (b : Fin 16) (q : Fin 4) (s : Fin 2048) : (val_main_v10 (F := Ideal) x1 : FVec Ideal S3x16x4x2048 .f32) (ix4 g b q s)
    = Ideal.div (Ideal.exp (x1 (ix4 g b q s) - MX (fun g => x1 (ix4 g b q s)))) (∑ k, Ideal.exp (x1 (ix4 k b q s) - MX (fun g => x1 (ix4 g b q s)))) := by
  rw [← r2]
  pointwise [val_main_v10, val_main_v9, val_main_v8, val_main_v7, val_main_v6, val_main_v5, val_main_v4, val_main_v3, val_main_cst_1]

set_option maxHeartbeats 1000000 in
theorem r12 (b : Fin 16) (s : Fin 2048) (k : Fin 256) : (val_main_v12 (F := Ideal) x0 x1 : FVec Ideal S16x2048x256 .f32) (ix3 b s k) = YA x0 x1 b s k := by
  unfold YA SMX
  simp only [← r10]
  generalize e : (val_main_v10 (F := Ideal) x1 : FVec Ideal S3x16x4x2048 .f32) = P
  pointwise [val_main_v12, val_main_v11]
  rw [e]

theorem r15 (b : Fin 16) (s : Fin 2048) (k : Fin 512) : (val_main_v15 (F := Ideal) x3 : FVec Ideal S16x2048x512 .bf16) (ix3 b s k) = x3 (ix3 b s (place k)) := by
  pointwise [val_main_v15, val_main_v14, val_main_v13]
  rfl

set_option maxHeartbeats 1000000 in
theorem r34 (b : Fin 16) (s : Fin 2048) (q : Fin 1024) : (val_main_v34 (F := Ideal) x0 x1 x2 x3 x4 x11 x12 x13 : FVec Ideal S16x2048x1024 .f32) (ix3 b s q)
    = GATED (YA x0 x1 b s) (fun k => x2 (ix3 b s k)) (fun k => x3 (ix3 b s (place k)))
      (fun q => x4 (ix3 b s (⟨q.val, by omega⟩ : Fin 6144))) (fun q => x4 (ix3 b s (⟨1024 + q.val, by omega⟩ : Fin 6144))) (fun q => x4 (ix3 b s (⟨2048 + q.val, by omega⟩ : Fin 6144)))
      (fun k q => x11 (ix2 k q)) (fun k q => x12 (ix2 k q)) (fun k q => x13 (ix2 k q)) q := by
  unfold GATED Ideal.logistic
  simp only [← r12, ← r15]
  generalize e : (val_main_v12 (F := Ideal) x0 x1 : FVec Ideal S16x2048x256 .f32) = P
  generalize e' : (val_main_v15 (F := Ideal) x3 : FVec Ideal S16x2048x512 .bf16) = Q
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_cst_2, val_main_cst_3]
  rw [e, e']

set_option maxHeartbeats 1000000 in
theorem r40 (b : Fin 16) (s : Fin 2048) (j : Fin 1024) : (val_main_v40 (F := Ideal) x0 x1 x2 x3 x4 x5 x6 x11 x12 x13 x14 : FVec Ideal S16x2048x1024 .f32) (ix3 b s j)
    = PN x0 x1 x2 x3 x4 x5 x6 x11 x12 x13 x14 b s j := by
  unfold PN
  simp only [← r34]
  generalize e : (val_main_v34 (F := Ideal) x0 x1 x2 x3 x4 x11 x12 x13 : FVec Ideal S16x2048x1024 .f32) = P
  pointwise [val_main_v40, val_main_v39, val_main_v38, val_main_v37, val_main_v36, val_main_v35, val_main_cst_4]
  rw [e]

set_option maxHeartbeats 1000000 in
theorem ref_x (b : Fin 16) (s : Fin 2048) (j : Fin 1024) : (val_main_v64 (F := Ideal) x0 x1 x2 x3 x4 x5 x6 x9 x10 x11 x12 x13 x14 : FVec Ideal S16x2048x1024 .f32) (ix3 b s j)
    = XO x0 x1 x2 x3 x4 x5 x6 x9 x10 x11 x12 x13 x14 b s j := by
  unfold XO
  rw [show PN x0 x1 x2 x3 x4 x5 x6 x11 x12 x13 x14 b s = fun k => (val_main_v40 (F := Ideal) x0 x1 x2 x3 x4 x5 x6 x11 x12 x13 x14 : FVec Ideal S16x2048x1024 .f32) (ix3 b s k) from funext fun k => (r40 x0 x1 x2 x3 x4 x5 x6 x11 x12 x13 x14 b s k).symm]
  unfold LNF MEAN
  generalize e : (val_main_v40 (F := Ideal) x0 x1 x2 x3 x4 x5 x6 x11 x12 x13 x14 : FVec Ideal S16x2048x1024 .f32) = P
  pointwise [val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_cst_5, val_main_cst_6, val_main_cst_7, val_main_cst_8, val_main_cst_9]
  simp only [e]

theorem r70 (b : Fin 16) (s : Fin 2048) (j : Fin 1024) : (val_main_v70 (F := Ideal) x0 x1 x2 x3 x4 x5 x6 x7 x8 x9 x10 x11 x12 x13 x14 : FVec Ideal S16x2048x1024 .f32) (ix3 b s j)
    = UO x0 x1 x2 x3 x4 x5 x6 x7 x8 x9 x10 x11 x12 x13 x14 b s j := by
  unfold UO
  rw [← ref_x]
  generalize e : (val_main_v64 (F := Ideal) x0 x1 x2 x3 x4 x5 x6 x9 x10 x11 x12 x13 x14 : FVec Ideal S16x2048x1024 .f32) = P
  pointwise [val_main_v70, val_main_v69, val_main_v68, val_main_v67, val_main_v66, val_main_v65, val_main_cst_10]
  rw [e]

theorem ref_u (j : Fin 1024) (z : Fin 32768) : (val_main_v73 (F := Ideal) x0 x1 x2 x3 x4 x5 x6 x7 x8 x9 x10 x11 x12 x13 x14 : FVec Ideal S1024x32768 .bf16) (ix2 j z)
    = UO x0 x1 x2 x3 x4 x5 x6 x7 x8 x9 x10 x11 x12 x13 x14 (⟨z.val / 2048, by omega⟩ : Fin 16) (⟨z.val % 2048, by omega⟩ : Fin 2048) j := by
  have hz := z.isLt
  rw [← r70]
  generalize e : (val_main_v70 (F := Ideal) x0 x1 x2 x3 x4 x5 x6 x7 x8 x9 x10 x11 x12 x13 x14 : FVec Ideal S16x2048x1024 .f32) = P
  pointwise [val_main_v73, val_main_v72, val_main_v71]
  rw [e]

theorem r75 (b : Fin 16) (i : Fin 4) (r : Fin 512) (q : Fin 8) (l : Fin 128) (s : Fin 2048) (j : Fin 1024) (hs : s.val = 512 * i.val + r.val) (hj : j.val = 128 * q.val + l.val) :
    (val_main_v75 (F := Ideal) x0 x1 x2 x3 x4 x5 x6 x7 x8 x9 x10 x11 x12 x13 x14 : FVec Ideal S16x4x512x8x128 .f32) (ix5 b i r q l)
    = max (UO x0 x1 x2 x3 x4 x5 x6 x7 x8 x9 x10 x11 x12 x13 x14 b s j) (-(UO x0 x1 x2 x3 x4 x5 x6 x7 x8 x9 x10 x11 x12 x13 x14 b s j)) := by
  rw [← r70]
  generalize e : (val_main_v70 (F := Ideal) x0 x1 x2 x3 x4 x5 x6 x7 x8 x9 x10 x11 x12 x13 x14 : FVec Ideal S16x2048x1024 .f32) = P
  pointwise [val_main_v75, val_main_v74]
  rw [e]
  have es : (⟨i.val * 512 + r.val, by omega⟩ : Fin 2048) = s := Fin.ext (by rw [hs]; exact congrArg (· + r.val) (Nat.mul_comm _ _))
  have ej : (⟨q.val * 128 + l.val, by omega⟩ : Fin 1024) = j := Fin.ext (by rw [hj]; exact congrArg (· + l.val) (Nat.mul_comm _ _))
  rw [es, ej]
  rfl

theorem ref_m (b : Fin 16) (i : Fin 4) (h : Fin 8) (l : Fin 128) :
    (val_main_v79 (F := Ideal) x0 x1 x2 x3 x4 x5 x6 x7 x8 x9 x10 x11 x12 x13 x14 : FVec Ideal S16x4x8x128 .f32) (ix4 b i h l)
    = UMX (fun r j => UO x0 x1 x2 x3 x4 x5 x6 x7 x8 x9 x10 x11 x12 x13 x14 b (⟨512 * i.val + r.val, by omega⟩ : Fin 2048) j) l := by
  unfold UMX
  have h75 := fun (r : Fin 512) (q : Fin 8) => r75 x0 x1 x2 x3 x4 x5 x6 x7 x8 x9 x10 x11 x12 x13 x14 b i r q l (⟨512 * i.val + r.val, by omega⟩ : Fin 2048) (⟨128 * q.val + l.val, by omega⟩ : Fin 1024) rfl rfl
  simp only [← h75]
  pointwise [val_main_v79, val_main_v78]
  unfold val_main_v77 val_main_v76
  generalize val_main_v75 (F := Ideal) x0 x1 x2 x3 x4 x5 x6 x7 x8 x9 x10 x11 x12 x13 x14 = y
  refine (reduce_rows _ _ (fun _ => rfl) b i l).trans ?_
  exact congrArg (fun f => Finset.fold max Cert.Swa.BOT f Finset.univ) (funext fun r => reduce_cols y _ (fun _ => rfl) b i r l)

/-- The precondition: the largest log-denominator of each head and position is a real. -/
theorem peak (hp : Cert.Pre_finite_peak.fn (F := Ideal) x0 x1 x2 x3 x4 x5 x6 x7 x8 x9 x10 x11 x12 x13 x14 = fun _ => 1#1) (b : Fin 16) (q : Fin 4) (s : Fin 2048) :
    Cert.Swa.IsR (MX (fun g => x1 (ix4 g b q s))) := by
  have e := congrFun hp (ix3 b q s)
  unfold Cert.Pre_finite_peak.fn at e
  dsimp only at e
  generalize hA : Host.reduce _ x1 _ _ _ = A at e
  pointwise at e
  have h : Cert.Swa.IsR (A (ix3 b q s)) := Cert.Swa.isR_of_abs (Cert.Swa.lt_of_word e)
  rw [← hA] at h
  rw [← reduce_groups x1 (val_main_cst (F := Ideal)) (fun _ => rfl) b q s]
  exact h
end Spec
end Cert.Merge
end
-- ==== Proof.MergeRun.lean ====
/-
The merge of the branches: what its run leaves behind. From the launch: the program up to its one grid of 64 points, each
window's block at a point, what the body leaves in each result's buffer (`out0_25`, `out0_26`, `out0_27`), and the run, with
the three result arrays named and the arguments unchanged, over any float values.
-/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Merge

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1680000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 12).trans (((dats 0 c).arrAt_in 12 rfl _).trans ((hA c 12).trans (V_main_arg2 m c))),
      ((h c).1 13).trans (((dats 0 c).arrAt_in 13 rfl _).trans ((hA c 13).trans (V_main_arg3 m c))),
      ((h c).1 14).trans (((dats 0 c).arrAt_in 14 rfl _).trans ((hA c 14).trans (V_main_arg4 m c))),
      ((h c).1 15).trans (((dats 0 c).arrAt_in 15 rfl _).trans ((hA c 15).trans (V_main_arg5 m c))),
      ((h c).1 16).trans (((dats 0 c).arrAt_in 16 rfl _).trans ((hA c 16).trans (V_main_arg6 m c))),
      ((h c).1 17).trans (((dats 0 c).arrAt_in 17 rfl _).trans ((hA c 17).trans (V_main_arg7 m c))),
      ((h c).1 18).trans (((dats 0 c).arrAt_in 18 rfl _).trans ((hA c 18).trans (V_main_arg8 m c))),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

abbrev r0_0 : Rect S1x512x128 := Rect.unit (s := S1x512x128) ![0, 0, 0] S1x512x128.size inb_S1x512x128_S1x512x128_0_0_0
abbrev r0_1 : Rect S256x1024 := Rect.unit (s := S256x1024) ![0, 0] S256x1024.size inb_S256x1024_S256x1024_0_0
abbrev r0_2 : Rect S1x512x512 := Rect.unit (s := S1x512x512) ![0, 0, 0] S1x512x512.size inb_S1x512x512_S1x512x512_0_0_0
abbrev r0_3 : Rect S512x1024 := Rect.unit (s := S512x1024) ![0, 0] S512x1024.size inb_S512x1024_S512x1024_0_0
abbrev r0_4 : Rect S1x512x3072 := Rect.unit (s := S1x512x3072) ![0, 0, 0] S1x512x1024.size inb_S1x512x3072_S1x512x1024_0_0_0
abbrev r0_5 : Rect S1x512x3072 := Rect.unit (s := S1x512x3072) ![0, 0, 1024] S1x512x1024.size inb_S1x512x3072_S1x512x1024_0_0_1024
abbrev r0_6 : Rect S1x512x3072 := Rect.unit (s := S1x512x3072) ![0, 0, 2048] S1x512x1024.size inb_S1x512x3072_S1x512x1024_0_0_2048
abbrev r0_7 : Rect S1024x1024 := Rect.unit (s := S1024x1024) ![0, 0] S1024x1024.size inb_S1024x1024_S1024x1024_0_0
abbrev r0_8 : Rect S1x512x1024 := Rect.unit (s := S1x512x1024) ![0, 0, 0] S1x512x1024.size inb_S1x512x1024_S1x512x1024_0_0_0
abbrev r0_9 : Rect S1x1x1024 := Rect.unit (s := S1x1x1024) ![0, 0, 0] S1x1x1024.size inb_S1x1x1024_S1x1x1024_0_0_0
abbrev r0_10 : Rect S1x1024 := Rect.unit (s := S1x1024) ![0, 0] S1x1024.size inb_S1x1024_S1x1024_0_0
abbrev r0_11 : Rect S1024x512 := Rect.unit (s := S1024x512) ![0, 0] S1024x512.size inb_S1024x512_S1024x512_0_0
abbrev r0_12 : Rect S1x1x8x128 := Rect.unit (s := S1x1x8x128) ![0, 0, 0, 0] S1x1x8x128.size inb_S1x1x8x128_S1x1x8x128_0_0_0_0

def k0_pay14 (x0 : Vec F S1x512x128 .f32) (x1 : Vec F S1x512x128 .f32) (x2 : Vec F S1x512x128 .f32) (x3 : Vec F S1x512x128 .f32) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x512 .bf16) (x13 : Vec F S1x512x512 .bf16) (x14 : Vec F S1x512x3072 .bf16) (x15 : Vec F S1x512x1024 .f32) (x16 : Vec F S1x1x1024 .f32) (x17 : Vec F S1x1x1024 .f32) (x18 : Vec F S1x1x1024 .f32) (x19 : Vec F S1x1024 .f32) (x20 : Vec F S1x1024 .f32) (x21 : Vec F S256x1024 .bf16) (x22 : Vec F S512x1024 .bf16) (x23 : Vec F S512x1024 .bf16) (x24 : Vec F S1024x1024 .bf16) : FVec F S512x1024 .f32 :=
  k0_pay8 (k0_pay6 (k0_pay4 (View.ld x2 r0_0) (View.ld x6 r0_0) (View.ld x10 r0_0) (View.ld x0 r0_0) (View.ld x4 r0_0) (View.ld x8 r0_0)) (k0_pay5 (View.ld x3 r0_0)) (View.ld x7 r0_0) (View.ld x11 r0_0) (View.ld x1 r0_0) (View.ld x5 r0_0) (View.ld x9 r0_0) (View.ld x21 r0_1)) (k0_pay7 (View.ld x12 r0_2)) (View.ld x22 r0_3) (View.ld x13 r0_2) (View.ld x23 r0_3) (View.ld x14 r0_4) (View.ld x14 r0_5) (View.ld x14 r0_6) (View.ld x24 r0_7) -- `v99`
def k0_pay15 (x0 : Vec F S1x512x128 .f32) (x1 : Vec F S1x512x128 .f32) (x2 : Vec F S1x512x128 .f32) (x3 : Vec F S1x512x128 .f32) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x512 .bf16) (x13 : Vec F S1x512x512 .bf16) (x14 : Vec F S1x512x3072 .bf16) (x15 : Vec F S1x512x1024 .f32) (x16 : Vec F S1x1x1024 .f32) (x17 : Vec F S1x1x1024 .f32) (x18 : Vec F S1x1x1024 .f32) (x19 : Vec F S1x1024 .f32) (x20 : Vec F S1x1024 .f32) (x21 : Vec F S256x1024 .bf16) (x22 : Vec F S512x1024 .bf16) (x23 : Vec F S512x1024 .bf16) (x24 : Vec F S1024x1024 .bf16) : FVec F S512x1024 .f32 :=
  k0_pay9 (View.ld x15 r0_8) -- `v103`
def k0_pay16 (x0 : Vec F S1x512x128 .f32) (x1 : Vec F S1x512x128 .f32) (x2 : Vec F S1x512x128 .f32) (x3 : Vec F S1x512x128 .f32) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x512 .bf16) (x13 : Vec F S1x512x512 .bf16) (x14 : Vec F S1x512x3072 .bf16) (x15 : Vec F S1x512x1024 .f32) (x16 : Vec F S1x1x1024 .f32) (x17 : Vec F S1x1x1024 .f32) (x18 : Vec F S1x1x1024 .f32) (x19 : Vec F S1x1024 .f32) (x20 : Vec F S1x1024 .f32) (x21 : Vec F S256x1024 .bf16) (x22 : Vec F S512x1024 .bf16) (x23 : Vec F S512x1024 .bf16) (x24 : Vec F S1024x1024 .bf16) : FVec F S1x1024 .f32 :=
  k0_pay10 (View.ld x16 r0_9) -- `v105`
def k0_pay17 (x0 : Vec F S1x512x128 .f32) (x1 : Vec F S1x512x128 .f32) (x2 : Vec F S1x512x128 .f32) (x3 : Vec F S1x512x128 .f32) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x512 .bf16) (x13 : Vec F S1x512x512 .bf16) (x14 : Vec F S1x512x3072 .bf16) (x15 : Vec F S1x512x1024 .f32) (x16 : Vec F S1x1x1024 .f32) (x17 : Vec F S1x1x1024 .f32) (x18 : Vec F S1x1x1024 .f32) (x19 : Vec F S1x1024 .f32) (x20 : Vec F S1x1024 .f32) (x21 : Vec F S256x1024 .bf16) (x22 : Vec F S512x1024 .bf16) (x23 : Vec F S512x1024 .bf16) (x24 : Vec F S1024x1024 .bf16) : FVec F S512x1024 .f32 :=
  k0_pay13 (k0_pay14 x0 x1 x2 x3 x4 x5 x6 x7 x8 x9 x10 x11 x12 x13 x14 x15 x16 x17 x18 x19 x20 x21 x22 x23 x24) (k0_pay15 x0 x1 x2 x3 x4 x5 x6 x7 x8 x9 x10 x11 x12 x13 x14 x15 x16 x17 x18 x19 x20 x21 x22 x23 x24) (k0_pay16 x0 x1 x2 x3 x4 x5 x6 x7 x8 x9 x10 x11 x12 x13 x14 x15 x16 x17 x18 x19 x20 x21 x22 x23 x24) (View.ld x19 r0_10) (View.ld x20 r0_10) (View.ld x17 r0_9) (View.ld x18 r0_9) -- `v145`

def out0_25 (x0 : Vec F S1x512x128 .f32) (x1 : Vec F S1x512x128 .f32) (x2 : Vec F S1x512x128 .f32) (x3 : Vec F S1x512x128 .f32) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x512 .bf16) (x13 : Vec F S1x512x512 .bf16) (x14 : Vec F S1x512x3072 .bf16) (x15 : Vec F S1x512x1024 .f32) (x16 : Vec F S1x1x1024 .f32) (x17 : Vec F S1x1x1024 .f32) (x18 : Vec F S1x1x1024 .f32) (x19 : Vec F S1x1024 .f32) (x20 : Vec F S1x1024 .f32) (x21 : Vec F S256x1024 .bf16) (x22 : Vec F S512x1024 .bf16) (x23 : Vec F S512x1024 .bf16) (x24 : Vec F S1024x1024 .bf16) : Vec F S1x512x1024 .f32 :=
  View.canon [⟨r0_8, k0_pay12 (k0_pay14 x0 x1 x2 x3 x4 x5 x6 x7 x8 x9 x10 x11 x12 x13 x14 x15 x16 x17 x18 x19 x20 x21 x22 x23 x24) (k0_pay15 x0 x1 x2 x3 x4 x5 x6 x7 x8 x9 x10 x11 x12 x13 x14 x15 x16 x17 x18 x19 x20 x21 x22 x23 x24) (k0_pay16 x0 x1 x2 x3 x4 x5 x6 x7 x8 x9 x10 x11 x12 x13 x14 x15 x16 x17 x18 x19 x20 x21 x22 x23 x24) (View.ld x19 r0_10) (View.ld x20 r0_10)⟩]

theorem cover0_25 (p0 : Vec F S1x512x1024 .f32) (y : S1x512x1024.Idx) :
    ∃ pc ∈ ([⟨r0_8, p0⟩] : List (View.Piece (Elt F) S1x512x1024 .f32)), y ∈ pc.1.set :=
  View.cover_of_tiled [⟨r0_8, p0⟩] S1x512x1024.size (by rfl) y

def out0_26 (x0 : Vec F S1x512x128 .f32) (x1 : Vec F S1x512x128 .f32) (x2 : Vec F S1x512x128 .f32) (x3 : Vec F S1x512x128 .f32) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x512 .bf16) (x13 : Vec F S1x512x512 .bf16) (x14 : Vec F S1x512x3072 .bf16) (x15 : Vec F S1x512x1024 .f32) (x16 : Vec F S1x1x1024 .f32) (x17 : Vec F S1x1x1024 .f32) (x18 : Vec F S1x1x1024 .f32) (x19 : Vec F S1x1024 .f32) (x20 : Vec F S1x1024 .f32) (x21 : Vec F S256x1024 .bf16) (x22 : Vec F S512x1024 .bf16) (x23 : Vec F S512x1024 .bf16) (x24 : Vec F S1024x1024 .bf16) : Vec F S1024x512 .bf16 :=
  View.canon [⟨r0_11, k0_pay2 (k0_pay17 x0 x1 x2 x3 x4 x5 x6 x7 x8 x9 x10 x11 x12 x13 x14 x15 x16 x17 x18 x19 x20 x21 x22 x23 x24)⟩]

theorem cover0_26 (p0 : Vec F S1024x512 .bf16) (y : S1024x512.Idx) :
    ∃ pc ∈ ([⟨r0_11, p0⟩] : List (View.Piece (Elt F) S1024x512 .bf16)), y ∈ pc.1.set :=
  View.cover_of_tiled [⟨r0_11, p0⟩] S1024x512.size (by rfl) y

def out0_27 (x0 : Vec F S1x512x128 .f32) (x1 : Vec F S1x512x128 .f32) (x2 : Vec F S1x512x128 .f32) (x3 : Vec F S1x512x128 .f32) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x512 .bf16) (x13 : Vec F S1x512x512 .bf16) (x14 : Vec F S1x512x3072 .bf16) (x15 : Vec F S1x512x1024 .f32) (x16 : Vec F S1x1x1024 .f32) (x17 : Vec F S1x1x1024 .f32) (x18 : Vec F S1x1x1024 .f32) (x19 : Vec F S1x1024 .f32) (x20 : Vec F S1x1024 .f32) (x21 : Vec F S256x1024 .bf16) (x22 : Vec F S512x1024 .bf16) (x23 : Vec F S512x1024 .bf16) (x24 : Vec F S1024x1024 .bf16) : Vec F S1x1x8x128 .f32 :=
  View.canon [⟨r0_12, k0_pay3 (k0_pay17 x0 x1 x2 x3 x4 x5 x6 x7 x8 x9 x10 x11 x12 x13 x14 x15 x16 x17 x18 x19 x20 x21 x22 x23 x24)⟩]

theorem cover0_27 (p0 : Vec F S1x1x8x128 .f32) (y : S1x1x8x128.Idx) :
    ∃ pc ∈ ([⟨r0_12, p0⟩] : List (View.Piece (Elt F) S1x1x8x128 .f32)), y ∈ pc.1.set :=
  View.cover_of_tiled [⟨r0_12, p0⟩] S1x1x8x128.size (by rfl) y

set_option maxHeartbeats 1000000 in
theorem sound_kernel (c : Dev nD) (E : Set ℕ) (i : grid0.Coords) (arg2 : Memref sig .tc .vmem S1x512x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x512 .bf16) (harg14 : arg14.IsWhole) (arg15 : Memref sig .tc .vmem S1x512x512 .bf16) (harg15 : arg15.IsWhole) (arg16 : Memref sig .tc .vmem S1x512x3072 .bf16) (harg16 : arg16.IsWhole) (arg17 : Memref sig .tc .vmem S1x512x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S256x1024 .bf16) (harg23 : arg23.IsWhole) (arg24 : Memref sig .tc .vmem S512x1024 .bf16) (harg24 : arg24.IsWhole) (arg25 : Memref sig .tc .vmem S512x1024 .bf16) (harg25 : arg25.IsWhole) (arg26 : Memref sig .tc .vmem S1024x1024 .bf16) (harg26 : arg26.IsWhole) (arg27 : Memref sig .tc .vmem S1x512x1024 .f32) (harg27 : arg27.IsWhole) (arg28 : Memref sig .tc .vmem S1024x512 .bf16) (harg28 : arg28.IsWhole) (arg29 : Memref sig .tc .vmem S1x1x8x128 .f32) (harg29 : arg29.IsWhole)
    (x0 : Vec F S1x512x128 .f32) (x1 : Vec F S1x512x128 .f32) (x2 : Vec F S1x512x128 .f32) (x3 : Vec F S1x512x128 .f32) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x512 .bf16) (x13 : Vec F S1x512x512 .bf16) (x14 : Vec F S1x512x3072 .bf16) (x15 : Vec F S1x512x1024 .f32) (x16 : Vec F S1x1x1024 .f32) (x17 : Vec F S1x1x1024 .f32) (x18 : Vec F S1x1x1024 .f32) (x19 : Vec F S1x1024 .f32) (x20 : Vec F S1x1024 .f32) (x21 : Vec F S256x1024 .bf16) (x22 : Vec F S512x1024 .bf16) (x23 : Vec F S512x1024 .bf16) (x24 : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ (∃ d, owns (c : Thread nD τ) arg27 fullShare d) ∗ (∃ d, owns (c : Thread nD τ) arg28 fullShare d) ∗ (∃ d, owns (c : Thread nD τ) arg29 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare (out0_25 x0 x1 x2 x3 x4 x5 x6 x7 x8 x9 x10 x11 x12 x13 x14 x15 x16 x17 x18 x19 x20 x21 x22 x23 x24) ∗ owns (c : Thread nD τ) arg28 fullShare (out0_26 x0 x1 x2 x3 x4 x5 x6 x7 x8 x9 x10 x11 x12 x13 x14 x15 x16 x17 x18 x19 x20 x21 x22 x23 x24) ∗ owns (c : Thread nD τ) arg29 fullShare (out0_27 x0 x1 x2 x3 x4 x5 x6 x7 x8 x9 x10 x11 x12 x13 x14 x15 x16 x17 x18 x19 x20 x21 x22 x23 x24)) -∗ K ⟨⟩))
      ⊢ wp frame (wpE (defs₀ (F := F)) Variants.none c none) E (cc0_merge_mixers i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_merge_mixers_eq_skeleton]; unfold cc0_merge_mixers_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%d26, %f26, -, H26⟩, ⟨%d27, %f27, -, H27⟩, Hk⟩
  subst hf0 hf1 hf2 hf3 hf4 hf5 hf6 hf7 hf8 hf9 hf10 hf11 hf12 hf13 hf14 hf15 hf16 hf17 hf18 hf19 hf20 hf21 hf22 hf23 hf24
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  iexists _; isplitr
  swap; · iexact H27
  ipureintro
  refine (View.read_writes_eq_canon _ _ _ (cover0_27 _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨_ + 28, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

theorem post25 (r : PUnit × MemSt nD τ sig (Elt F)) (h : Pipeline.FramePost cfgs (dats m) 0 (V m) r) (c : Dev nD) :
    r.2.mem ((c : Thread nD τ).loc main_v84_0) = (dats m 0 c).arrAt 25 cfg0.N :=
  (h c).1 25

theorem post26 (r : PUnit × MemSt nD τ sig (Elt F)) (h : Pipeline.FramePost cfgs (dats m) 0 (V m) r) (c : Dev nD) :
    r.2.mem ((c : Thread nD τ).loc main_v84_1) = (dats m 0 c).arrAt 26 cfg0.N :=
  (h c).1 26

theorem post27 (r : PUnit × MemSt nD τ sig (Elt F)) (h : Pipeline.FramePost cfgs (dats m) 0 (V m) r) (c : Dev nD) :
    r.2.mem ((c : Thread nD τ).loc main_v84_2) = (dats m 0 c).arrAt 27 cfg0.N :=
  (h c).1 27

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 12).trans (((dats m 0 c).arrAt_in 12 rfl _).trans ((A_eq m c 12).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 13).trans (((dats m 0 c).arrAt_in 13 rfl _).trans ((A_eq m c 13).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 14).trans (((dats m 0 c).arrAt_in 14 rfl _).trans ((A_eq m c 14).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 15).trans (((dats m 0 c).arrAt_in 15 rfl _).trans ((A_eq m c 15).trans (V_main_arg5 m c)))

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 16).trans (((dats m 0 c).arrAt_in 16 rfl _).trans ((A_eq m c 16).trans (V_main_arg6 m c)))

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 17).trans (((dats m 0 c).arrAt_in 17 rfl _).trans ((A_eq m c 17).trans (V_main_arg7 m c)))

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 18).trans (((dats m 0 c).arrAt_in 18 rfl _).trans ((A_eq m c 18).trans (V_main_arg8 m c)))

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

theorem run_blocks : θ_run defs (onTc (τ := τ) (main (F := F))) ⟨m, fun _ => 0, ρ⟩ fun r => ∀ c : Dev nD,
      r.2.mem ((c : Thread nD τ).loc main_v84_0) = (dats m 0 c).arrAt 25 cfg0.N
      ∧ r.2.mem ((c : Thread nD τ).loc main_v84_1) = (dats m 0 c).arrAt 26 cfg0.N
      ∧ r.2.mem ((c : Thread nD τ).loc main_v84_2) = (dats m 0 c).arrAt 27 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨post25 m r h c,
      post26 m r h c,
      post27 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c⟩)
    (run_main m ρ)

end Cert.Merge

end

end
-- ==== Proof.MergeHost.lean ====
module
public import proofs.«01_k».proof.Proof.MergeRun
public import Idealize.ShloMosaic.Lib.Pointwise
public import Idealize.ShloMosaic.Lib.StableHlo.ReadAt
public import Idealize.ShloMosaic.Lib.Tactic.WordOmega
@[expose] public section
set_option maxRecDepth 16384
noncomputable section
open Idealize.ShloMosaic Idealize.ShloMosaic.TcCoe Idealize.SL.Sem
namespace Cert.Merge
open Cert.Kernel4Ideal Cert.Kernel4Ideal.Gen
variable (m : (ℓ : Loc nD τ sig) → Buf (Elt Ideal) ℓ)

theorem h17 (c : Dev nD) (b : Fin 16) (s : Fin 2048) (l : Fin 128) :
    (V m c main_v17 : FVec Ideal S16x2048x128 .f32) (ix3 b s l) = (m ((c.tc : Thread nD τ).loc main_arg0) : FVec Ideal S3x16x4x2048x64 .f32) (ix5 (0 : Fin 3) b (⟨l.val / 64, by omega⟩ : Fin 4) s (⟨l.val % 64, by omega⟩ : Fin 64)) := by
  unfold V
  after_reads_simp
  pointwise
theorem h19 (c : Dev nD) (b : Fin 16) (s : Fin 2048) (l : Fin 128) :
    (V m c main_v19 : FVec Ideal S16x2048x128 .f32) (ix3 b s l) = (m ((c.tc : Thread nD τ).loc main_arg0) : FVec Ideal S3x16x4x2048x64 .f32) (ix5 (0 : Fin 3) b (⟨2 + l.val / 64, by omega⟩ : Fin 4) s (⟨l.val % 64, by omega⟩ : Fin 64)) := by
  unfold V
  after_reads_simp
  pointwise
theorem h21 (c : Dev nD) (b : Fin 16) (s : Fin 2048) (l : Fin 128) :
    (V m c main_v21 : FVec Ideal S16x2048x128 .f32) (ix3 b s l) = (m ((c.tc : Thread nD τ).loc main_arg1) : FVec Ideal S3x16x4x2048 .f32) (ix4 (0 : Fin 3) b (⟨l.val / 64, by omega⟩ : Fin 4) s) := by
  unfold V
  after_reads_simp
  pointwise
theorem h23 (c : Dev nD) (b : Fin 16) (s : Fin 2048) (l : Fin 128) :
    (V m c main_v23 : FVec Ideal S16x2048x128 .f32) (ix3 b s l) = (m ((c.tc : Thread nD τ).loc main_arg1) : FVec Ideal S3x16x4x2048 .f32) (ix4 (0 : Fin 3) b (⟨2 + l.val / 64, by omega⟩ : Fin 4) s) := by
  unfold V
  after_reads_simp
  pointwise
theorem h29 (c : Dev nD) (b : Fin 16) (s : Fin 2048) (l : Fin 128) :
    (V m c main_v29 : FVec Ideal S16x2048x128 .f32) (ix3 b s l) = (m ((c.tc : Thread nD τ).loc main_arg0) : FVec Ideal S3x16x4x2048x64 .f32) (ix5 (1 : Fin 3) b (⟨l.val / 64, by omega⟩ : Fin 4) s (⟨l.val % 64, by omega⟩ : Fin 64)) := by
  unfold V
  after_reads_simp
  pointwise
theorem h31 (c : Dev nD) (b : Fin 16) (s : Fin 2048) (l : Fin 128) :
    (V m c main_v31 : FVec Ideal S16x2048x128 .f32) (ix3 b s l) = (m ((c.tc : Thread nD τ).loc main_arg0) : FVec Ideal S3x16x4x2048x64 .f32) (ix5 (1 : Fin 3) b (⟨2 + l.val / 64, by omega⟩ : Fin 4) s (⟨l.val % 64, by omega⟩ : Fin 64)) := by
  unfold V
  after_reads_simp
  pointwise
theorem h33 (c : Dev nD) (b : Fin 16) (s : Fin 2048) (l : Fin 128) :
    (V m c main_v33 : FVec Ideal S16x2048x128 .f32) (ix3 b s l) = (m ((c.tc : Thread nD τ).loc main_arg1) : FVec Ideal S3x16x4x2048 .f32) (ix4 (1 : Fin 3) b (⟨l.val / 64, by omega⟩ : Fin 4) s) := by
  unfold V
  after_reads_simp
  pointwise
theorem h35 (c : Dev nD) (b : Fin 16) (s : Fin 2048) (l : Fin 128) :
    (V m c main_v35 : FVec Ideal S16x2048x128 .f32) (ix3 b s l) = (m ((c.tc : Thread nD τ).loc main_arg1) : FVec Ideal S3x16x4x2048 .f32) (ix4 (1 : Fin 3) b (⟨2 + l.val / 64, by omega⟩ : Fin 4) s) := by
  unfold V
  after_reads_simp
  pointwise
theorem h41 (c : Dev nD) (b : Fin 16) (s : Fin 2048) (l : Fin 128) :
    (V m c main_v41 : FVec Ideal S16x2048x128 .f32) (ix3 b s l) = (m ((c.tc : Thread nD τ).loc main_arg0) : FVec Ideal S3x16x4x2048x64 .f32) (ix5 (2 : Fin 3) b (⟨l.val / 64, by omega⟩ : Fin 4) s (⟨l.val % 64, by omega⟩ : Fin 64)) := by
  unfold V
  after_reads_simp
  pointwise
theorem h43 (c : Dev nD) (b : Fin 16) (s : Fin 2048) (l : Fin 128) :
    (V m c main_v43 : FVec Ideal S16x2048x128 .f32) (ix3 b s l) = (m ((c.tc : Thread nD τ).loc main_arg0) : FVec Ideal S3x16x4x2048x64 .f32) (ix5 (2 : Fin 3) b (⟨2 + l.val / 64, by omega⟩ : Fin 4) s (⟨l.val % 64, by omega⟩ : Fin 64)) := by
  unfold V
  after_reads_simp
  pointwise
theorem h45 (c : Dev nD) (b : Fin 16) (s : Fin 2048) (l : Fin 128) :
    (V m c main_v45 : FVec Ideal S16x2048x128 .f32) (ix3 b s l) = (m ((c.tc : Thread nD τ).loc main_arg1) : FVec Ideal S3x16x4x2048 .f32) (ix4 (2 : Fin 3) b (⟨l.val / 64, by omega⟩ : Fin 4) s) := by
  unfold V
  after_reads_simp
  pointwise
theorem h47 (c : Dev nD) (b : Fin 16) (s : Fin 2048) (l : Fin 128) :
    (V m c main_v47 : FVec Ideal S16x2048x128 .f32) (ix3 b s l) = (m ((c.tc : Thread nD τ).loc main_arg1) : FVec Ideal S3x16x4x2048 .f32) (ix4 (2 : Fin 3) b (⟨2 + l.val / 64, by omega⟩ : Fin 4) s) := by
  unfold V
  after_reads_simp
  pointwise
theorem h48 (c : Dev nD) (k : Fin 256) (q : Fin 1024) :
    (V m c main_v48 : FVec Ideal S256x1024 .bf16) (ix2 k q) = (m ((c.tc : Thread nD τ).loc main_arg11) : FVec Ideal S256x1024 .f32) (ix2 k q) := by
  unfold V
  after_reads_simp
  pointwise
theorem h49 (c : Dev nD) (k : Fin 512) (q : Fin 1024) :
    (V m c main_v49 : FVec Ideal S512x1024 .bf16) (ix2 k q) = (m ((c.tc : Thread nD τ).loc main_arg12) : FVec Ideal S512x1024 .f32) (ix2 k q) := by
  unfold V
  after_reads_simp
  pointwise
theorem h81 (c : Dev nD) (k : Fin 1024) (q : Fin 1024) :
    (V m c main_v81 : FVec Ideal S1024x1024 .bf16) (ix2 k q) = (m ((c.tc : Thread nD τ).loc main_arg14) : FVec Ideal S1024x1024 .f32) (ix2 k q) := by
  unfold V
  after_reads_simp
  pointwise
theorem h82 (c : Dev nD) (q : Fin 1024) :
    (V m c main_v82 : FVec Ideal S1x1024 .f32) (ix2 (0 : Fin 1) q) = (m ((c.tc : Thread nD τ).loc main_arg9) : FVec Ideal S1024 .f32) (ix1 q) := by
  unfold V
  after_reads_simp
  pointwise
theorem h83 (c : Dev nD) (q : Fin 1024) :
    (V m c main_v83 : FVec Ideal S1x1024 .f32) (ix2 (0 : Fin 1) q) = (m ((c.tc : Thread nD τ).loc main_arg10) : FVec Ideal S1024 .f32) (ix1 q) := by
  unfold V
  after_reads_simp
  pointwise
end Cert.Merge
end
-- ==== Proof.MergeRows.lean ====
module
public import proofs.«01_k».proof.Proof.MergeRun
public import proofs.«01_k».proof.Proof.SwaHost
public import Idealize.ShloMosaic.Lib.Pointwise
public import Idealize.ShloMosaic.Lib.StableHlo.ReadAt
public import Idealize.ShloMosaic.Lib.Tactic.WordOmega
@[expose] public section
set_option maxRecDepth 16384
noncomputable section
open Idealize.ShloMosaic Idealize.ShloMosaic.TcCoe Idealize.SL.Sem
namespace Cert.Merge
open Cert.Kernel4Ideal Cert.Kernel4Ideal.Gen
variable (m : (ℓ : Loc nD τ sig) → Buf (Elt Ideal) ℓ)

theorem gather_at {α : Type} {w : Nat} (x : S512x1024.Idx → α) (idx : IVec S512x1 w) (r : Fin 512) (j : Fin 1024) (q : Fin 512)
    (hq : (idx (ix2 r (0 : Fin 1))).toInt.toNat = q.val) :
    Host.gather gather_S512x1024_S512x1_S512x1024_1_0_n_n_0_1_11024 x idx (ix2 r j) = x (ix2 q j) := by
  unfold Host.gather
  congr 1
  funext a
  apply Fin.ext
  match a with
  | ⟨0, _⟩ =>
    have : GatherDims.siIdx gather_S512x1024_S512x1_S512x1024_1_0_n_n_0_1_11024 (ix2 r j) ⟨0, by decide⟩ = ix2 r (0 : Fin 1) := by
      funext b; apply Fin.ext
      match b with
      | ⟨0, _⟩ => rfl
      | ⟨1, _⟩ => rfl
    show min (idx (GatherDims.siIdx gather_S512x1024_S512x1_S512x1024_1_0_n_n_0_1_11024 (ix2 r j) ⟨0, _⟩)).toInt.toNat (512 - 1) + 0 + 0 = q.val
    rw [this, hq]; omega
  | ⟨1, _⟩ =>
    show 0 + 0 + j.val = j.val
    omega

theorem add_word (a b : ℕ) : IntOp.addi (BitVec.ofNat 32 a) (BitVec.ofNat 32 b) = BitVec.ofNat 32 (a + b) := by
  show BitVec.ofNat 32 a + BitVec.ofNat 32 b = _
  rw [BitVec.ofNat_add]

/-- The word of a small number is not negative, so the wrap of negative indices keeps it. -/
theorem wrap_small (q : ℕ) (hq : q < 512) (w : BitVec 32) (hw : w = BitVec.ofNat 32 q) :
    (Scalar.select (IntOp.cmpi .slt w 0#32) (IntOp.addi w 512#32) w).toInt.toNat = q := by
  subst hw
  interval_cases q <;> rfl

theorem tbl0 (c : Dev nD) (i : Fin 64) :
    (StableHlo.upto hostOps0 (fun b => m (c, b)) 79 (Proc.tc.devRef main_v50) : IVec S64 32) (ix1 i) = BitVec.ofNat 32 (0 + i.val) := by
  after_reads_at
theorem tbl1 (c : Dev nD) (i : Fin 64) :
    (StableHlo.upto hostOps0 (fun b => m (c, b)) 79 (Proc.tc.devRef main_v53) : IVec S64 32) (ix1 i) = BitVec.ofNat 32 (256 + i.val) := by
  after_reads_at
  exact add_word _ _
theorem tbl2 (c : Dev nD) (i : Fin 64) :
    (StableHlo.upto hostOps0 (fun b => m (c, b)) 79 (Proc.tc.devRef main_v56) : IVec S64 32) (ix1 i) = BitVec.ofNat 32 (64 + i.val) := by
  after_reads_at
  exact add_word _ _
theorem tbl3 (c : Dev nD) (i : Fin 64) :
    (StableHlo.upto hostOps0 (fun b => m (c, b)) 79 (Proc.tc.devRef main_v59) : IVec S64 32) (ix1 i) = BitVec.ofNat 32 (320 + i.val) := by
  after_reads_at
  exact add_word _ _
theorem tbl4 (c : Dev nD) (i : Fin 64) :
    (StableHlo.upto hostOps0 (fun b => m (c, b)) 79 (Proc.tc.devRef main_v62) : IVec S64 32) (ix1 i) = BitVec.ofNat 32 (128 + i.val) := by
  after_reads_at
  exact add_word _ _
theorem tbl5 (c : Dev nD) (i : Fin 64) :
    (StableHlo.upto hostOps0 (fun b => m (c, b)) 79 (Proc.tc.devRef main_v65) : IVec S64 32) (ix1 i) = BitVec.ofNat 32 (384 + i.val) := by
  after_reads_at
  exact add_word _ _
theorem tbl6 (c : Dev nD) (i : Fin 64) :
    (StableHlo.upto hostOps0 (fun b => m (c, b)) 79 (Proc.tc.devRef main_v68) : IVec S64 32) (ix1 i) = BitVec.ofNat 32 (192 + i.val) := by
  after_reads_at
  exact add_word _ _
theorem tbl7 (c : Dev nD) (i : Fin 64) :
    (StableHlo.upto hostOps0 (fun b => m (c, b)) 79 (Proc.tc.devRef main_v71) : IVec S64 32) (ix1 i) = BitVec.ofNat 32 (448 + i.val) := by
  after_reads_at
  exact add_word _ _

/-- Row `k` of the windowed branch's weights, as the launch takes them. -/
theorem h80 (c : Dev nD) (k : Fin 512) (q : Fin 1024) :
    (V m c main_v80 : FVec Ideal S512x1024 .bf16) (ix2 k q)
      = (m ((c.tc : Thread nD τ).loc main_arg13) : FVec Ideal S512x1024 .f32) (ix2 (⟨(k.val % 128 / 64 * 4 + k.val / 128) * 64 + k.val % 64, by omega⟩ : Fin 512) q) := by
  unfold V
  after_reads_simp
  have hj : (k.val % 128 / 64 * 4 + k.val / 128) * 64 + k.val % 64 < 512 := by omega
  refine Eq.trans (gather_at _ _ _ _ ⟨_, hj⟩ ?_) rfl
  dsimp only [Matrix.cons_val]
  clean_types
  pointwise
  refine wrap_small _ hj _ ?_
  exact Cert.Swa.dite_eq_of (fun h => (tbl0 m c _).trans (congrArg (BitVec.ofNat 32) (by dsimp only; omega))) fun h0 =>
    Cert.Swa.dite_eq_of (fun h => (tbl1 m c _).trans (congrArg (BitVec.ofNat 32) (by dsimp only; omega))) fun h1 =>
    Cert.Swa.dite_eq_of (fun h => (tbl2 m c _).trans (congrArg (BitVec.ofNat 32) (by dsimp only; omega))) fun h2 =>
    Cert.Swa.dite_eq_of (fun h => (tbl3 m c _).trans (congrArg (BitVec.ofNat 32) (by dsimp only; omega))) fun h3 =>
    Cert.Swa.dite_eq_of (fun h => (tbl4 m c _).trans (congrArg (BitVec.ofNat 32) (by dsimp only; omega))) fun h4 =>
    Cert.Swa.dite_eq_of (fun h => (tbl5 m c _).trans (congrArg (BitVec.ofNat 32) (by dsimp only; omega))) fun h5 =>
    Cert.Swa.dite_eq_of (fun h => (tbl6 m c _).trans (congrArg (BitVec.ofNat 32) (by dsimp only; omega))) fun h6 =>
    (tbl7 m c ⟨_, _⟩).trans (congrArg (BitVec.ofNat 32) (by dsimp only; omega))
end Cert.Merge
end
-- ==== Proof.MergeBlk.lean ====
module
public import proofs.«01_k».proof.Proof.MergeHost
public import proofs.«01_k».proof.Proof.MergeRows
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.Merge
open Cert.Kernel4Ideal Cert.Kernel4Ideal.Gen
variable (m : (ℓ : Loc nD τ sig) → Buf (Elt Ideal) ℓ)

/-- The blocks a point takes: the batch is `t / 4`, the run of 512 rows `t % 4`. -/
theorem idx : ∀ t : Fin cfg0.N, win0_0.index t = ![t.val / 4, t.val % 4, 0]
    ∧ win0_1.index t = ![t.val / 4, t.val % 4, 0]
    ∧ win0_2.index t = ![t.val / 4, t.val % 4, 0]
    ∧ win0_3.index t = ![t.val / 4, t.val % 4, 0]
    ∧ win0_4.index t = ![t.val / 4, t.val % 4, 0]
    ∧ win0_5.index t = ![t.val / 4, t.val % 4, 0]
    ∧ win0_6.index t = ![t.val / 4, t.val % 4, 0]
    ∧ win0_7.index t = ![t.val / 4, t.val % 4, 0]
    ∧ win0_8.index t = ![t.val / 4, t.val % 4, 0]
    ∧ win0_9.index t = ![t.val / 4, t.val % 4, 0]
    ∧ win0_10.index t = ![t.val / 4, t.val % 4, 0]
    ∧ win0_11.index t = ![t.val / 4, t.val % 4, 0] :=
  (by decide +kernel : ∀ t : Fin grid0.N, _)
theorem idx' : ∀ t : Fin cfg0.N, win0_12.index t = ![t.val / 4, t.val % 4, 0]
    ∧ win0_13.index t = ![t.val / 4, t.val % 4, 0]
    ∧ win0_14.index t = ![t.val / 4, t.val % 4, 0]
    ∧ win0_15.index t = ![t.val / 4, t.val % 4, 0]
    ∧ win0_16.index t = ![t.val / 4, 0, 0]
    ∧ win0_17.index t = ![t.val / 4, 0, 0]
    ∧ win0_18.index t = ![t.val / 4, 0, 0]
    ∧ win0_19.index t = ![0, 0]
    ∧ win0_20.index t = ![0, 0]
    ∧ win0_21.index t = ![0, 0]
    ∧ win0_22.index t = ![0, 0]
    ∧ win0_23.index t = ![0, 0]
    ∧ win0_24.index t = ![0, 0] :=
  (by decide +kernel : ∀ t : Fin grid0.N, _)
theorem idxo : ∀ t : Fin cfg0.N, win0_25.index t = ![t.val / 4, t.val % 4, 0]
    ∧ win0_26.index t = ![0, t.val]
    ∧ win0_27.index t = ![t.val / 4, t.val % 4, 0, 0] :=
  (by decide +kernel : ∀ t : Fin grid0.N, _)

section Rows
variable (c : Dev nD) (t : Fin cfg0.N) (r : Fin 512) (b : Fin 16) (s : Fin 2048) (hb : b.val = t.val / 4) (hs : s.val = 512 * (t.val % 4) + r.val)
include hb hs
theorem b0 (l : Fin 128) : (iblk m c 0 t : FVec Ideal S1x512x128 .f32) (ix3 (0 : Fin 1) r l)
    = (m ((c.tc : Thread nD τ).loc main_arg0) : FVec Ideal S3x16x4x2048x64 .f32) (ix5 (0 : Fin 3) b (⟨l.val / 64, by omega⟩ : Fin 4) s (⟨l.val % 64, by omega⟩ : Fin 64)) := by
  refine Eq.trans ?_ (h17 m c b s l)
  blk_point [iblk, idx t]
theorem b1 (l : Fin 128) : (iblk m c 1 t : FVec Ideal S1x512x128 .f32) (ix3 (0 : Fin 1) r l)
    = (m ((c.tc : Thread nD τ).loc main_arg0) : FVec Ideal S3x16x4x2048x64 .f32) (ix5 (0 : Fin 3) b (⟨2 + l.val / 64, by omega⟩ : Fin 4) s (⟨l.val % 64, by omega⟩ : Fin 64)) := by
  refine Eq.trans ?_ (h19 m c b s l)
  blk_point [iblk, idx t]
theorem b2 (l : Fin 128) : (iblk m c 2 t : FVec Ideal S1x512x128 .f32) (ix3 (0 : Fin 1) r l)
    = (m ((c.tc : Thread nD τ).loc main_arg1) : FVec Ideal S3x16x4x2048 .f32) (ix4 (0 : Fin 3) b (⟨l.val / 64, by omega⟩ : Fin 4) s) := by
  refine Eq.trans ?_ (h21 m c b s l)
  blk_point [iblk, idx t]
theorem b3 (l : Fin 128) : (iblk m c 3 t : FVec Ideal S1x512x128 .f32) (ix3 (0 : Fin 1) r l)
    = (m ((c.tc : Thread nD τ).loc main_arg1) : FVec Ideal S3x16x4x2048 .f32) (ix4 (0 : Fin 3) b (⟨2 + l.val / 64, by omega⟩ : Fin 4) s) := by
  refine Eq.trans ?_ (h23 m c b s l)
  blk_point [iblk, idx t]
theorem b4 (l : Fin 128) : (iblk m c 4 t : FVec Ideal S1x512x128 .f32) (ix3 (0 : Fin 1) r l)
    = (m ((c.tc : Thread nD τ).loc main_arg0) : FVec Ideal S3x16x4x2048x64 .f32) (ix5 (1 : Fin 3) b (⟨l.val / 64, by omega⟩ : Fin 4) s (⟨l.val % 64, by omega⟩ : Fin 64)) := by
  refine Eq.trans ?_ (h29 m c b s l)
  blk_point [iblk, idx t]
theorem b5 (l : Fin 128) : (iblk m c 5 t : FVec Ideal S1x512x128 .f32) (ix3 (0 : Fin 1) r l)
    = (m ((c.tc : Thread nD τ).loc main_arg0) : FVec Ideal S3x16x4x2048x64 .f32) (ix5 (1 : Fin 3) b (⟨2 + l.val / 64, by omega⟩ : Fin 4) s (⟨l.val % 64, by omega⟩ : Fin 64)) := by
  refine Eq.trans ?_ (h31 m c b s l)
  blk_point [iblk, idx t]
theorem b6 (l : Fin 128) : (iblk m c 6 t : FVec Ideal S1x512x128 .f32) (ix3 (0 : Fin 1) r l)
    = (m ((c.tc : Thread nD τ).loc main_arg1) : FVec Ideal S3x16x4x2048 .f32) (ix4 (1 : Fin 3) b (⟨l.val / 64, by omega⟩ : Fin 4) s) := by
  refine Eq.trans ?_ (h33 m c b s l)
  blk_point [iblk, idx t]
theorem b7 (l : Fin 128) : (iblk m c 7 t : FVec Ideal S1x512x128 .f32) (ix3 (0 : Fin 1) r l)
    = (m ((c.tc : Thread nD τ).loc main_arg1) : FVec Ideal S3x16x4x2048 .f32) (ix4 (1 : Fin 3) b (⟨2 + l.val / 64, by omega⟩ : Fin 4) s) := by
  refine Eq.trans ?_ (h35 m c b s l)
  blk_point [iblk, idx t]
theorem b8 (l : Fin 128) : (iblk m c 8 t : FVec Ideal S1x512x128 .f32) (ix3 (0 : Fin 1) r l)
    = (m ((c.tc : Thread nD τ).loc main_arg0) : FVec Ideal S3x16x4x2048x64 .f32) (ix5 (2 : Fin 3) b (⟨l.val / 64, by omega⟩ : Fin 4) s (⟨l.val % 64, by omega⟩ : Fin 64)) := by
  refine Eq.trans ?_ (h41 m c b s l)
  blk_point [iblk, idx t]
theorem b9 (l : Fin 128) : (iblk m c 9 t : FVec Ideal S1x512x128 .f32) (ix3 (0 : Fin 1) r l)
    = (m ((c.tc : Thread nD τ).loc main_arg0) : FVec Ideal S3x16x4x2048x64 .f32) (ix5 (2 : Fin 3) b (⟨2 + l.val / 64, by omega⟩ : Fin 4) s (⟨l.val % 64, by omega⟩ : Fin 64)) := by
  refine Eq.trans ?_ (h43 m c b s l)
  blk_point [iblk, idx t]
theorem b10 (l : Fin 128) : (iblk m c 10 t : FVec Ideal S1x512x128 .f32) (ix3 (0 : Fin 1) r l)
    = (m ((c.tc : Thread nD τ).loc main_arg1) : FVec Ideal S3x16x4x2048 .f32) (ix4 (2 : Fin 3) b (⟨l.val / 64, by omega⟩ : Fin 4) s) := by
  refine Eq.trans ?_ (h45 m c b s l)
  blk_point [iblk, idx t]
theorem b11 (l : Fin 128) : (iblk m c 11 t : FVec Ideal S1x512x128 .f32) (ix3 (0 : Fin 1) r l)
    = (m ((c.tc : Thread nD τ).loc main_arg1) : FVec Ideal S3x16x4x2048 .f32) (ix4 (2 : Fin 3) b (⟨2 + l.val / 64, by omega⟩ : Fin 4) s) := by
  refine Eq.trans ?_ (h47 m c b s l)
  blk_point [iblk, idx t]
theorem b12 (k : Fin 512) : (iblk m c 12 t : FVec Ideal S1x512x512 .bf16) (ix3 (0 : Fin 1) r k) = (m ((c.tc : Thread nD τ).loc main_arg2) : FVec Ideal S16x2048x512 .bf16) (ix3 b s k) := by
  blk_point [iblk, idx' t]
theorem b13 (k : Fin 512) : (iblk m c 13 t : FVec Ideal S1x512x512 .bf16) (ix3 (0 : Fin 1) r k) = (m ((c.tc : Thread nD τ).loc main_arg3) : FVec Ideal S16x2048x512 .bf16) (ix3 b s k) := by
  blk_point [iblk, idx' t]
theorem b14_0 (q : Fin 1024) : View.ld (Val := Elt Ideal) (e' := .bf16) (iblk m c 14 t) r0_4 (ix3 (0 : Fin 1) r q)
    = (m ((c.tc : Thread nD τ).loc main_arg4) : FVec Ideal S16x2048x6144 .bf16) (ix3 b s (⟨q.val, by omega⟩ : Fin 6144)) := by
  rw [View.ld_unit]
  blk_point [iblk, idx' t]
theorem b14_1 (q : Fin 1024) : View.ld (Val := Elt Ideal) (e' := .bf16) (iblk m c 14 t) r0_5 (ix3 (0 : Fin 1) r q)
    = (m ((c.tc : Thread nD τ).loc main_arg4) : FVec Ideal S16x2048x6144 .bf16) (ix3 b s (⟨1024 + q.val, by omega⟩ : Fin 6144)) := by
  rw [View.ld_unit]
  blk_point [iblk, idx' t]
theorem b14_2 (q : Fin 1024) : View.ld (Val := Elt Ideal) (e' := .bf16) (iblk m c 14 t) r0_6 (ix3 (0 : Fin 1) r q)
    = (m ((c.tc : Thread nD τ).loc main_arg4) : FVec Ideal S16x2048x6144 .bf16) (ix3 b s (⟨2048 + q.val, by omega⟩ : Fin 6144)) := by
  rw [View.ld_unit]
  blk_point [iblk, idx' t]
theorem b15 (k : Fin 1024) : (iblk m c 15 t : FVec Ideal S1x512x1024 .f32) (ix3 (0 : Fin 1) r k) = (m ((c.tc : Thread nD τ).loc main_arg5) : FVec Ideal S16x2048x1024 .f32) (ix3 b s k) := by
  blk_point [iblk, idx' t]
end Rows

section Whole
variable (c : Dev nD) (t : Fin cfg0.N)
theorem b16 (b : Fin 16) (hb : b.val = t.val / 4) (k : Fin 1024) : (iblk m c 16 t : FVec Ideal S1x1x1024 .f32) (ix3 (0 : Fin 1) (0 : Fin 1) k) = (m ((c.tc : Thread nD τ).loc main_arg6) : FVec Ideal S16x1x1024 .f32) (ix3 b (0 : Fin 1) k) := by
  blk_point [iblk, idx' t]
theorem b17 (b : Fin 16) (hb : b.val = t.val / 4) (k : Fin 1024) : (iblk m c 17 t : FVec Ideal S1x1x1024 .f32) (ix3 (0 : Fin 1) (0 : Fin 1) k) = (m ((c.tc : Thread nD τ).loc main_arg7) : FVec Ideal S16x1x1024 .f32) (ix3 b (0 : Fin 1) k) := by
  blk_point [iblk, idx' t]
theorem b18 (b : Fin 16) (hb : b.val = t.val / 4) (k : Fin 1024) : (iblk m c 18 t : FVec Ideal S1x1x1024 .f32) (ix3 (0 : Fin 1) (0 : Fin 1) k) = (m ((c.tc : Thread nD τ).loc main_arg8) : FVec Ideal S16x1x1024 .f32) (ix3 b (0 : Fin 1) k) := by
  blk_point [iblk, idx' t]
theorem b19 (k : Fin 1024) : (iblk m c 19 t : FVec Ideal S1x1024 .f32) (ix2 (0 : Fin 1) k) = (m ((c.tc : Thread nD τ).loc main_arg9) : FVec Ideal S1024 .f32) (ix1 k) := by
  refine Eq.trans ?_ (h82 m c k)
  blk_point [iblk, idx' t]
theorem b20 (k : Fin 1024) : (iblk m c 20 t : FVec Ideal S1x1024 .f32) (ix2 (0 : Fin 1) k) = (m ((c.tc : Thread nD τ).loc main_arg10) : FVec Ideal S1024 .f32) (ix1 k) := by
  refine Eq.trans ?_ (h83 m c k)
  blk_point [iblk, idx' t]
theorem b21 (k : Fin 256) (q : Fin 1024) : (iblk m c 21 t : FVec Ideal S256x1024 .bf16) (ix2 k q) = (m ((c.tc : Thread nD τ).loc main_arg11) : FVec Ideal S256x1024 .f32) (ix2 k q) := by
  refine Eq.trans ?_ (h48 m c k q)
  blk_point [iblk, idx' t]
theorem b22 (k : Fin 512) (q : Fin 1024) : (iblk m c 22 t : FVec Ideal S512x1024 .bf16) (ix2 k q) = (m ((c.tc : Thread nD τ).loc main_arg12) : FVec Ideal S512x1024 .f32) (ix2 k q) := by
  refine Eq.trans ?_ (h49 m c k q)
  blk_point [iblk, idx' t]
theorem b24 (k : Fin 1024) (q : Fin 1024) : (iblk m c 24 t : FVec Ideal S1024x1024 .bf16) (ix2 k q) = (m ((c.tc : Thread nD τ).loc main_arg14) : FVec Ideal S1024x1024 .f32) (ix2 k q) := by
  refine Eq.trans ?_ (h81 m c k q)
  blk_point [iblk, idx' t]
theorem b23 (k : Fin 512) (q : Fin 1024) : (iblk m c 23 t : FVec Ideal S512x1024 .bf16) (ix2 k q)
    = (m ((c.tc : Thread nD τ).loc main_arg13) : FVec Ideal S512x1024 .f32) (ix2 (⟨(k.val % 128 / 64 * 4 + k.val / 128) * 64 + k.val % 64, by omega⟩ : Fin 512) q) := by
  refine Eq.trans ?_ (h80 m c k q)
  blk_point [iblk, idx' t]
end Whole
end Cert.Merge
end
-- ==== Proof.MergeB.lean ====
module
public import proofs.«01_k».proof.Proof.MergeRef
public import proofs.«01_k».proof.Proof.MergeBlk
@[expose] public section
set_option maxRecDepth 16384
noncomputable section
open Idealize.ShloMosaic Idealize.ShloMosaic.TcCoe Idealize.SL.Sem
namespace Cert.Merge
open Cert.Kernel4Ideal Cert.Kernel4Ideal.Gen
variable (m : (ℓ : Loc nD τ sig) → Buf (Elt Ideal) ℓ)

/-- The row of the windowed branch's weights at place `k` of the kernel's order. -/
def rowAt (k : Fin 512) : Fin 512 := ⟨(k.val % 128 / 64 * 4 + k.val / 128) * 64 + k.val % 64, by omega⟩
theorem place_rowAt : ∀ k : Fin 512, place (rowAt k) = k := by decide +kernel
theorem rowAt_place : ∀ k : Fin 512, rowAt (place k) = k := by decide +kernel
/-- The kernel's order of the windowed branch's rows, and back. -/
def order : Fin 512 ≃ Fin 512 := ⟨rowAt, place, place_rowAt, rowAt_place⟩

/-- The windowed branch's product does not depend on the order of its rows. -/
theorem branch_rows (x3 : FVec Ideal S16x2048x512 .bf16) (x13 : FVec Ideal S512x1024 .f32) (b : Fin 16) (s : Fin 2048) (q : Fin 1024) :
    ∑ k : Fin 512, x3 (ix3 b s k) * x13 (ix2 (rowAt k) q) = ∑ k : Fin 512, x3 (ix3 b s (place k)) * x13 (ix2 k q) :=
  Fintype.sum_equiv (M := EReal) order _ _ fun k => congrArg (fun z => x3 (ix3 b s z) * x13 (ix2 (rowAt k) q)) (place_rowAt k).symm

/-- A column of the dilated branch, from its head and channel. -/
theorem ya_of (x0 : FVec Ideal S3x16x4x2048x64 .f32) (x1 : FVec Ideal S3x16x4x2048 .f32) (b : Fin 16) (s : Fin 2048) (k : Fin 256) (q : Fin 4) (d : Fin 64)
    (hp : Cert.Swa.IsR (MX (fun g => x1 (ix4 g b q s)))) (hq : q.val = k.val / 64) (hd : d.val = k.val % 64) :
    SMK (x1 (ix4 (0 : Fin 3) b q s)) (x1 (ix4 (1 : Fin 3) b q s)) (x1 (ix4 (2 : Fin 3) b q s)) (x0 (ix5 (0 : Fin 3) b q s d)) (x0 (ix5 (1 : Fin 3) b q s d)) (x0 (ix5 (2 : Fin 3) b q s d)) = YA x0 x1 b s k := by
  have eq : (⟨k.val / 64, by omega⟩ : Fin 4) = q := Fin.ext hq.symm
  have ed : (⟨k.val % 64, by omega⟩ : Fin 64) = d := Fin.ext hd.symm
  unfold YA
  rw [eq, ed]
  exact smk_eq (fun g => x1 (ix4 g b q s)) (fun g => x0 (ix5 g b q s d)) hp

/-- The summary of the magnitudes of a run of 512 rows. -/
def UM (u : Fin 16 → Fin 2048 → Fin 1024 → EReal) (b : Fin 16) (i : Fin 4) (l : Fin 128) : EReal :=
  UMX (fun r j => u b (⟨512 * i.val + r.val, by omega⟩ : Fin 2048) j) l

/-- The blocks' whole loads. -/
theorem whole0 (x : FVec Ideal S1x512x128 .f32) : View.ld (Val := Elt Ideal) (e' := .f32) x r0_0 = x := View.ld_unit_lit _ _ (by decide)
theorem whole1 (x : FVec Ideal S256x1024 .bf16) : View.ld (Val := Elt Ideal) (e' := .bf16) x r0_1 = x := View.ld_unit_lit _ _ (by decide)
theorem whole2 (x : FVec Ideal S1x512x512 .bf16) : View.ld (Val := Elt Ideal) (e' := .bf16) x r0_2 = x := View.ld_unit_lit _ _ (by decide)
theorem whole3 (x : FVec Ideal S512x1024 .bf16) : View.ld (Val := Elt Ideal) (e' := .bf16) x r0_3 = x := View.ld_unit_lit _ _ (by decide)
theorem whole7 (x : FVec Ideal S1024x1024 .bf16) : View.ld (Val := Elt Ideal) (e' := .bf16) x r0_7 = x := View.ld_unit_lit _ _ (by decide)
theorem whole8 (x : FVec Ideal S1x512x1024 .f32) : View.ld (Val := Elt Ideal) (e' := .f32) x r0_8 = x := View.ld_unit_lit _ _ (by decide)
theorem whole9 (x : FVec Ideal S1x1x1024 .f32) : View.ld (Val := Elt Ideal) (e' := .f32) x r0_9 = x := View.ld_unit_lit _ _ (by decide)
theorem whole10 (x : FVec Ideal S1x1024 .f32) : View.ld (Val := Elt Ideal) (e' := .f32) x r0_10 = x := View.ld_unit_lit _ _ (by decide)

section Point
variable (c : Dev nD) (t : Fin cfg0.N) (r : Fin 512) (b : Fin 16) (s : Fin 2048) (hb : b.val = t.val / 4) (hs : s.val = 512 * (t.val % 4) + r.val)
  (hp : ∀ q : Fin 4, Cert.Swa.IsR (MX (fun g => (m ((c.tc : Thread nD τ).loc main_arg1) : FVec Ideal S3x16x4x2048 .f32) (ix4 g b q s))))
include hb hs hp

/-- The merged rows against the output weights, at a point. -/
theorem merged (j : Fin 1024) : k0_pay14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (ix2 r j)
    = ∑ q : Fin 1024, GATED (YA (m ((c.tc : Thread nD τ).loc main_arg0)) (m ((c.tc : Thread nD τ).loc main_arg1)) b s) (fun k => (m ((c.tc : Thread nD τ).loc main_arg2) : FVec Ideal S16x2048x512 .bf16) (ix3 b s k)) (fun k => (m ((c.tc : Thread nD τ).loc main_arg3) : FVec Ideal S16x2048x512 .bf16) (ix3 b s (place k)))
      (fun q => (m ((c.tc : Thread nD τ).loc main_arg4) : FVec Ideal S16x2048x6144 .bf16) (ix3 b s (⟨q.val, by omega⟩ : Fin 6144))) (fun q => (m ((c.tc : Thread nD τ).loc main_arg4) : FVec Ideal S16x2048x6144 .bf16) (ix3 b s (⟨1024 + q.val, by omega⟩ : Fin 6144))) (fun q => (m ((c.tc : Thread nD τ).loc main_arg4) : FVec Ideal S16x2048x6144 .bf16) (ix3 b s (⟨2048 + q.val, by omega⟩ : Fin 6144)))
      (fun k q => (m ((c.tc : Thread nD τ).loc main_arg11) : FVec Ideal S256x1024 .f32) (ix2 k q)) (fun k q => (m ((c.tc : Thread nD τ).loc main_arg12) : FVec Ideal S512x1024 .f32) (ix2 k q)) (fun k q => (m ((c.tc : Thread nD τ).loc main_arg13) : FVec Ideal S512x1024 .f32) (ix2 k q)) q * (m ((c.tc : Thread nD τ).loc main_arg14) : FVec Ideal S1024x1024 .f32) (ix2 q j) := by
  unfold k0_pay14
  rw [whole0, whole0, whole0, whole0, whole0, whole0, whole0, whole0, whole0, whole0, whole0, whole0, whole1, whole2, whole2, whole3, whole3, whole7]
  refine (pay8_at _ _ _ _ _ _ _ _ _ r j (YA (m ((c.tc : Thread nD τ).loc main_arg0)) (m ((c.tc : Thread nD τ).loc main_arg1)) b s) (fun k q => (m ((c.tc : Thread nD τ).loc main_arg11) : FVec Ideal S256x1024 .f32) (ix2 k q)) fun j => ?_).trans ?_
  · refine (pay6_at _ _ _ _ _ _ _ _ r j (YA (m ((c.tc : Thread nD τ).loc main_arg0)) (m ((c.tc : Thread nD τ).loc main_arg1)) b s) ?_ ?_).trans ?_
    · intro l k hk
      rw [pay4_at, b2 m c t r b s hb hs, b6 m c t r b s hb hs, b10 m c t r b s hb hs, b0 m c t r b s hb hs, b4 m c t r b s hb hs, b8 m c t r b s hb hs]
      exact ya_of _ _ b s k _ _ (hp _) (by dsimp only; omega) (by dsimp only; omega)
    · intro l k hk
      rw [pay5_at, b3 m c t r b s hb hs, b7 m c t r b s hb hs, b11 m c t r b s hb hs, b1 m c t r b s hb hs, b5 m c t r b s hb hs, b9 m c t r b s hb hs]
      exact ya_of _ _ b s k _ _ (hp _) (by dsimp only; omega) (by dsimp only; omega)
    · exact Finset.sum_congr (M := EReal) rfl fun k _ => congrArg (YA (m ((c.tc : Thread nD τ).loc main_arg0)) (m ((c.tc : Thread nD τ).loc main_arg1)) b s k * ·) (b21 m c t k j)
  · refine Finset.sum_congr (M := EReal) rfl fun q _ => congrArg₂ (· * ·) ?_ (b24 m c t q j)
    unfold GATED
    simp only [pay7_at, b12 m c t r b s hb hs, b13 m c t r b s hb hs, b14_0 m c t r b s hb hs, b14_1 m c t r b s hb hs, b14_2 m c t r b s hb hs, b22 m c t, b23 m c t]
    refine congrArg₂ (· + ·) rfl (congrArg₂ (· * ·) rfl ?_)
    exact branch_rows _ _ b s q

/-- The layer norm's rows, at a point. -/
theorem normed (j : Fin 1024) : k0_pay11 (F := Ideal) (k0_pay14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)) (k0_pay15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)) (k0_pay16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)) (View.ld (Val := Elt Ideal) (e' := .f32) (iblk m c 19 t) r0_10) (View.ld (Val := Elt Ideal) (e' := .f32) (iblk m c 20 t) r0_10) (ix2 r j)
    = XO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) b s j := by
  refine (pay11_at _ _ _ _ _ r j (PN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14)) b s) fun k => ?_).trans ?_
  · rw [merged m c t r b s hb hs hp k]
    unfold k0_pay15 k0_pay16
    rw [whole8, whole9, pay9_at, pay10_at, b15 m c t r b s hb hs, b16 m c t b hb]
    rfl
  · rw [whole10, whole10]
    unfold XO
    simp only [b19 m c t, b20 m c t]

/-- The modulated rows, at a point. -/
theorem modulated (j : Fin 1024) : k0_pay17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (ix2 r j) = UO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) b s j := by
  unfold k0_pay17
  refine (pay13_at _ _ _ _ _ _ _ r j).trans (congrArg₂ (· + ·) (congrArg₂ (· * ·) (normed m c t r b s hb hs hp j) (congrArg (1 + ·) ?_)) ?_)
  · rw [whole9]; exact b17 m c t b hb j
  · rw [whole9]; exact b18 m c t b hb j
end Point

section Final
variable (c : Dev nD) (hp : ∀ (b : Fin 16) (q : Fin 4) (s : Fin 2048), Cert.Swa.IsR (MX (fun g => (m ((c.tc : Thread nD τ).loc main_arg1) : FVec Ideal S3x16x4x2048 .f32) (ix4 g b q s))))
include hp

set_option maxHeartbeats 1000000 in
theorem out25 (t : Fin cfg0.N) (y : S1x512x1024.Idx) (b : Fin 16) (s : Fin 2048) (j : Fin 1024) (hb : b.val = t.val / 4) (hs : s.val = 512 * (t.val % 4) + (y 1).val) (hj : j.val = (y 2).val) :
    out0_25 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) y = XO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) b s j := by
  obtain ⟨a, r, d, rfl⟩ : ∃ (a : Fin 1) (r : Fin 512) (d : Fin 1024), y = ix3 a r d := ⟨y 0, y 1, y 2, by funext a; match a with | ⟨0, _⟩ => rfl | ⟨1, _⟩ => rfl | ⟨2, _⟩ => rfl⟩
  obtain rfl : j = d := Fin.ext hj
  unfold out0_25
  rw [View.canon_cons_unit_lit _ _ _ (by decide), pay12_at]
  exact normed m c t r b s hb hs (fun q => hp b q s) j

set_option maxHeartbeats 1000000 in
theorem out26 (t : Fin cfg0.N) (y : S1024x512.Idx) (b : Fin 16) (s : Fin 2048) (j : Fin 1024) (hb : b.val = t.val / 4) (hs : s.val = 512 * (t.val % 4) + (y 1).val) (hj : j.val = (y 0).val) :
    out0_26 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) y = UO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) b s j := by
  obtain ⟨d, r, rfl⟩ : ∃ (d : Fin 1024) (r : Fin 512), y = ix2 d r := ⟨y 0, y 1, by funext a; match a with | ⟨0, _⟩ => rfl | ⟨1, _⟩ => rfl⟩
  obtain rfl : j = d := Fin.ext hj
  unfold out0_26
  rw [View.canon_cons_unit_lit _ _ _ (by decide), pay2_at]
  exact modulated m c t r b s hb hs (fun q => hp b q s) j

set_option maxHeartbeats 1000000 in
theorem out27 (t : Fin cfg0.N) (y : S1x1x8x128.Idx) (b : Fin 16) (i : Fin 4) (l : Fin 128) (hb : b.val = t.val / 4) (hi : i.val = t.val % 4) (hl : l.val = (y 3).val) :
    out0_27 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) y = UM (UO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) b i l := by
  obtain ⟨a, a', h, d, rfl⟩ : ∃ (a : Fin 1) (a' : Fin 1) (h : Fin 8) (d : Fin 128), y = ix4 a a' h d := ⟨y 0, y 1, y 2, y 3, by funext a; match a with | ⟨0, _⟩ => rfl | ⟨1, _⟩ => rfl | ⟨2, _⟩ => rfl | ⟨3, _⟩ => rfl⟩
  obtain rfl : l = d := Fin.ext hl
  unfold out0_27
  rw [View.canon_cons_unit_lit _ _ _ (by decide), pay3_at]
  unfold UM
  refine congrArg (UMX · l) (funext fun r => funext fun j => ?_)
  exact modulated m c t r b _ hb (by dsimp only; omega) (fun q => hp b q _) j

set_option maxHeartbeats 2000000 in
theorem final25 : (dats m 0 c).arrAt 25 (cfgs 0).N = fun i : S16x2048x1024.Idx => XO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (i 0) (i 1) (i 2) := by
  refine (dats m 0 c).arrAt_eq_of_covers 25 _ (by decide +kernel) fun t _ y => ?_
  blk_simp
  rw [after0_25]
  have e := (idxo t).1
  have e0 : win0_25.index t 0 = t.val / 4 := congrFun e 0
  have e1 : win0_25.index t 1 = t.val % 4 := congrFun e 1
  have e2 : win0_25.index t 2 = 0 := congrFun e 2
  have b0 : (y 0).val < 1 := (y 0).isLt
  refine out25 m c hp t y _ _ _ ?_ ?_ ?_
  · refine Eq.trans (Pipeline.Window.rect_emb_val win0_25 t y 0) ?_
    show win0_25.index t 0 * 1 + (y 0).val = _
    rw [e0]; omega
  · refine Eq.trans (Pipeline.Window.rect_emb_val win0_25 t y 1) ?_
    show win0_25.index t 1 * 512 + (y 1).val = _
    rw [e1]; omega
  · refine Eq.trans (Pipeline.Window.rect_emb_val win0_25 t y 2) ?_
    show win0_25.index t 2 * 1024 + (y 2).val = _
    rw [e2]; omega

set_option maxHeartbeats 2000000 in
theorem final26 : (dats m 0 c).arrAt 26 (cfgs 0).N = fun i : S1024x32768.Idx => UO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
    (⟨(i 1).val / 2048, by have : (i 1).val < 32768 := (i 1).isLt; omega⟩ : Fin 16) (⟨(i 1).val % 2048, by omega⟩ : Fin 2048) (i 0) := by
  refine (dats m 0 c).arrAt_eq_of_covers 26 _ (by decide +kernel) fun t _ y => ?_
  blk_simp
  rw [after0_26]
  have e := (idxo t).2.1
  have e0 : win0_26.index t 0 = 0 := congrFun e 0
  have e1 : win0_26.index t 1 = t.val := congrFun e 1
  have b1 : (y 1).val < 512 := (y 1).isLt
  refine out26 m c hp t y _ _ _ ?_ ?_ ?_
  · show (win0_26.index t 1 * 512 + (y 1).val) / 2048 = _
    rw [e1]; omega
  · show (win0_26.index t 1 * 512 + (y 1).val) % 2048 = _
    rw [e1]; omega
  · refine Eq.trans (Pipeline.Window.rect_emb_val win0_26 t y 0) ?_
    show win0_26.index t 0 * 1024 + (y 0).val = _
    rw [e0]; omega
end Final
end Cert.Merge
end
-- ==== Proof.MergeC.lean ====
module
public import proofs.«01_k».proof.Proof.MergeB
@[expose] public section
set_option maxRecDepth 16384
noncomputable section
open Idealize.ShloMosaic Idealize.ShloMosaic.TcCoe Idealize.SL.Sem
namespace Cert.Merge
open Cert.Kernel4Ideal Cert.Kernel4Ideal.Gen
variable (m : (ℓ : Loc nD τ sig) → Buf (Elt Ideal) ℓ)

section Final
variable (c : Dev nD) (hp : ∀ (b : Fin 16) (q : Fin 4) (s : Fin 2048), Cert.Swa.IsR (MX (fun g => (m ((c.tc : Thread nD τ).loc main_arg1) : FVec Ideal S3x16x4x2048 .f32) (ix4 g b q s))))
include hp

theorem final27 : (dats m 0 c).arrAt 27 (cfgs 0).N = fun i : S16x4x8x128.Idx => UM (UO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) (i 0) (i 1) (i 3) := by
  refine (dats m 0 c).arrAt_eq_of_covers 27 _ (by decide +kernel) fun t _ y => ?_
  blk_simp
  rw [after0_27]
  have e := (idxo t).2.2
  have e0 : win0_27.index t 0 = t.val / 4 := congrFun e 0
  have e1 : win0_27.index t 1 = t.val % 4 := congrFun e 1
  have e3 : win0_27.index t 3 = 0 := congrFun e 3
  have b0 : (y 0).val < 1 := (y 0).isLt
  have b1 : (y 1).val < 1 := (y 1).isLt
  refine out27 m c hp t y _ _ _ ?_ ?_ ?_
  · refine Eq.trans (Pipeline.Window.rect_emb_val win0_27 t y 0) ?_
    show win0_27.index t 0 * 1 + (y 0).val = _
    rw [e0]; omega
  · refine Eq.trans (Pipeline.Window.rect_emb_val win0_27 t y 1) ?_
    show win0_27.index t 1 * 1 + (y 1).val = _
    rw [e1]; omega
  · refine Eq.trans (Pipeline.Window.rect_emb_val win0_27 t y 3) ?_
    show win0_27.index t 3 * 128 + (y 3).val = _
    rw [e3]; omega
end Final
end Cert.Merge
end
-- ==== Proof.MergeBits.lean ====
module
public import proofs.«01_k».proof.Defs
public import proofs.«01_k».proof.Proof.Gen.Kernel4
public import proofs.«01_k».proof.Proof.MergeRun
@[expose] public section
noncomputable section
namespace Cert.Merge
open Idealize.ShloMosaic Idealize.ShloMosaic.TcCoe Idealize.SL.Sem

set_option maxRecDepth 65536 in
set_option maxHeartbeats 4000000 in
/-- The merge's body is the same over bit patterns: its one label runs the same function. -/
theorem bodies : Cert.Kernel4.defs₀ (F := Bits) = Cert.Kernel4Ideal.defs₀ (F := Bits) := by
  unfold Cert.Kernel4.defs₀ Cert.Kernel4Ideal.defs₀
  refine congrArg Defs.onTc ?_
  funext l a
  match l, a with
  | 0, (t, s) => rfl

set_option maxRecDepth 65536 in
set_option maxHeartbeats 4000000 in
theorem tables : Cert.Kernel4.defs (F := Bits) = Cert.Kernel4Ideal.defs (F := Bits) :=
  congrArg (Pipeline.defs (Cert.Kernel4.pcfgs (F := Bits))) bodies

set_option maxRecDepth 65536 in
set_option maxHeartbeats 4000000 in
/-- The merge's run over any values, taken over bit patterns. -/
theorem frame_kernel4 : Cert.quiescent_Kernel4 (hKernel4 := Cert.Kernel4.Gen.facts) := by
  intro m ρ _
  have h := Cert.Merge.frame (F := Bits) m ρ
  rw [tables]
  exact h
end Cert.Merge
end
-- ==== Proof.lean ====
/- The proof of the claims: the frames and the value of the windowed attention, of the input projection, of the dilated groups' input projection and of the merge of the mixers. -/
module

public import proofs.«01_k».proof.Defs
public import proofs.«01_k».proof.Proof.Gen.Kernel
public import proofs.«01_k».proof.Proof.Gen.Kernel2
public import proofs.«01_k».proof.Proof.Gen.Kernel3
public import proofs.«01_k».proof.Proof.Gen.Kernel4
public import proofs.«01_k».proof.Proof.Gen.Kernel.Skeleton
public import proofs.«01_k».proof.Proof.Gen.Kernel2.Skeleton
public import proofs.«01_k».proof.Proof.Gen.Kernel3.Skeleton
public import proofs.«01_k».proof.Proof.Gen.Kernel4.Skeleton
public import proofs.«01_k».proof.Proof.Gen.Kernel.Launch
public import proofs.«01_k».proof.Proof.Gen.Kernel2.Launch
public import proofs.«01_k».proof.Proof.Gen.Kernel3.Launch
public import proofs.«01_k».proof.Proof.Gen.Kernel4.Launch
public import proofs.«01_k».proof.Proof.Gen.Kernel.Points
public import proofs.«01_k».proof.Proof.Gen.Kernel2.Points
public import proofs.«01_k».proof.Proof.Gen.Kernel3.Points
public import proofs.«01_k».proof.Proof.Gen.Kernel4.Points
public import proofs.«01_k».proof.Proof.Gen.Kernel.Frame
public import proofs.«01_k».proof.Proof.Gen.Kernel2.Frame
public import proofs.«01_k».proof.Proof.Gen.Kernel3.Frame
public import proofs.«01_k».proof.Proof.Gen.KernelIdeal
public import proofs.«01_k».proof.Proof.Gen.Kernel2Ideal
public import proofs.«01_k».proof.Proof.Gen.Kernel3Ideal
public import proofs.«01_k».proof.Proof.Gen.Kernel4Ideal
public import proofs.«01_k».proof.Proof.Gen.KernelIdeal.Skeleton
public import proofs.«01_k».proof.Proof.Gen.Kernel2Ideal.Skeleton
public import proofs.«01_k».proof.Proof.Gen.Kernel3Ideal.Skeleton
public import proofs.«01_k».proof.Proof.Gen.Kernel4Ideal.Skeleton
public import proofs.«01_k».proof.Proof.Gen.KernelIdeal.Launch
public import proofs.«01_k».proof.Proof.Gen.Kernel2Ideal.Launch
public import proofs.«01_k».proof.Proof.Gen.Kernel3Ideal.Launch
public import proofs.«01_k».proof.Proof.Gen.Kernel4Ideal.Launch
public import proofs.«01_k».proof.Proof.Gen.KernelIdeal.Points
public import proofs.«01_k».proof.Proof.Gen.Kernel2Ideal.Points
public import proofs.«01_k».proof.Proof.Gen.Kernel3Ideal.Points
public import proofs.«01_k».proof.Proof.Gen.Kernel4Ideal.Points
public import proofs.«01_k».proof.Proof.Gen.KernelIdeal.Frame
public import proofs.«01_k».proof.Proof.Gen.Kernel2Ideal.Frame
public import proofs.«01_k».proof.Proof.Gen.Kernel3Ideal.Frame
public import proofs.«01_k».proof.Proof.Gen.ReferenceIdeal
public import proofs.«01_k».proof.Proof.Gen.Reference2Ideal
public import proofs.«01_k».proof.Proof.Gen.Reference3Ideal
public import proofs.«01_k».proof.Proof.Gen.Reference4Ideal
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.ReferenceIdeal.Read
public import proofs.«01_k».proof.Proof.Gen.Reference2Ideal.Read
public import proofs.«01_k».proof.Proof.Gen.Reference3Ideal.Read
public import proofs.«01_k».proof.Proof.Gen.Reference4Ideal.Read
public import proofs.«01_k».proof.Proof.Gen.Pre_bounded
public import proofs.«01_k».proof.Proof.Gen.Pre_finite_peak
public import proofs.«01_k».proof.Proof.ProjRef
public import proofs.«01_k».proof.Proof.SwaOut
public import proofs.«01_k».proof.Proof.DilRef
public import proofs.«01_k».proof.Proof.MergeC
public import proofs.«01_k».proof.Proof.MergeBits
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The windowed attention's reference runs, keeps its arguments, and declares no semaphore. -/
theorem frame_reference : Cert.quiescent_ReferenceIdeal (hReferenceIdeal := Cert.ReferenceIdeal.Gen.facts) := by
  intro m ρ _
  exact (θ_run Cert.ReferenceIdeal.defs _ _).mono (fun r h => ⟨fun c => (h c).2, Idealize.ShloMosaic.sem_eq_zero_of_no_sems (by decide) r.2⟩)
    (Cert.ReferenceIdeal.Value.run m ρ)

/-- The projection's reference runs, keeps its arguments, and declares no semaphore. -/
theorem frame_reference2 : Cert.quiescent_Reference2Ideal (hReference2Ideal := Cert.Reference2Ideal.Gen.facts) := by
  intro m ρ _
  exact (θ_run Cert.Reference2Ideal.defs _ _).mono (fun r h => ⟨fun c => (h c).2, Idealize.ShloMosaic.sem_eq_zero_of_no_sems (by decide) r.2⟩)
    (Cert.Reference2Ideal.Value.run m ρ)

/-- The dilated groups' projection's reference runs, keeps its arguments, and declares no semaphore. -/
theorem frame_reference3 : Cert.quiescent_Reference3Ideal (hReference3Ideal := Cert.Reference3Ideal.Gen.facts) := by
  intro m ρ _
  exact (θ_run Cert.Reference3Ideal.defs _ _).mono (fun r h => ⟨fun c => (h c).2.2, Idealize.ShloMosaic.sem_eq_zero_of_no_sems (by decide) r.2⟩)
    (Cert.Reference3Ideal.Value.run m ρ)

/-- The input projection and its reference end with equal results. -/
theorem projection : Cert.algebraic_Kernel2Ideal_Reference2Ideal (hKernel2Ideal := Cert.Kernel2Ideal.Gen.facts) (hReference2Ideal := Cert.Reference2Ideal.Gen.facts) := by
  pair_intro
  · run_from Cert.Kernel2Ideal.Value.run_blocks m g
  · run_from Cert.Reference2Ideal.Value.run m' g'
    rw [Cert.Reference2Ideal.Read.val_main_v18_eq, (hagree c).1, (hagree c).2.1, (hagree c).2.2.1, (hagree c).2.2.2]
    refine Eq.trans ?_ (Cert.Proj.final m c).symm
    funext i
    refine Eq.trans ?_ (Cert.Proj.ref_eq _ _ _ _ (i 0) (i 1) (i 2))
    refine congrArg _ ?_
    funext a
    match a with
    | ⟨0, _⟩ => rfl
    | ⟨1, _⟩ => rfl
    | ⟨2, _⟩ => rfl

/-- The windowed attention and its reference end with equal results, from projections that are real numbers and sinks that are not plus infinity. -/
theorem attention : Cert.algebraic_KernelIdeal_ReferenceIdeal_pre_bounded (hKernelIdeal := Cert.KernelIdeal.Gen.facts) (hReferenceIdeal := Cert.ReferenceIdeal.Gen.facts) (hPre_bounded := Cert.Pre_bounded.Gen.facts) := by
  pair_intro
  · run_from Cert.KernelIdeal.Value.run_blocks m g
  · run_from Cert.ReferenceIdeal.Value.run m' g'
    rw [Cert.ReferenceIdeal.Read.val_main_v149_eq]
    show Cert.ReferenceIdeal.Read.val_main_v149 (m' (c.tc.loc Cert.ReferenceIdeal.main_arg0)) (m' (c.tc.loc Cert.ReferenceIdeal.main_arg1)) = _
    rw [(hagree c).1, (hagree c).2]
    refine Eq.trans ?_ (Cert.Swa.final m c (hpre c)).symm
    funext i
    refine Eq.trans ?_ (Cert.Swa.ref_eq _ _ (i 0) (i 1) (i 2))
    refine congrArg _ ?_
    funext a
    match a with
    | ⟨0, _⟩ => rfl
    | ⟨1, _⟩ => rfl
    | ⟨2, _⟩ => rfl

/-- The dilated groups' input projection and its reference end with equal results. -/
theorem dilated : Cert.algebraic_Kernel3Ideal_Reference3Ideal (hKernel3Ideal := Cert.Kernel3Ideal.Gen.facts) (hReference3Ideal := Cert.Reference3Ideal.Gen.facts) := by
  pair_intro
  · run_from Cert.Kernel3Ideal.Value.run_blocks m g
  · run_from Cert.Reference3Ideal.Value.run m' g'
    · rw [Cert.Reference3Ideal.Read.val_main_v17_eq, (hagree c).2.2.2]
      refine Eq.trans ?_ (Cert.Dil.final4 m c).symm
      funext i
      refine Eq.trans ?_ (Cert.Dil.ref4 _ _ _ _ (i 0) (i 1) (i 2) (i 3) _ _ rfl rfl)
      refine congrArg _ ?_
      funext a
      match a with
      | ⟨0, _⟩ => rfl
      | ⟨1, _⟩ => rfl
      | ⟨2, _⟩ => rfl
      | ⟨3, _⟩ => rfl
    · rw [Cert.Reference3Ideal.Read.val_main_v24_eq, (hagree c).2.2.2]
      refine Eq.trans ?_ (Cert.Dil.final16 m c).symm
      funext i
      refine Eq.trans ?_ (Cert.Dil.ref16 _ _ _ _ (i 0) (i 1) (i 2) (i 3) _ _ rfl rfl)
      refine congrArg _ ?_
      funext a
      match a with
      | ⟨0, _⟩ => rfl
      | ⟨1, _⟩ => rfl
      | ⟨2, _⟩ => rfl
      | ⟨3, _⟩ => rfl

/-- The merge's ideal program runs, keeps its arguments, and declares no semaphore. -/
theorem frame_kernel4Ideal : Cert.quiescent_Kernel4Ideal (hKernel4Ideal := Cert.Kernel4Ideal.Gen.facts) :=
  fun m ρ _ => Cert.Merge.frame (F := Ideal) m ρ

/-- The merge's reference runs, keeps its arguments, and declares no semaphore. -/
theorem frame_reference4 : Cert.quiescent_Reference4Ideal (hReference4Ideal := Cert.Reference4Ideal.Gen.facts) := by
  intro m ρ _
  exact (θ_run Cert.Reference4Ideal.defs _ _).mono (fun r h => ⟨fun c => (h c).2.2.2, Idealize.ShloMosaic.sem_eq_zero_of_no_sems (by decide) r.2⟩)
    (Cert.Reference4Ideal.Value.run m ρ)

set_option maxRecDepth 16384 in
set_option maxHeartbeats 4000000 in
/-- The merge of the mixers and its reference end with equal results, where each head's and position's largest log-denominator is a real number. -/
theorem merge : Cert.algebraic_Kernel4Ideal_Reference4Ideal_pre_finite_peak (hKernel4Ideal := Cert.Kernel4Ideal.Gen.facts) (hReference4Ideal := Cert.Reference4Ideal.Gen.facts) (hPre_finite_peak := Cert.Pre_finite_peak.Gen.facts) := by
  pair_intro
  · run_from Cert.Merge.run_blocks m g
  · refine Idealize.ShloMosaic.θ_run_mono (Cert.Reference4Ideal.Value.run m' g') ?_
    intro r hr c
    obtain ⟨h0, h1, h2, h3, h4, h5, h6, h7, h8, h9, h10, h11, h12, h13, h14⟩ := hagree c
    have hp := Cert.Merge.peak _ _ _ _ _ _ _ _ _ _ _ _ _ _ _ (hpre c)
    obtain ⟨e0, e1, e2, kept⟩ := hr c
    refine ⟨e0.trans ?_, e1.trans ?_, e2.trans ?_, kept⟩
    · rw [Cert.Reference4Ideal.Read.val_main_v64_eq, h0, h1, h2, h3, h4, h5, h6, h9, h10, h11, h12, h13, h14]
      refine Eq.trans ?_ (Cert.Merge.final25 m c hp).symm
      funext i
      refine Eq.trans ?_ (Cert.Merge.ref_x _ _ _ _ _ _ _ _ _ _ _ _ _ (i 0) (i 1) (i 2))
      refine congrArg _ ?_
      funext a
      match a with
      | ⟨0, _⟩ => rfl
      | ⟨1, _⟩ => rfl
      | ⟨2, _⟩ => rfl
    · rw [Cert.Reference4Ideal.Read.val_main_v73_eq, h0, h1, h2, h3, h4, h5, h6, h7, h8, h9, h10, h11, h12, h13, h14]
      refine Eq.trans ?_ (Cert.Merge.final26 m c hp).symm
      funext i
      refine Eq.trans ?_ (Cert.Merge.ref_u _ _ _ _ _ _ _ _ _ _ _ _ _ _ _ (i 0) (i 1))
      refine congrArg _ ?_
      funext a
      match a with
      | ⟨0, _⟩ => rfl
      | ⟨1, _⟩ => rfl
    · rw [Cert.Reference4Ideal.Read.val_main_v79_eq, h0, h1, h2, h3, h4, h5, h6, h7, h8, h9, h10, h11, h12, h13, h14]
      refine Eq.trans ?_ (Cert.Merge.final27 m c hp).symm
      funext i
      refine Eq.trans ?_ (Cert.Merge.ref_m _ _ _ _ _ _ _ _ _ _ _ _ _ _ _ (i 0) (i 1) (i 2) (i 3))
      refine congrArg _ ?_
      funext a
      match a with
      | ⟨0, _⟩ => rfl
      | ⟨1, _⟩ => rfl
      | ⟨2, _⟩ => rfl
      | ⟨3, _⟩ => rfl

theorem claim : Cert.Claim := by
  exact ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_bounded.Gen.facts, Cert.Pre_finite_peak.Gen.facts,
    fun m ρ _ => Cert.Kernel.Gen.frame m ρ, fun m ρ _ => Cert.KernelIdeal.Gen.frame m ρ, fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    Cert.Merge.frame_kernel4, frame_kernel4Ideal, fun m ρ _ => frame_kernel4Ideal m ρ trivial, frame_reference4, fun m ρ _ => frame_reference4 m ρ trivial,
    trivial, attention, trivial, projection, trivial, dilated, trivial, merge⟩

end Cert.Proof

end
